-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S3x8x64x128 : Shape := ⟨4, ![3, 8, 64, 128]⟩
abbrev S3x7x64x128 : Shape := ⟨4, ![3, 7, 64, 128]⟩
abbrev S3x512x1024 : Shape := ⟨3, ![3, 512, 1024]⟩
abbrev S3x1024x512 : Shape := ⟨3, ![3, 1024, 512]⟩
abbrev S2x3 : Shape := ⟨2, ![2, 3]⟩
abbrev S3x2x7 : Shape := ⟨3, ![3, 2, 7]⟩
abbrev S1x1 : Shape := ⟨2, ![1, 1]⟩
abbrev S_ : Shape := ⟨0, ![]⟩
abbrev S1x512x1024 : Shape := ⟨3, ![1, 512, 1024]⟩
abbrev S1x1024x512 : Shape := ⟨3, ![1, 1024, 512]⟩
abbrev S64x1024 : Shape := ⟨2, ![64, 1024]⟩
abbrev S64x128 : Shape := ⟨2, ![64, 128]⟩
abbrev S1x1x64x128 : Shape := ⟨4, ![1, 1, 64, 128]⟩
abbrev S1x1x1 : Shape := ⟨3, ![1, 1, 1]⟩
abbrev S1x128x512 : Shape := ⟨3, ![1, 128, 512]⟩
abbrev S128x512 : Shape := ⟨2, ![128, 512]⟩

abbrev nBuf : Space → Nat
  | .hbm => 8
  | .vmem => 9
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S64x512, .f32⟩
  | .local _ .vmem, ⟨2, _⟩ => ⟨S3x8x64x128, .bf16⟩
  | .local _ .vmem, ⟨3, _⟩ => ⟨S3x7x64x128, .bf16⟩
  | .local _ .vmem, ⟨4, _⟩ => ⟨S3x8x64x128, .bf16⟩
  | .local _ .vmem, ⟨5, _⟩ => ⟨S3x512x1024, .f32⟩
  | .local _ .vmem, ⟨6, _⟩ => ⟨S3x1024x512, .f32⟩
  | .local _ .vmem, ⟨7, _⟩ => ⟨S3x512x1024, .bf16⟩
  | .local _ .vmem, ⟨8, _⟩ => ⟨S3x1024x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_28 : BitVec 32 := 1#32
  let v28 : BitVec 32 := Scalar.addi v2 c1_i32_28
  let c8_i32_29 : BitVec 32 := 8#32
  let c0_i32_30 : BitVec 32 := 0#32
  let v29 : BitVec 1 := Scalar.cmpi .eq c8_i32_29 c0_i32_30
  let c1_i32_31 : BitVec 32 := 1#32
  let v30 : BitVec 32 := Scalar.select v29 c1_i32_31 c8_i32_29
  let v31 : BitVec 32 := Scalar.remsi v28 v30
  let c0_i32_33 : BitVec 32 := 0#32
  let v33 : BitVec 1 := Scalar.cmpi .slt v31 c0_i32_33
  let c0_i32_34 : BitVec 32 := 0#32
  let v34 : BitVec 1 := Scalar.cmpi .slt v30 c0_i32_34
  let v35 : BitVec 1 := Scalar.xori v33 v34
  let c0_i32_32 : BitVec 32 := 0#32
  let v32 : BitVec 1 := Scalar.cmpi .ne v31 c0_i32_32
  let v36 : BitVec 1 := Scalar.andi v35 v32
  let v37 : BitVec 32 := Scalar.addi v31 v30
  let v38 : BitVec 32 := Scalar.select v36 v37 v31
  let c1_i32_36 : BitVec 32 := 1#32
  let v39 : BitVec 32 := Scalar.muli v38 c1_i32_36
  let v40 : BitVec 32 := Scalar.addi c0_i32_37 v39
  v40.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v41 : BitVec 32 := Scalar.addi v2 c2_i32_38
  let c8_i32_39 : BitVec 32 := 8#32
  let c0_i32_40 : BitVec 32 := 0#32
  let v42 : BitVec 1 := Scalar.cmpi .eq c8_i32_39 c0_i32_40
  let c1_i32_41 : BitVec 32 := 1#32
  let v43 : BitVec 32 := Scalar.select v42 c1_i32_41 c8_i32_39
  let v44 : BitVec 32 := Scalar.remsi v41 v43
  let c0_i32_43 : BitVec 32 := 0#32
  let v46 : BitVec 1 := Scalar.cmpi .slt v44 c0_i32_43
  let c0_i32_44 : BitVec 32 := 0#32
  let v47 : BitVec 1 := Scalar.cmpi .slt v43 c0_i32_44
  let v48 : BitVec 1 := Scalar.xori v46 v47
  let c0_i32_42 : BitVec 32 := 0#32
  let v45 : BitVec 1 := Scalar.cmpi .ne v44 c0_i32_42
  let v49 : BitVec 1 := Scalar.andi v48 v45
  let v50 : BitVec 32 := Scalar.addi v44 v43
  let v51 : BitVec 32 := Scalar.select v49 v50 v44
  let c1_i32_46 : BitVec 32 := 1#32
  let v52 : BitVec 32 := Scalar.muli v51 c1_i32_46
  let v53 : BitVec 32 := Scalar.addi c0_i32_47 v52
  v53.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v54 : BitVec 32 := Scalar.addi v2 c3_i32
  let c8_i32_48 : BitVec 32 := 8#32
  let c0_i32_49 : BitVec 32 := 0#32
  let v55 : BitVec 1 := Scalar.cmpi .eq c8_i32_48 c0_i32_49
  let c1_i32_50 : BitVec 32 := 1#32
  let v56 : BitVec 32 := Scalar.select v55 c1_i32_50 c8_i32_48
  let v57 : BitVec 32 := Scalar.remsi v54 v56
  let c0_i32_52 : BitVec 32 := 0#32
  let v59 : BitVec 1 := Scalar.cmpi .slt v57 c0_i32_52
  let c0_i32_53 : BitVec 32 := 0#32
  let v60 : BitVec 1 := Scalar.cmpi .slt v56 c0_i32_53
  let v61 : BitVec 1 := Scalar.xori v59 v60
  let c0_i32_51 : BitVec 32 := 0#32
  let v58 : BitVec 1 := Scalar.cmpi .ne v57 c0_i32_51
  let v62 : BitVec 1 := Scalar.andi v61 v58
  let v63 : BitVec 32 := Scalar.addi v57 v56
  let v64 : BitVec 32 := Scalar.select v62 v63 v57
  let c1_i32_55 : BitVec 32 := 1#32
  let v65 : BitVec 32 := Scalar.muli v64 c1_i32_55
  let v66 : BitVec 32 := Scalar.addi c0_i32_56 v65
  v66.toNat
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v67 : BitVec 32 := Scalar.addi v2 c4_i32
  let c8_i32_57 : BitVec 32 := 8#32
  let c0_i32_58 : BitVec 32 := 0#32
  let v68 : BitVec 1 := Scalar.cmpi .eq c8_i32_57 c0_i32_58
  let c1_i32_59 : BitVec 32 := 1#32
  let v69 : BitVec 32 := Scalar.select v68 c1_i32_59 c8_i32_57
  let v70 : BitVec 32 := Scalar.remsi v67 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let c1_i32_64 : BitVec 32 := 1#32
  let v78 : BitVec 32 := Scalar.muli v77 c1_i32_64
  let v79 : BitVec 32 := Scalar.addi c0_i32_65 v78
  v79.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v80 : BitVec 32 := Scalar.addi v2 c5_i32
  let c8_i32_66 : BitVec 32 := 8#32
  let c0_i32_67 : BitVec 32 := 0#32
  let v81 : BitVec 1 := Scalar.cmpi .eq c8_i32_66 c0_i32_67
  let c1_i32_68 : BitVec 32 := 1#32
  let v82 : BitVec 32 := Scalar.select v81 c1_i32_68 c8_i32_66
  let v83 : BitVec 32 := Scalar.remsi v80 v82
  let c0_i32_70 : BitVec 32 := 0#32
  let v85 : BitVec 1 := Scalar.cmpi .slt v83 c0_i32_70
  let c0_i32_71 : BitVec 32 := 0#32
  let v86 : BitVec 1 := Scalar.cmpi .slt v82 c0_i32_71
  let v87 : BitVec 1 := Scalar.xori v85 v86
  let c0_i32_69 : BitVec 32 := 0#32
  let v84 : BitVec 1 := Scalar.cmpi .ne v83 c0_i32_69
  let v88 : BitVec 1 := Scalar.andi v87 v84
  let v89 : BitVec 32 := Scalar.addi v83 v82
  let v90 : BitVec 32 := Scalar.select v88 v89 v83
  let c1_i32_73 : BitVec 32 := 1#32
  let v91 : BitVec 32 := Scalar.muli v90 c1_i32_73
  let v92 : BitVec 32 := Scalar.addi c0_i32_74 v91
  v92.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v93 : BitVec 32 := Scalar.addi v2 c6_i32
  let c8_i32_75 : BitVec 32 := 8#32
  let c0_i32_76 : BitVec 32 := 0#32
  let v94 : BitVec 1 := Scalar.cmpi .eq c8_i32_75 c0_i32_76
  let c1_i32_77 : BitVec 32 := 1#32
  let v95 : BitVec 32 := Scalar.select v94 c1_i32_77 c8_i32_75
  let v96 : BitVec 32 := Scalar.remsi v93 v95
  let c0_i32_79 : BitVec 32 := 0#32
  let v98 : BitVec 1 := Scalar.cmpi .slt v96 c0_i32_79
  let c0_i32_80 : BitVec 32 := 0#32
  let v99 : BitVec 1 := Scalar.cmpi .slt v95 c0_i32_80
  let v100 : BitVec 1 := Scalar.xori v98 v99
  let c0_i32_78 : BitVec 32 := 0#32
  let v97 : BitVec 1 := Scalar.cmpi .ne v96 c0_i32_78
  let v101 : BitVec 1 := Scalar.andi v100 v97
  let v102 : BitVec 32 := Scalar.addi v96 v95
  let v103 : BitVec 32 := Scalar.select v101 v102 v96
  let c1_i32_82 : BitVec 32 := 1#32
  let v104 : BitVec 32 := Scalar.muli v103 c1_i32_82
  let v105 : BitVec 32 := Scalar.addi c0_i32_83 v104
  v105.toNat
def k0_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v106 : BitVec 32 := Scalar.addi v2 c7_i32
  let c8_i32_84 : BitVec 32 := 8#32
  let c0_i32_85 : BitVec 32 := 0#32
  let v107 : BitVec 1 := Scalar.cmpi .eq c8_i32_84 c0_i32_85
  let c1_i32_86 : BitVec 32 := 1#32
  let v108 : BitVec 32 := Scalar.select v107 c1_i32_86 c8_i32_84
  let v109 : BitVec 32 := Scalar.remsi v106 v108
  let c0_i32_88 : BitVec 32 := 0#32
  let v111 : BitVec 1 := Scalar.cmpi .slt v109 c0_i32_88
  let c0_i32_89 : BitVec 32 := 0#32
  let v112 : BitVec 1 := Scalar.cmpi .slt v108 c0_i32_89
  let v113 : BitVec 1 := Scalar.xori v111 v112
  let c0_i32_87 : BitVec 32 := 0#32
  let v110 : BitVec 1 := Scalar.cmpi .ne v109 c0_i32_87
  let v114 : BitVec 1 := Scalar.andi v113 v110
  let v115 : BitVec 32 := Scalar.addi v109 v108
  let v116 : BitVec 32 := Scalar.select v114 v115 v109
  let c1_i32_91 : BitVec 32 := 1#32
  let v117 : BitVec 32 := Scalar.muli v116 c1_i32_91
  let v118 : BitVec 32 := Scalar.addi c0_i32_92 v117
  v118.toNat
def k0_off1 (d0 : Dev nD) (c6_i32_134 : BitVec 32) : Fin 4 → Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : BitVec 32 := Scalar.addi v2 c6_i32_134
  let c8_i32_135 : BitVec 32 := 8#32
  let c0_i32_136 : BitVec 32 := 0#32
  let v176 : BitVec 1 := Scalar.cmpi .eq c8_i32_135 c0_i32_136
  let c1_i32_137 : BitVec 32 := 1#32
  let v177 : BitVec 32 := Scalar.select v176 c1_i32_137 c8_i32_135
  let v178 : BitVec 32 := Scalar.remsi v175 v177
  let c0_i32_139 : BitVec 32 := 0#32
  let v180 : BitVec 1 := Scalar.cmpi .slt v178 c0_i32_139
  let c0_i32_140 : BitVec 32 := 0#32
  let v181 : BitVec 1 := Scalar.cmpi .slt v177 c0_i32_140
  let v182 : BitVec 1 := Scalar.xori v180 v181
  let c0_i32_138 : BitVec 32 := 0#32
  let v179 : BitVec 1 := Scalar.cmpi .ne v178 c0_i32_138
  let v183 : BitVec 1 := Scalar.andi v182 v179
  let v184 : BitVec 32 := Scalar.addi v178 v177
  let v185 : BitVec 32 := Scalar.select v183 v184 v178
  let c0_i32_154 : BitVec 32 := 0#32
  let c0_i32_155 : BitVec 32 := 0#32
  ![0, v185.toNat, 0, 0]
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_134 : BitVec 32 := 6#32
  let v175 : BitVec 32 := Scalar.addi v2 c6_i32_134
  let c8_i32_135 : BitVec 32 := 8#32
  let c0_i32_136 : BitVec 32 := 0#32
  let v176 : BitVec 1 := Scalar.cmpi .eq c8_i32_135 c0_i32_136
  let c1_i32_137 : BitVec 32 := 1#32
  let v177 : BitVec 32 := Scalar.select v176 c1_i32_137 c8_i32_135
  let v178 : BitVec 32 := Scalar.remsi v175 v177
  let c0_i32_139 : BitVec 32 := 0#32
  let v180 : BitVec 1 := Scalar.cmpi .slt v178 c0_i32_139
  let c0_i32_140 : BitVec 32 := 0#32
  let v181 : BitVec 1 := Scalar.cmpi .slt v177 c0_i32_140
  let v182 : BitVec 1 := Scalar.xori v180 v181
  let c0_i32_138 : BitVec 32 := 0#32
  let v179 : BitVec 1 := Scalar.cmpi .ne v178 c0_i32_138
  let v183 : BitVec 1 := Scalar.andi v182 v179
  let v184 : BitVec 32 := Scalar.addi v178 v177
  let v185 : BitVec 32 := Scalar.select v183 v184 v178
  let c1_i32_150 : BitVec 32 := 1#32
  let v186 : BitVec 32 := Scalar.muli v185 c1_i32_150
  let v187 : BitVec 32 := Scalar.addi c0_i32_151 v186
  v187.toNat
def k0_dev9 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_156 : BitVec 32 := 2#32
  let v196 : BitVec 32 := Scalar.addi v2 c2_i32_156
  let c8_i32_157 : BitVec 32 := 8#32
  let c0_i32_158 : BitVec 32 := 0#32
  let v197 : BitVec 1 := Scalar.cmpi .eq c8_i32_157 c0_i32_158
  let c1_i32_159 : BitVec 32 := 1#32
  let v198 : BitVec 32 := Scalar.select v197 c1_i32_159 c8_i32_157
  let v199 : BitVec 32 := Scalar.remsi v196 v198
  let c0_i32_161 : BitVec 32 := 0#32
  let v201 : BitVec 1 := Scalar.cmpi .slt v199 c0_i32_161
  let c0_i32_162 : BitVec 32 := 0#32
  let v202 : BitVec 1 := Scalar.cmpi .slt v198 c0_i32_162
  let v203 : BitVec 1 := Scalar.xori v201 v202
  let c0_i32_160 : BitVec 32 := 0#32
  let v200 : BitVec 1 := Scalar.cmpi .ne v199 c0_i32_160
  let v204 : BitVec 1 := Scalar.andi v203 v200
  let v205 : BitVec 32 := Scalar.addi v199 v198
  let v206 : BitVec 32 := Scalar.select v204 v205 v199
  let c1_i32_172 : BitVec 32 := 1#32
  let v207 : BitVec 32 := Scalar.muli v206 c1_i32_172
  let v208 : BitVec 32 := Scalar.addi c0_i32_173 v207
  v208.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_178 : BitVec 32 := 5#32
  let v217 : BitVec 32 := Scalar.addi v2 c5_i32_178
  let c8_i32_179 : BitVec 32 := 8#32
  let c0_i32_180 : BitVec 32 := 0#32
  let v218 : BitVec 1 := Scalar.cmpi .eq c8_i32_179 c0_i32_180
  let c1_i32_181 : BitVec 32 := 1#32
  let v219 : BitVec 32 := Scalar.select v218 c1_i32_181 c8_i32_179
  let v220 : BitVec 32 := Scalar.remsi v217 v219
  let c0_i32_183 : BitVec 32 := 0#32
  let v222 : BitVec 1 := Scalar.cmpi .slt v220 c0_i32_183
  let c0_i32_184 : BitVec 32 := 0#32
  let v223 : BitVec 1 := Scalar.cmpi .slt v219 c0_i32_184
  let v224 : BitVec 1 := Scalar.xori v222 v223
  let c0_i32_182 : BitVec 32 := 0#32
  let v221 : BitVec 1 := Scalar.cmpi .ne v220 c0_i32_182
  let v225 : BitVec 1 := Scalar.andi v224 v221
  let v226 : BitVec 32 := Scalar.addi v220 v219
  let v227 : BitVec 32 := Scalar.select v225 v226 v220
  let c1_i32_194 : BitVec 32 := 1#32
  let v228 : BitVec 32 := Scalar.muli v227 c1_i32_194
  let v229 : BitVec 32 := Scalar.addi c0_i32_195 v228
  v229.toNat
def k0_dev11 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_200 : BitVec 32 := 3#32
  let v238 : BitVec 32 := Scalar.addi v2 c3_i32_200
  let c8_i32_201 : BitVec 32 := 8#32
  let c0_i32_202 : BitVec 32 := 0#32
  let v239 : BitVec 1 := Scalar.cmpi .eq c8_i32_201 c0_i32_202
  let c1_i32_203 : BitVec 32 := 1#32
  let v240 : BitVec 32 := Scalar.select v239 c1_i32_203 c8_i32_201
  let v241 : BitVec 32 := Scalar.remsi v238 v240
  let c0_i32_205 : BitVec 32 := 0#32
  let v243 : BitVec 1 := Scalar.cmpi .slt v241 c0_i32_205
  let c0_i32_206 : BitVec 32 := 0#32
  let v244 : BitVec 1 := Scalar.cmpi .slt v240 c0_i32_206
  let v245 : BitVec 1 := Scalar.xori v243 v244
  let c0_i32_204 : BitVec 32 := 0#32
  let v242 : BitVec 1 := Scalar.cmpi .ne v241 c0_i32_204
  let v246 : BitVec 1 := Scalar.andi v245 v242
  let v247 : BitVec 32 := Scalar.addi v241 v240
  let v248 : BitVec 32 := Scalar.select v246 v247 v241
  let c1_i32_216 : BitVec 32 := 1#32
  let v249 : BitVec 32 := Scalar.muli v248 c1_i32_216
  let v250 : BitVec 32 := Scalar.addi c0_i32_217 v249
  v250.toNat
def k0_dev12 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_222 : BitVec 32 := 1#32
  let v259 : BitVec 32 := Scalar.addi v2 c1_i32_222
  let c8_i32_223 : BitVec 32 := 8#32
  let c0_i32_224 : BitVec 32 := 0#32
  let v260 : BitVec 1 := Scalar.cmpi .eq c8_i32_223 c0_i32_224
  let c1_i32_225 : BitVec 32 := 1#32
  let v261 : BitVec 32 := Scalar.select v260 c1_i32_225 c8_i32_223
  let v262 : BitVec 32 := Scalar.remsi v259 v261
  let c0_i32_227 : BitVec 32 := 0#32
  let v264 : BitVec 1 := Scalar.cmpi .slt v262 c0_i32_227
  let c0_i32_228 : BitVec 32 := 0#32
  let v265 : BitVec 1 := Scalar.cmpi .slt v261 c0_i32_228
  let v266 : BitVec 1 := Scalar.xori v264 v265
  let c0_i32_226 : BitVec 32 := 0#32
  let v263 : BitVec 1 := Scalar.cmpi .ne v262 c0_i32_226
  let v267 : BitVec 1 := Scalar.andi v266 v263
  let v268 : BitVec 32 := Scalar.addi v262 v261
  let v269 : BitVec 32 := Scalar.select v267 v268 v262
  let c1_i32_238 : BitVec 32 := 1#32
  let v270 : BitVec 32 := Scalar.muli v269 c1_i32_238
  let v271 : BitVec 32 := Scalar.addi c0_i32_239 v270
  v271.toNat
def k0_dev13 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_244 : BitVec 32 := 7#32
  let v280 : BitVec 32 := Scalar.addi v2 c7_i32_244
  let c8_i32_245 : BitVec 32 := 8#32
  let c0_i32_246 : BitVec 32 := 0#32
  let v281 : BitVec 1 := Scalar.cmpi .eq c8_i32_245 c0_i32_246
  let c1_i32_247 : BitVec 32 := 1#32
  let v282 : BitVec 32 := Scalar.select v281 c1_i32_247 c8_i32_245
  let v283 : BitVec 32 := Scalar.remsi v280 v282
  let c0_i32_249 : BitVec 32 := 0#32
  let v285 : BitVec 1 := Scalar.cmpi .slt v283 c0_i32_249
  let c0_i32_250 : BitVec 32 := 0#32
  let v286 : BitVec 1 := Scalar.cmpi .slt v282 c0_i32_250
  let v287 : BitVec 1 := Scalar.xori v285 v286
  let c0_i32_248 : BitVec 32 := 0#32
  let v284 : BitVec 1 := Scalar.cmpi .ne v283 c0_i32_248
  let v288 : BitVec 1 := Scalar.andi v287 v284
  let v289 : BitVec 32 := Scalar.addi v283 v282
  let v290 : BitVec 32 := Scalar.select v288 v289 v283
  let c1_i32_260 : BitVec 32 := 1#32
  let v291 : BitVec 32 := Scalar.muli v290 c1_i32_260
  let v292 : BitVec 32 := Scalar.addi c0_i32_261 v291
  v292.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_266 : BitVec 32 := 4#32
  let v301 : BitVec 32 := Scalar.addi v2 c4_i32_266
  let c8_i32_267 : BitVec 32 := 8#32
  let c0_i32_268 : BitVec 32 := 0#32
  let v302 : BitVec 1 := Scalar.cmpi .eq c8_i32_267 c0_i32_268
  let c1_i32_269 : BitVec 32 := 1#32
  let v303 : BitVec 32 := Scalar.select v302 c1_i32_269 c8_i32_267
  let v304 : BitVec 32 := Scalar.remsi v301 v303
  let c0_i32_271 : BitVec 32 := 0#32
  let v306 : BitVec 1 := Scalar.cmpi .slt v304 c0_i32_271
  let c0_i32_272 : BitVec 32 := 0#32
  let v307 : BitVec 1 := Scalar.cmpi .slt v303 c0_i32_272
  let v308 : BitVec 1 := Scalar.xori v306 v307
  let c0_i32_270 : BitVec 32 := 0#32
  let v305 : BitVec 1 := Scalar.cmpi .ne v304 c0_i32_270
  let v309 : BitVec 1 := Scalar.andi v308 v305
  let v310 : BitVec 32 := Scalar.addi v304 v303
  let v311 : BitVec 32 := Scalar.select v309 v310 v304
  let c1_i32_282 : BitVec 32 := 1#32
  let v312 : BitVec 32 := Scalar.muli v311 c1_i32_282
  let v313 : BitVec 32 := Scalar.addi c0_i32_283 v312
  v313.toNat
def k0_off2 (d0 : Dev nD) : Fin 4 → Nat :=
  let c0_310 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v342 : Index := Scalar.indexCast v2
  let c0_311 : Index := 0#32
  let c0_312 : Index := 0#32
  ![0, v342.toNat, 0, 0]
def k0_off3 (d0 : Dev nD) : Fin 4 → Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_467 : BitVec 32 := 0#32
  let c0_i32_468 : BitVec 32 := 0#32
  ![0, v2.toNat, 0, 0]
def k0_dev15 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_450 : BitVec 32 := 6#32
  let v437 : BitVec 32 := Scalar.addi v2 c6_i32_450
  let c8_i32_451 : BitVec 32 := 8#32
  let c0_i32_452 : BitVec 32 := 0#32
  let v438 : BitVec 1 := Scalar.cmpi .eq c8_i32_451 c0_i32_452
  let c1_i32_453 : BitVec 32 := 1#32
  let v439 : BitVec 32 := Scalar.select v438 c1_i32_453 c8_i32_451
  let v440 : BitVec 32 := Scalar.remsi v437 v439
  let c0_i32_455 : BitVec 32 := 0#32
  let v442 : BitVec 1 := Scalar.cmpi .slt v440 c0_i32_455
  let c0_i32_456 : BitVec 32 := 0#32
  let v443 : BitVec 1 := Scalar.cmpi .slt v439 c0_i32_456
  let v444 : BitVec 1 := Scalar.xori v442 v443
  let c0_i32_454 : BitVec 32 := 0#32
  let v441 : BitVec 1 := Scalar.cmpi .ne v440 c0_i32_454
  let v445 : BitVec 1 := Scalar.andi v444 v441
  let v446 : BitVec 32 := Scalar.addi v440 v439
  let v447 : BitVec 32 := Scalar.select v445 v446 v440
  let c1_i32_465 : BitVec 32 := 1#32
  let v448 : BitVec 32 := Scalar.muli v447 c1_i32_465
  let v449 : BitVec 32 := Scalar.addi c0_i32_466 v448
  v449.toNat
def k0_dev16 (d0 : Dev nD) : Nat :=
  let c0_i32_487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_471 : BitVec 32 := 2#32
  let v458 : BitVec 32 := Scalar.addi v2 c2_i32_471
  let c8_i32_472 : BitVec 32 := 8#32
  let c0_i32_473 : BitVec 32 := 0#32
  let v459 : BitVec 1 := Scalar.cmpi .eq c8_i32_472 c0_i32_473
  let c1_i32_474 : BitVec 32 := 1#32
  let v460 : BitVec 32 := Scalar.select v459 c1_i32_474 c8_i32_472
  let v461 : BitVec 32 := Scalar.remsi v458 v460
  let c0_i32_476 : BitVec 32 := 0#32
  let v463 : BitVec 1 := Scalar.cmpi .slt v461 c0_i32_476
  let c0_i32_477 : BitVec 32 := 0#32
  let v464 : BitVec 1 := Scalar.cmpi .slt v460 c0_i32_477
  let v465 : BitVec 1 := Scalar.xori v463 v464
  let c0_i32_475 : BitVec 32 := 0#32
  let v462 : BitVec 1 := Scalar.cmpi .ne v461 c0_i32_475
  let v466 : BitVec 1 := Scalar.andi v465 v462
  let v467 : BitVec 32 := Scalar.addi v461 v460
  let v468 : BitVec 32 := Scalar.select v466 v467 v461
  let c1_i32_486 : BitVec 32 := 1#32
  let v469 : BitVec 32 := Scalar.muli v468 c1_i32_486
  let v470 : BitVec 32 := Scalar.addi c0_i32_487 v469
  v470.toNat
def k0_dev17 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_492 : BitVec 32 := 5#32
  let v479 : BitVec 32 := Scalar.addi v2 c5_i32_492
  let c8_i32_493 : BitVec 32 := 8#32
  let c0_i32_494 : BitVec 32 := 0#32
  let v480 : BitVec 1 := Scalar.cmpi .eq c8_i32_493 c0_i32_494
  let c1_i32_495 : BitVec 32 := 1#32
  let v481 : BitVec 32 := Scalar.select v480 c1_i32_495 c8_i32_493
  let v482 : BitVec 32 := Scalar.remsi v479 v481
  let c0_i32_497 : BitVec 32 := 0#32
  let v484 : BitVec 1 := Scalar.cmpi .slt v482 c0_i32_497
  let c0_i32_498 : BitVec 32 := 0#32
  let v485 : BitVec 1 := Scalar.cmpi .slt v481 c0_i32_498
  let v486 : BitVec 1 := Scalar.xori v484 v485
  let c0_i32_496 : BitVec 32 := 0#32
  let v483 : BitVec 1 := Scalar.cmpi .ne v482 c0_i32_496
  let v487 : BitVec 1 := Scalar.andi v486 v483
  let v488 : BitVec 32 := Scalar.addi v482 v481
  let v489 : BitVec 32 := Scalar.select v487 v488 v482
  let c1_i32_507 : BitVec 32 := 1#32
  let v490 : BitVec 32 := Scalar.muli v489 c1_i32_507
  let v491 : BitVec 32 := Scalar.addi c0_i32_508 v490
  v491.toNat
def k0_dev18 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_513 : BitVec 32 := 3#32
  let v500 : BitVec 32 := Scalar.addi v2 c3_i32_513
  let c8_i32_514 : BitVec 32 := 8#32
  let c0_i32_515 : BitVec 32 := 0#32
  let v501 : BitVec 1 := Scalar.cmpi .eq c8_i32_514 c0_i32_515
  let c1_i32_516 : BitVec 32 := 1#32
  let v502 : BitVec 32 := Scalar.select v501 c1_i32_516 c8_i32_514
  let v503 : BitVec 32 := Scalar.remsi v500 v502
  let c0_i32_518 : BitVec 32 := 0#32
  let v505 : BitVec 1 := Scalar.cmpi .slt v503 c0_i32_518
  let c0_i32_519 : BitVec 32 := 0#32
  let v506 : BitVec 1 := Scalar.cmpi .slt v502 c0_i32_519
  let v507 : BitVec 1 := Scalar.xori v505 v506
  let c0_i32_517 : BitVec 32 := 0#32
  let v504 : BitVec 1 := Scalar.cmpi .ne v503 c0_i32_517
  let v508 : BitVec 1 := Scalar.andi v507 v504
  let v509 : BitVec 32 := Scalar.addi v503 v502
  let v510 : BitVec 32 := Scalar.select v508 v509 v503
  let c1_i32_528 : BitVec 32 := 1#32
  let v511 : BitVec 32 := Scalar.muli v510 c1_i32_528
  let v512 : BitVec 32 := Scalar.addi c0_i32_529 v511
  v512.toNat
def k0_dev19 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_534 : BitVec 32 := 1#32
  let v521 : BitVec 32 := Scalar.addi v2 c1_i32_534
  let c8_i32_535 : BitVec 32 := 8#32
  let c0_i32_536 : BitVec 32 := 0#32
  let v522 : BitVec 1 := Scalar.cmpi .eq c8_i32_535 c0_i32_536
  let c1_i32_537 : BitVec 32 := 1#32
  let v523 : BitVec 32 := Scalar.select v522 c1_i32_537 c8_i32_535
  let v524 : BitVec 32 := Scalar.remsi v521 v523
  let c0_i32_539 : BitVec 32 := 0#32
  let v526 : BitVec 1 := Scalar.cmpi .slt v524 c0_i32_539
  let c0_i32_540 : BitVec 32 := 0#32
  let v527 : BitVec 1 := Scalar.cmpi .slt v523 c0_i32_540
  let v528 : BitVec 1 := Scalar.xori v526 v527
  let c0_i32_538 : BitVec 32 := 0#32
  let v525 : BitVec 1 := Scalar.cmpi .ne v524 c0_i32_538
  let v529 : BitVec 1 := Scalar.andi v528 v525
  let v530 : BitVec 32 := Scalar.addi v524 v523
  let v531 : BitVec 32 := Scalar.select v529 v530 v524
  let c1_i32_549 : BitVec 32 := 1#32
  let v532 : BitVec 32 := Scalar.muli v531 c1_i32_549
  let v533 : BitVec 32 := Scalar.addi c0_i32_550 v532
  v533.toNat
def k0_dev20 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_555 : BitVec 32 := 7#32
  let v542 : BitVec 32 := Scalar.addi v2 c7_i32_555
  let c8_i32_556 : BitVec 32 := 8#32
  let c0_i32_557 : BitVec 32 := 0#32
  let v543 : BitVec 1 := Scalar.cmpi .eq c8_i32_556 c0_i32_557
  let c1_i32_558 : BitVec 32 := 1#32
  let v544 : BitVec 32 := Scalar.select v543 c1_i32_558 c8_i32_556
  let v545 : BitVec 32 := Scalar.remsi v542 v544
  let c0_i32_560 : BitVec 32 := 0#32
  let v547 : BitVec 1 := Scalar.cmpi .slt v545 c0_i32_560
  let c0_i32_561 : BitVec 32 := 0#32
  let v548 : BitVec 1 := Scalar.cmpi .slt v544 c0_i32_561
  let v549 : BitVec 1 := Scalar.xori v547 v548
  let c0_i32_559 : BitVec 32 := 0#32
  let v546 : BitVec 1 := Scalar.cmpi .ne v545 c0_i32_559
  let v550 : BitVec 1 := Scalar.andi v549 v546
  let v551 : BitVec 32 := Scalar.addi v545 v544
  let v552 : BitVec 32 := Scalar.select v550 v551 v545
  let c1_i32_570 : BitVec 32 := 1#32
  let v553 : BitVec 32 := Scalar.muli v552 c1_i32_570
  let v554 : BitVec 32 := Scalar.addi c0_i32_571 v553
  v554.toNat
def k0_dev21 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_576 : BitVec 32 := 4#32
  let v563 : BitVec 32 := Scalar.addi v2 c4_i32_576
  let c8_i32_577 : BitVec 32 := 8#32
  let c0_i32_578 : BitVec 32 := 0#32
  let v564 : BitVec 1 := Scalar.cmpi .eq c8_i32_577 c0_i32_578
  let c1_i32_579 : BitVec 32 := 1#32
  let v565 : BitVec 32 := Scalar.select v564 c1_i32_579 c8_i32_577
  let v566 : BitVec 32 := Scalar.remsi v563 v565
  let c0_i32_581 : BitVec 32 := 0#32
  let v568 : BitVec 1 := Scalar.cmpi .slt v566 c0_i32_581
  let c0_i32_582 : BitVec 32 := 0#32
  let v569 : BitVec 1 := Scalar.cmpi .slt v565 c0_i32_582
  let v570 : BitVec 1 := Scalar.xori v568 v569
  let c0_i32_580 : BitVec 32 := 0#32
  let v567 : BitVec 1 := Scalar.cmpi .ne v566 c0_i32_580
  let v571 : BitVec 1 := Scalar.andi v570 v567
  let v572 : BitVec 32 := Scalar.addi v566 v565
  let v573 : BitVec 32 := Scalar.select v571 v572 v566
  let c1_i32_591 : BitVec 32 := 1#32
  let v574 : BitVec 32 := Scalar.muli v573 c1_i32_591
  let v575 : BitVec 32 := Scalar.addi c0_i32_592 v574
  v575.toNat
def k0_off4 (d0 : Dev nD) : Fin 3 → Nat :=
  let c0_600 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v587 : BitVec 32 := Scalar.muli v2 c128_i32
  let v588 : Index := Scalar.indexCast v587
  let c0_601 : Index := 0#32
  ![0, v588.toNat, 0]
def k0_off5 (d0 : Dev nD) (c4_i32_617 : BitVec 32) : Fin 4 → Nat :=
  let c0_624 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v600 : BitVec 32 := Scalar.subi v2 c4_i32_617
  let c8_i32_618 : BitVec 32 := 8#32
  let c0_i32_619 : BitVec 32 := 0#32
  let v601 : BitVec 1 := Scalar.cmpi .eq c8_i32_618 c0_i32_619
  let c1_i32_620 : BitVec 32 := 1#32
  let v602 : BitVec 32 := Scalar.select v601 c1_i32_620 c8_i32_618
  let v603 : BitVec 32 := Scalar.remsi v600 v602
  let c0_i32_622 : BitVec 32 := 0#32
  let v605 : BitVec 1 := Scalar.cmpi .slt v603 c0_i32_622
  let c0_i32_623 : BitVec 32 := 0#32
  let v606 : BitVec 1 := Scalar.cmpi .slt v602 c0_i32_623
  let v607 : BitVec 1 := Scalar.xori v605 v606
  let c0_i32_621 : BitVec 32 := 0#32
  let v604 : BitVec 1 := Scalar.cmpi .ne v603 c0_i32_621
  let v608 : BitVec 1 := Scalar.andi v607 v604
  let v609 : BitVec 32 := Scalar.addi v603 v602
  let v610 : BitVec 32 := Scalar.select v608 v609 v603
  let v611 : Index := Scalar.indexCast v610
  let c0_625 : Index := 0#32
  let c0_626 : Index := 0#32
  ![0, v611.toNat, 0, 0]
def k0_off6 (d0 : Dev nD) (c4_i32_617 : BitVec 32) : Fin 3 → Nat :=
  let c0_628 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v600 : BitVec 32 := Scalar.subi v2 c4_i32_617
  let c8_i32_618 : BitVec 32 := 8#32
  let c0_i32_619 : BitVec 32 := 0#32
  let v601 : BitVec 1 := Scalar.cmpi .eq c8_i32_618 c0_i32_619
  let c1_i32_620 : BitVec 32 := 1#32
  let v602 : BitVec 32 := Scalar.select v601 c1_i32_620 c8_i32_618
  let v603 : BitVec 32 := Scalar.remsi v600 v602
  let c0_i32_622 : BitVec 32 := 0#32
  let v605 : BitVec 1 := Scalar.cmpi .slt v603 c0_i32_622
  let c0_i32_623 : BitVec 32 := 0#32
  let v606 : BitVec 1 := Scalar.cmpi .slt v602 c0_i32_623
  let v607 : BitVec 1 := Scalar.xori v605 v606
  let c0_i32_621 : BitVec 32 := 0#32
  let v604 : BitVec 1 := Scalar.cmpi .ne v603 c0_i32_621
  let v608 : BitVec 1 := Scalar.andi v607 v604
  let v609 : BitVec 32 := Scalar.addi v603 v602
  let v610 : BitVec 32 := Scalar.select v608 v609 v603
  let c128_i32_627 : BitVec 32 := 128#32
  let v614 : BitVec 32 := Scalar.muli v610 c128_i32_627
  let v615 : Index := Scalar.indexCast v614
  let c0_629 : Index := 0#32
  ![0, v615.toNat, 0]
def k0_off7 (d0 : Dev nD) (c6_i32_835 : BitVec 32) : Fin 4 → Nat :=
  let c1_i32_842 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v832 : BitVec 32 := Scalar.addi v2 c6_i32_835
  let c8_i32_836 : BitVec 32 := 8#32
  let c0_i32_837 : BitVec 32 := 0#32
  let v833 : BitVec 1 := Scalar.cmpi .eq c8_i32_836 c0_i32_837
  let c1_i32_838 : BitVec 32 := 1#32
  let v834 : BitVec 32 := Scalar.select v833 c1_i32_838 c8_i32_836
  let v835 : BitVec 32 := Scalar.remsi v832 v834
  let c0_i32_840 : BitVec 32 := 0#32
  let v837 : BitVec 1 := Scalar.cmpi .slt v835 c0_i32_840
  let c0_i32_841 : BitVec 32 := 0#32
  let v838 : BitVec 1 := Scalar.cmpi .slt v834 c0_i32_841
  let v839 : BitVec 1 := Scalar.xori v837 v838
  let c0_i32_839 : BitVec 32 := 0#32
  let v836 : BitVec 1 := Scalar.cmpi .ne v835 c0_i32_839
  let v840 : BitVec 1 := Scalar.andi v839 v836
  let v841 : BitVec 32 := Scalar.addi v835 v834
  let v842 : BitVec 32 := Scalar.select v840 v841 v835
  let c0_i32_855 : BitVec 32 := 0#32
  let c0_i32_856 : BitVec 32 := 0#32
  ![1, v842.toNat, 0, 0]
def k0_dev22 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_835 : BitVec 32 := 6#32
  let v832 : BitVec 32 := Scalar.addi v2 c6_i32_835
  let c8_i32_836 : BitVec 32 := 8#32
  let c0_i32_837 : BitVec 32 := 0#32
  let v833 : BitVec 1 := Scalar.cmpi .eq c8_i32_836 c0_i32_837
  let c1_i32_838 : BitVec 32 := 1#32
  let v834 : BitVec 32 := Scalar.select v833 c1_i32_838 c8_i32_836
  let v835 : BitVec 32 := Scalar.remsi v832 v834
  let c0_i32_840 : BitVec 32 := 0#32
  let v837 : BitVec 1 := Scalar.cmpi .slt v835 c0_i32_840
  let c0_i32_841 : BitVec 32 := 0#32
  let v838 : BitVec 1 := Scalar.cmpi .slt v834 c0_i32_841
  let v839 : BitVec 1 := Scalar.xori v837 v838
  let c0_i32_839 : BitVec 32 := 0#32
  let v836 : BitVec 1 := Scalar.cmpi .ne v835 c0_i32_839
  let v840 : BitVec 1 := Scalar.andi v839 v836
  let v841 : BitVec 32 := Scalar.addi v835 v834
  let v842 : BitVec 32 := Scalar.select v840 v841 v835
  let c1_i32_851 : BitVec 32 := 1#32
  let v843 : BitVec 32 := Scalar.muli v842 c1_i32_851
  let v844 : BitVec 32 := Scalar.addi c0_i32_852 v843
  v844.toNat
def k0_dev23 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_857 : BitVec 32 := 2#32
  let v853 : BitVec 32 := Scalar.addi v2 c2_i32_857
  let c8_i32_858 : BitVec 32 := 8#32
  let c0_i32_859 : BitVec 32 := 0#32
  let v854 : BitVec 1 := Scalar.cmpi .eq c8_i32_858 c0_i32_859
  let c1_i32_860 : BitVec 32 := 1#32
  let v855 : BitVec 32 := Scalar.select v854 c1_i32_860 c8_i32_858
  let v856 : BitVec 32 := Scalar.remsi v853 v855
  let c0_i32_862 : BitVec 32 := 0#32
  let v858 : BitVec 1 := Scalar.cmpi .slt v856 c0_i32_862
  let c0_i32_863 : BitVec 32 := 0#32
  let v859 : BitVec 1 := Scalar.cmpi .slt v855 c0_i32_863
  let v860 : BitVec 1 := Scalar.xori v858 v859
  let c0_i32_861 : BitVec 32 := 0#32
  let v857 : BitVec 1 := Scalar.cmpi .ne v856 c0_i32_861
  let v861 : BitVec 1 := Scalar.andi v860 v857
  let v862 : BitVec 32 := Scalar.addi v856 v855
  let v863 : BitVec 32 := Scalar.select v861 v862 v856
  let c1_i32_873 : BitVec 32 := 1#32
  let v864 : BitVec 32 := Scalar.muli v863 c1_i32_873
  let v865 : BitVec 32 := Scalar.addi c0_i32_874 v864
  v865.toNat
def k0_dev24 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_879 : BitVec 32 := 5#32
  let v874 : BitVec 32 := Scalar.addi v2 c5_i32_879
  let c8_i32_880 : BitVec 32 := 8#32
  let c0_i32_881 : BitVec 32 := 0#32
  let v875 : BitVec 1 := Scalar.cmpi .eq c8_i32_880 c0_i32_881
  let c1_i32_882 : BitVec 32 := 1#32
  let v876 : BitVec 32 := Scalar.select v875 c1_i32_882 c8_i32_880
  let v877 : BitVec 32 := Scalar.remsi v874 v876
  let c0_i32_884 : BitVec 32 := 0#32
  let v879 : BitVec 1 := Scalar.cmpi .slt v877 c0_i32_884
  let c0_i32_885 : BitVec 32 := 0#32
  let v880 : BitVec 1 := Scalar.cmpi .slt v876 c0_i32_885
  let v881 : BitVec 1 := Scalar.xori v879 v880
  let c0_i32_883 : BitVec 32 := 0#32
  let v878 : BitVec 1 := Scalar.cmpi .ne v877 c0_i32_883
  let v882 : BitVec 1 := Scalar.andi v881 v878
  let v883 : BitVec 32 := Scalar.addi v877 v876
  let v884 : BitVec 32 := Scalar.select v882 v883 v877
  let c1_i32_895 : BitVec 32 := 1#32
  let v885 : BitVec 32 := Scalar.muli v884 c1_i32_895
  let v886 : BitVec 32 := Scalar.addi c0_i32_896 v885
  v886.toNat
def k0_dev25 (d0 : Dev nD) : Nat :=
  let c0_i32_918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_901 : BitVec 32 := 3#32
  let v895 : BitVec 32 := Scalar.addi v2 c3_i32_901
  let c8_i32_902 : BitVec 32 := 8#32
  let c0_i32_903 : BitVec 32 := 0#32
  let v896 : BitVec 1 := Scalar.cmpi .eq c8_i32_902 c0_i32_903
  let c1_i32_904 : BitVec 32 := 1#32
  let v897 : BitVec 32 := Scalar.select v896 c1_i32_904 c8_i32_902
  let v898 : BitVec 32 := Scalar.remsi v895 v897
  let c0_i32_906 : BitVec 32 := 0#32
  let v900 : BitVec 1 := Scalar.cmpi .slt v898 c0_i32_906
  let c0_i32_907 : BitVec 32 := 0#32
  let v901 : BitVec 1 := Scalar.cmpi .slt v897 c0_i32_907
  let v902 : BitVec 1 := Scalar.xori v900 v901
  let c0_i32_905 : BitVec 32 := 0#32
  let v899 : BitVec 1 := Scalar.cmpi .ne v898 c0_i32_905
  let v903 : BitVec 1 := Scalar.andi v902 v899
  let v904 : BitVec 32 := Scalar.addi v898 v897
  let v905 : BitVec 32 := Scalar.select v903 v904 v898
  let c1_i32_917 : BitVec 32 := 1#32
  let v906 : BitVec 32 := Scalar.muli v905 c1_i32_917
  let v907 : BitVec 32 := Scalar.addi c0_i32_918 v906
  v907.toNat
def k0_dev26 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_923 : BitVec 32 := 1#32
  let v916 : BitVec 32 := Scalar.addi v2 c1_i32_923
  let c8_i32_924 : BitVec 32 := 8#32
  let c0_i32_925 : BitVec 32 := 0#32
  let v917 : BitVec 1 := Scalar.cmpi .eq c8_i32_924 c0_i32_925
  let c1_i32_926 : BitVec 32 := 1#32
  let v918 : BitVec 32 := Scalar.select v917 c1_i32_926 c8_i32_924
  let v919 : BitVec 32 := Scalar.remsi v916 v918
  let c0_i32_928 : BitVec 32 := 0#32
  let v921 : BitVec 1 := Scalar.cmpi .slt v919 c0_i32_928
  let c0_i32_929 : BitVec 32 := 0#32
  let v922 : BitVec 1 := Scalar.cmpi .slt v918 c0_i32_929
  let v923 : BitVec 1 := Scalar.xori v921 v922
  let c0_i32_927 : BitVec 32 := 0#32
  let v920 : BitVec 1 := Scalar.cmpi .ne v919 c0_i32_927
  let v924 : BitVec 1 := Scalar.andi v923 v920
  let v925 : BitVec 32 := Scalar.addi v919 v918
  let v926 : BitVec 32 := Scalar.select v924 v925 v919
  let c1_i32_939 : BitVec 32 := 1#32
  let v927 : BitVec 32 := Scalar.muli v926 c1_i32_939
  let v928 : BitVec 32 := Scalar.addi c0_i32_940 v927
  v928.toNat
def k0_dev27 (d0 : Dev nD) : Nat :=
  let c0_i32_962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_945 : BitVec 32 := 7#32
  let v937 : BitVec 32 := Scalar.addi v2 c7_i32_945
  let c8_i32_946 : BitVec 32 := 8#32
  let c0_i32_947 : BitVec 32 := 0#32
  let v938 : BitVec 1 := Scalar.cmpi .eq c8_i32_946 c0_i32_947
  let c1_i32_948 : BitVec 32 := 1#32
  let v939 : BitVec 32 := Scalar.select v938 c1_i32_948 c8_i32_946
  let v940 : BitVec 32 := Scalar.remsi v937 v939
  let c0_i32_950 : BitVec 32 := 0#32
  let v942 : BitVec 1 := Scalar.cmpi .slt v940 c0_i32_950
  let c0_i32_951 : BitVec 32 := 0#32
  let v943 : BitVec 1 := Scalar.cmpi .slt v939 c0_i32_951
  let v944 : BitVec 1 := Scalar.xori v942 v943
  let c0_i32_949 : BitVec 32 := 0#32
  let v941 : BitVec 1 := Scalar.cmpi .ne v940 c0_i32_949
  let v945 : BitVec 1 := Scalar.andi v944 v941
  let v946 : BitVec 32 := Scalar.addi v940 v939
  let v947 : BitVec 32 := Scalar.select v945 v946 v940
  let c1_i32_961 : BitVec 32 := 1#32
  let v948 : BitVec 32 := Scalar.muli v947 c1_i32_961
  let v949 : BitVec 32 := Scalar.addi c0_i32_962 v948
  v949.toNat
def k0_dev28 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_967 : BitVec 32 := 4#32
  let v958 : BitVec 32 := Scalar.addi v2 c4_i32_967
  let c8_i32_968 : BitVec 32 := 8#32
  let c0_i32_969 : BitVec 32 := 0#32
  let v959 : BitVec 1 := Scalar.cmpi .eq c8_i32_968 c0_i32_969
  let c1_i32_970 : BitVec 32 := 1#32
  let v960 : BitVec 32 := Scalar.select v959 c1_i32_970 c8_i32_968
  let v961 : BitVec 32 := Scalar.remsi v958 v960
  let c0_i32_972 : BitVec 32 := 0#32
  let v963 : BitVec 1 := Scalar.cmpi .slt v961 c0_i32_972
  let c0_i32_973 : BitVec 32 := 0#32
  let v964 : BitVec 1 := Scalar.cmpi .slt v960 c0_i32_973
  let v965 : BitVec 1 := Scalar.xori v963 v964
  let c0_i32_971 : BitVec 32 := 0#32
  let v962 : BitVec 1 := Scalar.cmpi .ne v961 c0_i32_971
  let v966 : BitVec 1 := Scalar.andi v965 v962
  let v967 : BitVec 32 := Scalar.addi v961 v960
  let v968 : BitVec 32 := Scalar.select v966 v967 v961
  let c1_i32_983 : BitVec 32 := 1#32
  let v969 : BitVec 32 := Scalar.muli v968 c1_i32_983
  let v970 : BitVec 32 := Scalar.addi c0_i32_984 v969
  v970.toNat
def k0_off8 (d0 : Dev nD) : Fin 4 → Nat :=
  let c1_1011 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v999 : Index := Scalar.indexCast v2
  let c0_1012 : Index := 0#32
  let c0_1013 : Index := 0#32
  ![1, v999.toNat, 0, 0]
def k0_off9 (d0 : Dev nD) : Fin 4 → Nat :=
  let c1_i32_1159 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1168 : BitVec 32 := 0#32
  let c0_i32_1169 : BitVec 32 := 0#32
  ![1, v2.toNat, 0, 0]
def k0_dev29 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1151 : BitVec 32 := 6#32
  let v1094 : BitVec 32 := Scalar.addi v2 c6_i32_1151
  let c8_i32_1152 : BitVec 32 := 8#32
  let c0_i32_1153 : BitVec 32 := 0#32
  let v1095 : BitVec 1 := Scalar.cmpi .eq c8_i32_1152 c0_i32_1153
  let c1_i32_1154 : BitVec 32 := 1#32
  let v1096 : BitVec 32 := Scalar.select v1095 c1_i32_1154 c8_i32_1152
  let v1097 : BitVec 32 := Scalar.remsi v1094 v1096
  let c0_i32_1156 : BitVec 32 := 0#32
  let v1099 : BitVec 1 := Scalar.cmpi .slt v1097 c0_i32_1156
  let c0_i32_1157 : BitVec 32 := 0#32
  let v1100 : BitVec 1 := Scalar.cmpi .slt v1096 c0_i32_1157
  let v1101 : BitVec 1 := Scalar.xori v1099 v1100
  let c0_i32_1155 : BitVec 32 := 0#32
  let v1098 : BitVec 1 := Scalar.cmpi .ne v1097 c0_i32_1155
  let v1102 : BitVec 1 := Scalar.andi v1101 v1098
  let v1103 : BitVec 32 := Scalar.addi v1097 v1096
  let v1104 : BitVec 32 := Scalar.select v1102 v1103 v1097
  let c1_i32_1166 : BitVec 32 := 1#32
  let v1105 : BitVec 32 := Scalar.muli v1104 c1_i32_1166
  let v1106 : BitVec 32 := Scalar.addi c0_i32_1167 v1105
  v1106.toNat
def k0_dev30 (d0 : Dev nD) : Nat :=
  let c0_i32_1188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1172 : BitVec 32 := 2#32
  let v1115 : BitVec 32 := Scalar.addi v2 c2_i32_1172
  let c8_i32_1173 : BitVec 32 := 8#32
  let c0_i32_1174 : BitVec 32 := 0#32
  let v1116 : BitVec 1 := Scalar.cmpi .eq c8_i32_1173 c0_i32_1174
  let c1_i32_1175 : BitVec 32 := 1#32
  let v1117 : BitVec 32 := Scalar.select v1116 c1_i32_1175 c8_i32_1173
  let v1118 : BitVec 32 := Scalar.remsi v1115 v1117
  let c0_i32_1177 : BitVec 32 := 0#32
  let v1120 : BitVec 1 := Scalar.cmpi .slt v1118 c0_i32_1177
  let c0_i32_1178 : BitVec 32 := 0#32
  let v1121 : BitVec 1 := Scalar.cmpi .slt v1117 c0_i32_1178
  let v1122 : BitVec 1 := Scalar.xori v1120 v1121
  let c0_i32_1176 : BitVec 32 := 0#32
  let v1119 : BitVec 1 := Scalar.cmpi .ne v1118 c0_i32_1176
  let v1123 : BitVec 1 := Scalar.andi v1122 v1119
  let v1124 : BitVec 32 := Scalar.addi v1118 v1117
  let v1125 : BitVec 32 := Scalar.select v1123 v1124 v1118
  let c1_i32_1187 : BitVec 32 := 1#32
  let v1126 : BitVec 32 := Scalar.muli v1125 c1_i32_1187
  let v1127 : BitVec 32 := Scalar.addi c0_i32_1188 v1126
  v1127.toNat
def k0_dev31 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1193 : BitVec 32 := 5#32
  let v1136 : BitVec 32 := Scalar.addi v2 c5_i32_1193
  let c8_i32_1194 : BitVec 32 := 8#32
  let c0_i32_1195 : BitVec 32 := 0#32
  let v1137 : BitVec 1 := Scalar.cmpi .eq c8_i32_1194 c0_i32_1195
  let c1_i32_1196 : BitVec 32 := 1#32
  let v1138 : BitVec 32 := Scalar.select v1137 c1_i32_1196 c8_i32_1194
  let v1139 : BitVec 32 := Scalar.remsi v1136 v1138
  let c0_i32_1198 : BitVec 32 := 0#32
  let v1141 : BitVec 1 := Scalar.cmpi .slt v1139 c0_i32_1198
  let c0_i32_1199 : BitVec 32 := 0#32
  let v1142 : BitVec 1 := Scalar.cmpi .slt v1138 c0_i32_1199
  let v1143 : BitVec 1 := Scalar.xori v1141 v1142
  let c0_i32_1197 : BitVec 32 := 0#32
  let v1140 : BitVec 1 := Scalar.cmpi .ne v1139 c0_i32_1197
  let v1144 : BitVec 1 := Scalar.andi v1143 v1140
  let v1145 : BitVec 32 := Scalar.addi v1139 v1138
  let v1146 : BitVec 32 := Scalar.select v1144 v1145 v1139
  let c1_i32_1208 : BitVec 32 := 1#32
  let v1147 : BitVec 32 := Scalar.muli v1146 c1_i32_1208
  let v1148 : BitVec 32 := Scalar.addi c0_i32_1209 v1147
  v1148.toNat
def k0_dev32 (d0 : Dev nD) : Nat :=
  let c0_i32_1230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1214 : BitVec 32 := 3#32
  let v1157 : BitVec 32 := Scalar.addi v2 c3_i32_1214
  let c8_i32_1215 : BitVec 32 := 8#32
  let c0_i32_1216 : BitVec 32 := 0#32
  let v1158 : BitVec 1 := Scalar.cmpi .eq c8_i32_1215 c0_i32_1216
  let c1_i32_1217 : BitVec 32 := 1#32
  let v1159 : BitVec 32 := Scalar.select v1158 c1_i32_1217 c8_i32_1215
  let v1160 : BitVec 32 := Scalar.remsi v1157 v1159
  let c0_i32_1219 : BitVec 32 := 0#32
  let v1162 : BitVec 1 := Scalar.cmpi .slt v1160 c0_i32_1219
  let c0_i32_1220 : BitVec 32 := 0#32
  let v1163 : BitVec 1 := Scalar.cmpi .slt v1159 c0_i32_1220
  let v1164 : BitVec 1 := Scalar.xori v1162 v1163
  let c0_i32_1218 : BitVec 32 := 0#32
  let v1161 : BitVec 1 := Scalar.cmpi .ne v1160 c0_i32_1218
  let v1165 : BitVec 1 := Scalar.andi v1164 v1161
  let v1166 : BitVec 32 := Scalar.addi v1160 v1159
  let v1167 : BitVec 32 := Scalar.select v1165 v1166 v1160
  let c1_i32_1229 : BitVec 32 := 1#32
  let v1168 : BitVec 32 := Scalar.muli v1167 c1_i32_1229
  let v1169 : BitVec 32 := Scalar.addi c0_i32_1230 v1168
  v1169.toNat
def k0_dev33 (d0 : Dev nD) : Nat :=
  let c0_i32_1251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1235 : BitVec 32 := 1#32
  let v1178 : BitVec 32 := Scalar.addi v2 c1_i32_1235
  let c8_i32_1236 : BitVec 32 := 8#32
  let c0_i32_1237 : BitVec 32 := 0#32
  let v1179 : BitVec 1 := Scalar.cmpi .eq c8_i32_1236 c0_i32_1237
  let c1_i32_1238 : BitVec 32 := 1#32
  let v1180 : BitVec 32 := Scalar.select v1179 c1_i32_1238 c8_i32_1236
  let v1181 : BitVec 32 := Scalar.remsi v1178 v1180
  let c0_i32_1240 : BitVec 32 := 0#32
  let v1183 : BitVec 1 := Scalar.cmpi .slt v1181 c0_i32_1240
  let c0_i32_1241 : BitVec 32 := 0#32
  let v1184 : BitVec 1 := Scalar.cmpi .slt v1180 c0_i32_1241
  let v1185 : BitVec 1 := Scalar.xori v1183 v1184
  let c0_i32_1239 : BitVec 32 := 0#32
  let v1182 : BitVec 1 := Scalar.cmpi .ne v1181 c0_i32_1239
  let v1186 : BitVec 1 := Scalar.andi v1185 v1182
  let v1187 : BitVec 32 := Scalar.addi v1181 v1180
  let v1188 : BitVec 32 := Scalar.select v1186 v1187 v1181
  let c1_i32_1250 : BitVec 32 := 1#32
  let v1189 : BitVec 32 := Scalar.muli v1188 c1_i32_1250
  let v1190 : BitVec 32 := Scalar.addi c0_i32_1251 v1189
  v1190.toNat
def k0_dev34 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1256 : BitVec 32 := 7#32
  let v1199 : BitVec 32 := Scalar.addi v2 c7_i32_1256
  let c8_i32_1257 : BitVec 32 := 8#32
  let c0_i32_1258 : BitVec 32 := 0#32
  let v1200 : BitVec 1 := Scalar.cmpi .eq c8_i32_1257 c0_i32_1258
  let c1_i32_1259 : BitVec 32 := 1#32
  let v1201 : BitVec 32 := Scalar.select v1200 c1_i32_1259 c8_i32_1257
  let v1202 : BitVec 32 := Scalar.remsi v1199 v1201
  let c0_i32_1261 : BitVec 32 := 0#32
  let v1204 : BitVec 1 := Scalar.cmpi .slt v1202 c0_i32_1261
  let c0_i32_1262 : BitVec 32 := 0#32
  let v1205 : BitVec 1 := Scalar.cmpi .slt v1201 c0_i32_1262
  let v1206 : BitVec 1 := Scalar.xori v1204 v1205
  let c0_i32_1260 : BitVec 32 := 0#32
  let v1203 : BitVec 1 := Scalar.cmpi .ne v1202 c0_i32_1260
  let v1207 : BitVec 1 := Scalar.andi v1206 v1203
  let v1208 : BitVec 32 := Scalar.addi v1202 v1201
  let v1209 : BitVec 32 := Scalar.select v1207 v1208 v1202
  let c1_i32_1271 : BitVec 32 := 1#32
  let v1210 : BitVec 32 := Scalar.muli v1209 c1_i32_1271
  let v1211 : BitVec 32 := Scalar.addi c0_i32_1272 v1210
  v1211.toNat
def k0_dev35 (d0 : Dev nD) : Nat :=
  let c0_i32_1293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1277 : BitVec 32 := 4#32
  let v1220 : BitVec 32 := Scalar.addi v2 c4_i32_1277
  let c8_i32_1278 : BitVec 32 := 8#32
  let c0_i32_1279 : BitVec 32 := 0#32
  let v1221 : BitVec 1 := Scalar.cmpi .eq c8_i32_1278 c0_i32_1279
  let c1_i32_1280 : BitVec 32 := 1#32
  let v1222 : BitVec 32 := Scalar.select v1221 c1_i32_1280 c8_i32_1278
  let v1223 : BitVec 32 := Scalar.remsi v1220 v1222
  let c0_i32_1282 : BitVec 32 := 0#32
  let v1225 : BitVec 1 := Scalar.cmpi .slt v1223 c0_i32_1282
  let c0_i32_1283 : BitVec 32 := 0#32
  let v1226 : BitVec 1 := Scalar.cmpi .slt v1222 c0_i32_1283
  let v1227 : BitVec 1 := Scalar.xori v1225 v1226
  let c0_i32_1281 : BitVec 32 := 0#32
  let v1224 : BitVec 1 := Scalar.cmpi .ne v1223 c0_i32_1281
  let v1228 : BitVec 1 := Scalar.andi v1227 v1224
  let v1229 : BitVec 32 := Scalar.addi v1223 v1222
  let v1230 : BitVec 32 := Scalar.select v1228 v1229 v1223
  let c1_i32_1292 : BitVec 32 := 1#32
  let v1231 : BitVec 32 := Scalar.muli v1230 c1_i32_1292
  let v1232 : BitVec 32 := Scalar.addi c0_i32_1293 v1231
  v1232.toNat
def k0_off10 (d0 : Dev nD) : Fin 3 → Nat :=
  let c1_1302 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1301 : BitVec 32 := 128#32
  let v1244 : BitVec 32 := Scalar.muli v2 c128_i32_1301
  let v1245 : Index := Scalar.indexCast v1244
  let c0_1303 : Index := 0#32
  ![1, v1245.toNat, 0]
def k0_off11 (d0 : Dev nD) (c4_i32_1319 : BitVec 32) : Fin 4 → Nat :=
  let c1_1326 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1257 : BitVec 32 := Scalar.subi v2 c4_i32_1319
  let c8_i32_1320 : BitVec 32 := 8#32
  let c0_i32_1321 : BitVec 32 := 0#32
  let v1258 : BitVec 1 := Scalar.cmpi .eq c8_i32_1320 c0_i32_1321
  let c1_i32_1322 : BitVec 32 := 1#32
  let v1259 : BitVec 32 := Scalar.select v1258 c1_i32_1322 c8_i32_1320
  let v1260 : BitVec 32 := Scalar.remsi v1257 v1259
  let c0_i32_1324 : BitVec 32 := 0#32
  let v1262 : BitVec 1 := Scalar.cmpi .slt v1260 c0_i32_1324
  let c0_i32_1325 : BitVec 32 := 0#32
  let v1263 : BitVec 1 := Scalar.cmpi .slt v1259 c0_i32_1325
  let v1264 : BitVec 1 := Scalar.xori v1262 v1263
  let c0_i32_1323 : BitVec 32 := 0#32
  let v1261 : BitVec 1 := Scalar.cmpi .ne v1260 c0_i32_1323
  let v1265 : BitVec 1 := Scalar.andi v1264 v1261
  let v1266 : BitVec 32 := Scalar.addi v1260 v1259
  let v1267 : BitVec 32 := Scalar.select v1265 v1266 v1260
  let v1268 : Index := Scalar.indexCast v1267
  let c0_1327 : Index := 0#32
  let c0_1328 : Index := 0#32
  ![1, v1268.toNat, 0, 0]
def k0_off12 (d0 : Dev nD) (c4_i32_1319 : BitVec 32) : Fin 3 → Nat :=
  let c1_1330 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1257 : BitVec 32 := Scalar.subi v2 c4_i32_1319
  let c8_i32_1320 : BitVec 32 := 8#32
  let c0_i32_1321 : BitVec 32 := 0#32
  let v1258 : BitVec 1 := Scalar.cmpi .eq c8_i32_1320 c0_i32_1321
  let c1_i32_1322 : BitVec 32 := 1#32
  let v1259 : BitVec 32 := Scalar.select v1258 c1_i32_1322 c8_i32_1320
  let v1260 : BitVec 32 := Scalar.remsi v1257 v1259
  let c0_i32_1324 : BitVec 32 := 0#32
  let v1262 : BitVec 1 := Scalar.cmpi .slt v1260 c0_i32_1324
  let c0_i32_1325 : BitVec 32 := 0#32
  let v1263 : BitVec 1 := Scalar.cmpi .slt v1259 c0_i32_1325
  let v1264 : BitVec 1 := Scalar.xori v1262 v1263
  let c0_i32_1323 : BitVec 32 := 0#32
  let v1261 : BitVec 1 := Scalar.cmpi .ne v1260 c0_i32_1323
  let v1265 : BitVec 1 := Scalar.andi v1264 v1261
  let v1266 : BitVec 32 := Scalar.addi v1260 v1259
  let v1267 : BitVec 32 := Scalar.select v1265 v1266 v1260
  let c128_i32_1329 : BitVec 32 := 128#32
  let v1271 : BitVec 32 := Scalar.muli v1267 c128_i32_1329
  let v1272 : Index := Scalar.indexCast v1271
  let c0_1331 : Index := 0#32
  ![1, v1272.toNat, 0]
def k0_off13 (d0 : Dev nD) (c6_i32_1537 : BitVec 32) : Fin 4 → Nat :=
  let c2_i32_1544 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1489 : BitVec 32 := Scalar.addi v2 c6_i32_1537
  let c8_i32_1538 : BitVec 32 := 8#32
  let c0_i32_1539 : BitVec 32 := 0#32
  let v1490 : BitVec 1 := Scalar.cmpi .eq c8_i32_1538 c0_i32_1539
  let c1_i32_1540 : BitVec 32 := 1#32
  let v1491 : BitVec 32 := Scalar.select v1490 c1_i32_1540 c8_i32_1538
  let v1492 : BitVec 32 := Scalar.remsi v1489 v1491
  let c0_i32_1542 : BitVec 32 := 0#32
  let v1494 : BitVec 1 := Scalar.cmpi .slt v1492 c0_i32_1542
  let c0_i32_1543 : BitVec 32 := 0#32
  let v1495 : BitVec 1 := Scalar.cmpi .slt v1491 c0_i32_1543
  let v1496 : BitVec 1 := Scalar.xori v1494 v1495
  let c0_i32_1541 : BitVec 32 := 0#32
  let v1493 : BitVec 1 := Scalar.cmpi .ne v1492 c0_i32_1541
  let v1497 : BitVec 1 := Scalar.andi v1496 v1493
  let v1498 : BitVec 32 := Scalar.addi v1492 v1491
  let v1499 : BitVec 32 := Scalar.select v1497 v1498 v1492
  let c0_i32_1557 : BitVec 32 := 0#32
  let c0_i32_1558 : BitVec 32 := 0#32
  ![2, v1499.toNat, 0, 0]
def k0_dev36 (d0 : Dev nD) : Nat :=
  let c0_i32_1554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1537 : BitVec 32 := 6#32
  let v1489 : BitVec 32 := Scalar.addi v2 c6_i32_1537
  let c8_i32_1538 : BitVec 32 := 8#32
  let c0_i32_1539 : BitVec 32 := 0#32
  let v1490 : BitVec 1 := Scalar.cmpi .eq c8_i32_1538 c0_i32_1539
  let c1_i32_1540 : BitVec 32 := 1#32
  let v1491 : BitVec 32 := Scalar.select v1490 c1_i32_1540 c8_i32_1538
  let v1492 : BitVec 32 := Scalar.remsi v1489 v1491
  let c0_i32_1542 : BitVec 32 := 0#32
  let v1494 : BitVec 1 := Scalar.cmpi .slt v1492 c0_i32_1542
  let c0_i32_1543 : BitVec 32 := 0#32
  let v1495 : BitVec 1 := Scalar.cmpi .slt v1491 c0_i32_1543
  let v1496 : BitVec 1 := Scalar.xori v1494 v1495
  let c0_i32_1541 : BitVec 32 := 0#32
  let v1493 : BitVec 1 := Scalar.cmpi .ne v1492 c0_i32_1541
  let v1497 : BitVec 1 := Scalar.andi v1496 v1493
  let v1498 : BitVec 32 := Scalar.addi v1492 v1491
  let v1499 : BitVec 32 := Scalar.select v1497 v1498 v1492
  let c1_i32_1553 : BitVec 32 := 1#32
  let v1500 : BitVec 32 := Scalar.muli v1499 c1_i32_1553
  let v1501 : BitVec 32 := Scalar.addi c0_i32_1554 v1500
  v1501.toNat
def k0_dev37 (d0 : Dev nD) : Nat :=
  let c0_i32_1576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1559 : BitVec 32 := 2#32
  let v1510 : BitVec 32 := Scalar.addi v2 c2_i32_1559
  let c8_i32_1560 : BitVec 32 := 8#32
  let c0_i32_1561 : BitVec 32 := 0#32
  let v1511 : BitVec 1 := Scalar.cmpi .eq c8_i32_1560 c0_i32_1561
  let c1_i32_1562 : BitVec 32 := 1#32
  let v1512 : BitVec 32 := Scalar.select v1511 c1_i32_1562 c8_i32_1560
  let v1513 : BitVec 32 := Scalar.remsi v1510 v1512
  let c0_i32_1564 : BitVec 32 := 0#32
  let v1515 : BitVec 1 := Scalar.cmpi .slt v1513 c0_i32_1564
  let c0_i32_1565 : BitVec 32 := 0#32
  let v1516 : BitVec 1 := Scalar.cmpi .slt v1512 c0_i32_1565
  let v1517 : BitVec 1 := Scalar.xori v1515 v1516
  let c0_i32_1563 : BitVec 32 := 0#32
  let v1514 : BitVec 1 := Scalar.cmpi .ne v1513 c0_i32_1563
  let v1518 : BitVec 1 := Scalar.andi v1517 v1514
  let v1519 : BitVec 32 := Scalar.addi v1513 v1512
  let v1520 : BitVec 32 := Scalar.select v1518 v1519 v1513
  let c1_i32_1575 : BitVec 32 := 1#32
  let v1521 : BitVec 32 := Scalar.muli v1520 c1_i32_1575
  let v1522 : BitVec 32 := Scalar.addi c0_i32_1576 v1521
  v1522.toNat
def k0_dev38 (d0 : Dev nD) : Nat :=
  let c0_i32_1598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1581 : BitVec 32 := 5#32
  let v1531 : BitVec 32 := Scalar.addi v2 c5_i32_1581
  let c8_i32_1582 : BitVec 32 := 8#32
  let c0_i32_1583 : BitVec 32 := 0#32
  let v1532 : BitVec 1 := Scalar.cmpi .eq c8_i32_1582 c0_i32_1583
  let c1_i32_1584 : BitVec 32 := 1#32
  let v1533 : BitVec 32 := Scalar.select v1532 c1_i32_1584 c8_i32_1582
  let v1534 : BitVec 32 := Scalar.remsi v1531 v1533
  let c0_i32_1586 : BitVec 32 := 0#32
  let v1536 : BitVec 1 := Scalar.cmpi .slt v1534 c0_i32_1586
  let c0_i32_1587 : BitVec 32 := 0#32
  let v1537 : BitVec 1 := Scalar.cmpi .slt v1533 c0_i32_1587
  let v1538 : BitVec 1 := Scalar.xori v1536 v1537
  let c0_i32_1585 : BitVec 32 := 0#32
  let v1535 : BitVec 1 := Scalar.cmpi .ne v1534 c0_i32_1585
  let v1539 : BitVec 1 := Scalar.andi v1538 v1535
  let v1540 : BitVec 32 := Scalar.addi v1534 v1533
  let v1541 : BitVec 32 := Scalar.select v1539 v1540 v1534
  let c1_i32_1597 : BitVec 32 := 1#32
  let v1542 : BitVec 32 := Scalar.muli v1541 c1_i32_1597
  let v1543 : BitVec 32 := Scalar.addi c0_i32_1598 v1542
  v1543.toNat
def k0_dev39 (d0 : Dev nD) : Nat :=
  let c0_i32_1620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1603 : BitVec 32 := 3#32
  let v1552 : BitVec 32 := Scalar.addi v2 c3_i32_1603
  let c8_i32_1604 : BitVec 32 := 8#32
  let c0_i32_1605 : BitVec 32 := 0#32
  let v1553 : BitVec 1 := Scalar.cmpi .eq c8_i32_1604 c0_i32_1605
  let c1_i32_1606 : BitVec 32 := 1#32
  let v1554 : BitVec 32 := Scalar.select v1553 c1_i32_1606 c8_i32_1604
  let v1555 : BitVec 32 := Scalar.remsi v1552 v1554
  let c0_i32_1608 : BitVec 32 := 0#32
  let v1557 : BitVec 1 := Scalar.cmpi .slt v1555 c0_i32_1608
  let c0_i32_1609 : BitVec 32 := 0#32
  let v1558 : BitVec 1 := Scalar.cmpi .slt v1554 c0_i32_1609
  let v1559 : BitVec 1 := Scalar.xori v1557 v1558
  let c0_i32_1607 : BitVec 32 := 0#32
  let v1556 : BitVec 1 := Scalar.cmpi .ne v1555 c0_i32_1607
  let v1560 : BitVec 1 := Scalar.andi v1559 v1556
  let v1561 : BitVec 32 := Scalar.addi v1555 v1554
  let v1562 : BitVec 32 := Scalar.select v1560 v1561 v1555
  let c1_i32_1619 : BitVec 32 := 1#32
  let v1563 : BitVec 32 := Scalar.muli v1562 c1_i32_1619
  let v1564 : BitVec 32 := Scalar.addi c0_i32_1620 v1563
  v1564.toNat
def k0_dev40 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1625 : BitVec 32 := 1#32
  let v1573 : BitVec 32 := Scalar.addi v2 c1_i32_1625
  let c8_i32_1626 : BitVec 32 := 8#32
  let c0_i32_1627 : BitVec 32 := 0#32
  let v1574 : BitVec 1 := Scalar.cmpi .eq c8_i32_1626 c0_i32_1627
  let c1_i32_1628 : BitVec 32 := 1#32
  let v1575 : BitVec 32 := Scalar.select v1574 c1_i32_1628 c8_i32_1626
  let v1576 : BitVec 32 := Scalar.remsi v1573 v1575
  let c0_i32_1630 : BitVec 32 := 0#32
  let v1578 : BitVec 1 := Scalar.cmpi .slt v1576 c0_i32_1630
  let c0_i32_1631 : BitVec 32 := 0#32
  let v1579 : BitVec 1 := Scalar.cmpi .slt v1575 c0_i32_1631
  let v1580 : BitVec 1 := Scalar.xori v1578 v1579
  let c0_i32_1629 : BitVec 32 := 0#32
  let v1577 : BitVec 1 := Scalar.cmpi .ne v1576 c0_i32_1629
  let v1581 : BitVec 1 := Scalar.andi v1580 v1577
  let v1582 : BitVec 32 := Scalar.addi v1576 v1575
  let v1583 : BitVec 32 := Scalar.select v1581 v1582 v1576
  let c1_i32_1641 : BitVec 32 := 1#32
  let v1584 : BitVec 32 := Scalar.muli v1583 c1_i32_1641
  let v1585 : BitVec 32 := Scalar.addi c0_i32_1642 v1584
  v1585.toNat
def k0_dev41 (d0 : Dev nD) : Nat :=
  let c0_i32_1664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1647 : BitVec 32 := 7#32
  let v1594 : BitVec 32 := Scalar.addi v2 c7_i32_1647
  let c8_i32_1648 : BitVec 32 := 8#32
  let c0_i32_1649 : BitVec 32 := 0#32
  let v1595 : BitVec 1 := Scalar.cmpi .eq c8_i32_1648 c0_i32_1649
  let c1_i32_1650 : BitVec 32 := 1#32
  let v1596 : BitVec 32 := Scalar.select v1595 c1_i32_1650 c8_i32_1648
  let v1597 : BitVec 32 := Scalar.remsi v1594 v1596
  let c0_i32_1652 : BitVec 32 := 0#32
  let v1599 : BitVec 1 := Scalar.cmpi .slt v1597 c0_i32_1652
  let c0_i32_1653 : BitVec 32 := 0#32
  let v1600 : BitVec 1 := Scalar.cmpi .slt v1596 c0_i32_1653
  let v1601 : BitVec 1 := Scalar.xori v1599 v1600
  let c0_i32_1651 : BitVec 32 := 0#32
  let v1598 : BitVec 1 := Scalar.cmpi .ne v1597 c0_i32_1651
  let v1602 : BitVec 1 := Scalar.andi v1601 v1598
  let v1603 : BitVec 32 := Scalar.addi v1597 v1596
  let v1604 : BitVec 32 := Scalar.select v1602 v1603 v1597
  let c1_i32_1663 : BitVec 32 := 1#32
  let v1605 : BitVec 32 := Scalar.muli v1604 c1_i32_1663
  let v1606 : BitVec 32 := Scalar.addi c0_i32_1664 v1605
  v1606.toNat
def k0_dev42 (d0 : Dev nD) : Nat :=
  let c0_i32_1686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1669 : BitVec 32 := 4#32
  let v1615 : BitVec 32 := Scalar.addi v2 c4_i32_1669
  let c8_i32_1670 : BitVec 32 := 8#32
  let c0_i32_1671 : BitVec 32 := 0#32
  let v1616 : BitVec 1 := Scalar.cmpi .eq c8_i32_1670 c0_i32_1671
  let c1_i32_1672 : BitVec 32 := 1#32
  let v1617 : BitVec 32 := Scalar.select v1616 c1_i32_1672 c8_i32_1670
  let v1618 : BitVec 32 := Scalar.remsi v1615 v1617
  let c0_i32_1674 : BitVec 32 := 0#32
  let v1620 : BitVec 1 := Scalar.cmpi .slt v1618 c0_i32_1674
  let c0_i32_1675 : BitVec 32 := 0#32
  let v1621 : BitVec 1 := Scalar.cmpi .slt v1617 c0_i32_1675
  let v1622 : BitVec 1 := Scalar.xori v1620 v1621
  let c0_i32_1673 : BitVec 32 := 0#32
  let v1619 : BitVec 1 := Scalar.cmpi .ne v1618 c0_i32_1673
  let v1623 : BitVec 1 := Scalar.andi v1622 v1619
  let v1624 : BitVec 32 := Scalar.addi v1618 v1617
  let v1625 : BitVec 32 := Scalar.select v1623 v1624 v1618
  let c1_i32_1685 : BitVec 32 := 1#32
  let v1626 : BitVec 32 := Scalar.muli v1625 c1_i32_1685
  let v1627 : BitVec 32 := Scalar.addi c0_i32_1686 v1626
  v1627.toNat
def k0_off14 (d0 : Dev nD) : Fin 4 → Nat :=
  let c2_1702 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1646 : Index := Scalar.indexCast v2
  let c0_1703 : Index := 0#32
  let c0_1704 : Index := 0#32
  ![2, v1646.toNat, 0, 0]
def k0_off15 (d0 : Dev nD) : Fin 4 → Nat :=
  let c2_i32_1850 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1859 : BitVec 32 := 0#32
  let c0_i32_1860 : BitVec 32 := 0#32
  ![2, v2.toNat, 0, 0]
def k0_dev43 (d0 : Dev nD) : Nat :=
  let c0_i32_1858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1842 : BitVec 32 := 6#32
  let v1741 : BitVec 32 := Scalar.addi v2 c6_i32_1842
  let c8_i32_1843 : BitVec 32 := 8#32
  let c0_i32_1844 : BitVec 32 := 0#32
  let v1742 : BitVec 1 := Scalar.cmpi .eq c8_i32_1843 c0_i32_1844
  let c1_i32_1845 : BitVec 32 := 1#32
  let v1743 : BitVec 32 := Scalar.select v1742 c1_i32_1845 c8_i32_1843
  let v1744 : BitVec 32 := Scalar.remsi v1741 v1743
  let c0_i32_1847 : BitVec 32 := 0#32
  let v1746 : BitVec 1 := Scalar.cmpi .slt v1744 c0_i32_1847
  let c0_i32_1848 : BitVec 32 := 0#32
  let v1747 : BitVec 1 := Scalar.cmpi .slt v1743 c0_i32_1848
  let v1748 : BitVec 1 := Scalar.xori v1746 v1747
  let c0_i32_1846 : BitVec 32 := 0#32
  let v1745 : BitVec 1 := Scalar.cmpi .ne v1744 c0_i32_1846
  let v1749 : BitVec 1 := Scalar.andi v1748 v1745
  let v1750 : BitVec 32 := Scalar.addi v1744 v1743
  let v1751 : BitVec 32 := Scalar.select v1749 v1750 v1744
  let c1_i32_1857 : BitVec 32 := 1#32
  let v1752 : BitVec 32 := Scalar.muli v1751 c1_i32_1857
  let v1753 : BitVec 32 := Scalar.addi c0_i32_1858 v1752
  v1753.toNat
def k0_dev44 (d0 : Dev nD) : Nat :=
  let c0_i32_1879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1863 : BitVec 32 := 2#32
  let v1762 : BitVec 32 := Scalar.addi v2 c2_i32_1863
  let c8_i32_1864 : BitVec 32 := 8#32
  let c0_i32_1865 : BitVec 32 := 0#32
  let v1763 : BitVec 1 := Scalar.cmpi .eq c8_i32_1864 c0_i32_1865
  let c1_i32_1866 : BitVec 32 := 1#32
  let v1764 : BitVec 32 := Scalar.select v1763 c1_i32_1866 c8_i32_1864
  let v1765 : BitVec 32 := Scalar.remsi v1762 v1764
  let c0_i32_1868 : BitVec 32 := 0#32
  let v1767 : BitVec 1 := Scalar.cmpi .slt v1765 c0_i32_1868
  let c0_i32_1869 : BitVec 32 := 0#32
  let v1768 : BitVec 1 := Scalar.cmpi .slt v1764 c0_i32_1869
  let v1769 : BitVec 1 := Scalar.xori v1767 v1768
  let c0_i32_1867 : BitVec 32 := 0#32
  let v1766 : BitVec 1 := Scalar.cmpi .ne v1765 c0_i32_1867
  let v1770 : BitVec 1 := Scalar.andi v1769 v1766
  let v1771 : BitVec 32 := Scalar.addi v1765 v1764
  let v1772 : BitVec 32 := Scalar.select v1770 v1771 v1765
  let c1_i32_1878 : BitVec 32 := 1#32
  let v1773 : BitVec 32 := Scalar.muli v1772 c1_i32_1878
  let v1774 : BitVec 32 := Scalar.addi c0_i32_1879 v1773
  v1774.toNat
def k0_dev45 (d0 : Dev nD) : Nat :=
  let c0_i32_1900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1884 : BitVec 32 := 5#32
  let v1783 : BitVec 32 := Scalar.addi v2 c5_i32_1884
  let c8_i32_1885 : BitVec 32 := 8#32
  let c0_i32_1886 : BitVec 32 := 0#32
  let v1784 : BitVec 1 := Scalar.cmpi .eq c8_i32_1885 c0_i32_1886
  let c1_i32_1887 : BitVec 32 := 1#32
  let v1785 : BitVec 32 := Scalar.select v1784 c1_i32_1887 c8_i32_1885
  let v1786 : BitVec 32 := Scalar.remsi v1783 v1785
  let c0_i32_1889 : BitVec 32 := 0#32
  let v1788 : BitVec 1 := Scalar.cmpi .slt v1786 c0_i32_1889
  let c0_i32_1890 : BitVec 32 := 0#32
  let v1789 : BitVec 1 := Scalar.cmpi .slt v1785 c0_i32_1890
  let v1790 : BitVec 1 := Scalar.xori v1788 v1789
  let c0_i32_1888 : BitVec 32 := 0#32
  let v1787 : BitVec 1 := Scalar.cmpi .ne v1786 c0_i32_1888
  let v1791 : BitVec 1 := Scalar.andi v1790 v1787
  let v1792 : BitVec 32 := Scalar.addi v1786 v1785
  let v1793 : BitVec 32 := Scalar.select v1791 v1792 v1786
  let c1_i32_1899 : BitVec 32 := 1#32
  let v1794 : BitVec 32 := Scalar.muli v1793 c1_i32_1899
  let v1795 : BitVec 32 := Scalar.addi c0_i32_1900 v1794
  v1795.toNat
def k0_dev46 (d0 : Dev nD) : Nat :=
  let c0_i32_1921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1905 : BitVec 32 := 3#32
  let v1804 : BitVec 32 := Scalar.addi v2 c3_i32_1905
  let c8_i32_1906 : BitVec 32 := 8#32
  let c0_i32_1907 : BitVec 32 := 0#32
  let v1805 : BitVec 1 := Scalar.cmpi .eq c8_i32_1906 c0_i32_1907
  let c1_i32_1908 : BitVec 32 := 1#32
  let v1806 : BitVec 32 := Scalar.select v1805 c1_i32_1908 c8_i32_1906
  let v1807 : BitVec 32 := Scalar.remsi v1804 v1806
  let c0_i32_1910 : BitVec 32 := 0#32
  let v1809 : BitVec 1 := Scalar.cmpi .slt v1807 c0_i32_1910
  let c0_i32_1911 : BitVec 32 := 0#32
  let v1810 : BitVec 1 := Scalar.cmpi .slt v1806 c0_i32_1911
  let v1811 : BitVec 1 := Scalar.xori v1809 v1810
  let c0_i32_1909 : BitVec 32 := 0#32
  let v1808 : BitVec 1 := Scalar.cmpi .ne v1807 c0_i32_1909
  let v1812 : BitVec 1 := Scalar.andi v1811 v1808
  let v1813 : BitVec 32 := Scalar.addi v1807 v1806
  let v1814 : BitVec 32 := Scalar.select v1812 v1813 v1807
  let c1_i32_1920 : BitVec 32 := 1#32
  let v1815 : BitVec 32 := Scalar.muli v1814 c1_i32_1920
  let v1816 : BitVec 32 := Scalar.addi c0_i32_1921 v1815
  v1816.toNat
def k0_dev47 (d0 : Dev nD) : Nat :=
  let c0_i32_1942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1926 : BitVec 32 := 1#32
  let v1825 : BitVec 32 := Scalar.addi v2 c1_i32_1926
  let c8_i32_1927 : BitVec 32 := 8#32
  let c0_i32_1928 : BitVec 32 := 0#32
  let v1826 : BitVec 1 := Scalar.cmpi .eq c8_i32_1927 c0_i32_1928
  let c1_i32_1929 : BitVec 32 := 1#32
  let v1827 : BitVec 32 := Scalar.select v1826 c1_i32_1929 c8_i32_1927
  let v1828 : BitVec 32 := Scalar.remsi v1825 v1827
  let c0_i32_1931 : BitVec 32 := 0#32
  let v1830 : BitVec 1 := Scalar.cmpi .slt v1828 c0_i32_1931
  let c0_i32_1932 : BitVec 32 := 0#32
  let v1831 : BitVec 1 := Scalar.cmpi .slt v1827 c0_i32_1932
  let v1832 : BitVec 1 := Scalar.xori v1830 v1831
  let c0_i32_1930 : BitVec 32 := 0#32
  let v1829 : BitVec 1 := Scalar.cmpi .ne v1828 c0_i32_1930
  let v1833 : BitVec 1 := Scalar.andi v1832 v1829
  let v1834 : BitVec 32 := Scalar.addi v1828 v1827
  let v1835 : BitVec 32 := Scalar.select v1833 v1834 v1828
  let c1_i32_1941 : BitVec 32 := 1#32
  let v1836 : BitVec 32 := Scalar.muli v1835 c1_i32_1941
  let v1837 : BitVec 32 := Scalar.addi c0_i32_1942 v1836
  v1837.toNat
def k0_dev48 (d0 : Dev nD) : Nat :=
  let c0_i32_1963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1947 : BitVec 32 := 7#32
  let v1846 : BitVec 32 := Scalar.addi v2 c7_i32_1947
  let c8_i32_1948 : BitVec 32 := 8#32
  let c0_i32_1949 : BitVec 32 := 0#32
  let v1847 : BitVec 1 := Scalar.cmpi .eq c8_i32_1948 c0_i32_1949
  let c1_i32_1950 : BitVec 32 := 1#32
  let v1848 : BitVec 32 := Scalar.select v1847 c1_i32_1950 c8_i32_1948
  let v1849 : BitVec 32 := Scalar.remsi v1846 v1848
  let c0_i32_1952 : BitVec 32 := 0#32
  let v1851 : BitVec 1 := Scalar.cmpi .slt v1849 c0_i32_1952
  let c0_i32_1953 : BitVec 32 := 0#32
  let v1852 : BitVec 1 := Scalar.cmpi .slt v1848 c0_i32_1953
  let v1853 : BitVec 1 := Scalar.xori v1851 v1852
  let c0_i32_1951 : BitVec 32 := 0#32
  let v1850 : BitVec 1 := Scalar.cmpi .ne v1849 c0_i32_1951
  let v1854 : BitVec 1 := Scalar.andi v1853 v1850
  let v1855 : BitVec 32 := Scalar.addi v1849 v1848
  let v1856 : BitVec 32 := Scalar.select v1854 v1855 v1849
  let c1_i32_1962 : BitVec 32 := 1#32
  let v1857 : BitVec 32 := Scalar.muli v1856 c1_i32_1962
  let v1858 : BitVec 32 := Scalar.addi c0_i32_1963 v1857
  v1858.toNat
def k0_dev49 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1968 : BitVec 32 := 4#32
  let v1867 : BitVec 32 := Scalar.addi v2 c4_i32_1968
  let c8_i32_1969 : BitVec 32 := 8#32
  let c0_i32_1970 : BitVec 32 := 0#32
  let v1868 : BitVec 1 := Scalar.cmpi .eq c8_i32_1969 c0_i32_1970
  let c1_i32_1971 : BitVec 32 := 1#32
  let v1869 : BitVec 32 := Scalar.select v1868 c1_i32_1971 c8_i32_1969
  let v1870 : BitVec 32 := Scalar.remsi v1867 v1869
  let c0_i32_1973 : BitVec 32 := 0#32
  let v1872 : BitVec 1 := Scalar.cmpi .slt v1870 c0_i32_1973
  let c0_i32_1974 : BitVec 32 := 0#32
  let v1873 : BitVec 1 := Scalar.cmpi .slt v1869 c0_i32_1974
  let v1874 : BitVec 1 := Scalar.xori v1872 v1873
  let c0_i32_1972 : BitVec 32 := 0#32
  let v1871 : BitVec 1 := Scalar.cmpi .ne v1870 c0_i32_1972
  let v1875 : BitVec 1 := Scalar.andi v1874 v1871
  let v1876 : BitVec 32 := Scalar.addi v1870 v1869
  let v1877 : BitVec 32 := Scalar.select v1875 v1876 v1870
  let c1_i32_1983 : BitVec 32 := 1#32
  let v1878 : BitVec 32 := Scalar.muli v1877 c1_i32_1983
  let v1879 : BitVec 32 := Scalar.addi c0_i32_1984 v1878
  v1879.toNat
def k0_off16 (d0 : Dev nD) : Fin 3 → Nat :=
  let c2_1993 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1992 : BitVec 32 := 128#32
  let v1891 : BitVec 32 := Scalar.muli v2 c128_i32_1992
  let v1892 : Index := Scalar.indexCast v1891
  let c0_1994 : Index := 0#32
  ![2, v1892.toNat, 0]
def k0_off17 (d0 : Dev nD) (c4_i32_2010 : BitVec 32) : Fin 4 → Nat :=
  let c2_2017 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1904 : BitVec 32 := Scalar.subi v2 c4_i32_2010
  let c8_i32_2011 : BitVec 32 := 8#32
  let c0_i32_2012 : BitVec 32 := 0#32
  let v1905 : BitVec 1 := Scalar.cmpi .eq c8_i32_2011 c0_i32_2012
  let c1_i32_2013 : BitVec 32 := 1#32
  let v1906 : BitVec 32 := Scalar.select v1905 c1_i32_2013 c8_i32_2011
  let v1907 : BitVec 32 := Scalar.remsi v1904 v1906
  let c0_i32_2015 : BitVec 32 := 0#32
  let v1909 : BitVec 1 := Scalar.cmpi .slt v1907 c0_i32_2015
  let c0_i32_2016 : BitVec 32 := 0#32
  let v1910 : BitVec 1 := Scalar.cmpi .slt v1906 c0_i32_2016
  let v1911 : BitVec 1 := Scalar.xori v1909 v1910
  let c0_i32_2014 : BitVec 32 := 0#32
  let v1908 : BitVec 1 := Scalar.cmpi .ne v1907 c0_i32_2014
  let v1912 : BitVec 1 := Scalar.andi v1911 v1908
  let v1913 : BitVec 32 := Scalar.addi v1907 v1906
  let v1914 : BitVec 32 := Scalar.select v1912 v1913 v1907
  let v1915 : Index := Scalar.indexCast v1914
  let c0_2018 : Index := 0#32
  let c0_2019 : Index := 0#32
  ![2, v1915.toNat, 0, 0]
def k0_off18 (d0 : Dev nD) (c4_i32_2010 : BitVec 32) : Fin 3 → Nat :=
  let c2_2021 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1904 : BitVec 32 := Scalar.subi v2 c4_i32_2010
  let c8_i32_2011 : BitVec 32 := 8#32
  let c0_i32_2012 : BitVec 32 := 0#32
  let v1905 : BitVec 1 := Scalar.cmpi .eq c8_i32_2011 c0_i32_2012
  let c1_i32_2013 : BitVec 32 := 1#32
  let v1906 : BitVec 32 := Scalar.select v1905 c1_i32_2013 c8_i32_2011
  let v1907 : BitVec 32 := Scalar.remsi v1904 v1906
  let c0_i32_2015 : BitVec 32 := 0#32
  let v1909 : BitVec 1 := Scalar.cmpi .slt v1907 c0_i32_2015
  let c0_i32_2016 : BitVec 32 := 0#32
  let v1910 : BitVec 1 := Scalar.cmpi .slt v1906 c0_i32_2016
  let v1911 : BitVec 1 := Scalar.xori v1909 v1910
  let c0_i32_2014 : BitVec 32 := 0#32
  let v1908 : BitVec 1 := Scalar.cmpi .ne v1907 c0_i32_2014
  let v1912 : BitVec 1 := Scalar.andi v1911 v1908
  let v1913 : BitVec 32 := Scalar.addi v1907 v1906
  let v1914 : BitVec 32 := Scalar.select v1912 v1913 v1907
  let c128_i32_2020 : BitVec 32 := 128#32
  let v1918 : BitVec 32 := Scalar.muli v1914 c128_i32_2020
  let v1919 : Index := Scalar.indexCast v1918
  let c0_2022 : Index := 0#32
  ![2, v1919.toNat, 0]
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x4096 : Shape := ⟨2, ![64, 4096]⟩
abbrev S4096x1024 : Shape := ⟨2, ![4096, 1024]⟩
abbrev S1024x4096 : Shape := ⟨2, ![1024, 4096]⟩
abbrev S64x1024 : Shape := ⟨2, ![64, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x4096, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x4096, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Values.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! # The values each device holds

What every buffer of every device holds once it has been written, as functions of the memory at
launch: the weights as loaded and as cast, the blocks of the partial products a device sends, the
block of activations it sends back, and the input of each layer. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the ring -/

set_option backward.proofsInPublic true in
/-- The device `j + 1` places after `c`: the one that step `j` of a scatter or a gather writes to. -/
def nx (c : Dev nD) (j : ℕ) : Dev nD := ⟨(c.val + 1 + j) % 8, Nat.mod_lt _ (by decide)⟩

/-- Going on by `j + 1` and then by the rest of the way round comes back. -/
theorem nx_nx (c : Dev nD) : ∀ j < 7, nx (nx c j) (6 - j) = c := by revert c; decide
/-- The same, the rest of the way first. -/
theorem nx_nx' (c : Dev nD) : ∀ j < 7, nx (nx c (6 - j)) j = c := by revert c; decide

/-- The order in which the seven sends of a stage are issued, and the seven receives waited for. -/
def sord : ℕ → ℕ | 0 => 5 | 1 => 1 | 2 => 4 | 3 => 2 | 4 => 0 | 5 => 6 | _ => 3
/-- The places of the receives, in the order they are waited for. -/
def rord : ℕ → ℕ | 0 => 3 | 1 => 6 | 2 => 0 | 3 => 2 | 4 => 4 | 5 => 1 | _ => 5

/-! ## Contents given block by block -/

/-- An index of a block of 64 by 128, from its last two coordinates. -/
def ix4 (i : Fin 64) (j : Fin 128) : S1x1x64x128.Idx := fun
  | 0 => (0 : Fin 1) | 1 => (0 : Fin 1) | 2 => i | 3 => j

/-- The contents of a buffer of 3 by 8 blocks whose block `(l, t)` is `V l t`. -/
def c8 {α : Type} (V : ℕ → ℕ → S1x1x64x128.Idx → α) : S3x8x64x128.Idx → α := fun i => V (i 0).val (i 1).val (ix4 (i 2) (i 3))
/-- The contents of a buffer of 3 by 7 blocks whose block `(l, t)` is `V l t`. -/
def c7 {α : Type} (V : ℕ → ℕ → S1x1x64x128.Idx → α) : S3x7x64x128.Idx → α := fun i => V (i 0).val (i 1).val (ix4 (i 2) (i 3))
/-- An index of an input-weight slot, from its last two coordinates. -/
def ixI (i : Fin 512) (j : Fin 1024) : S1x512x1024.Idx := fun | 0 => (0 : Fin 1) | 1 => i | 2 => j
/-- An index of an output-weight slot, from its last two coordinates. -/
def ixO (i : Fin 1024) (j : Fin 512) : S1x1024x512.Idx := fun | 0 => (0 : Fin 1) | 1 => i | 2 => j
/-- The contents of a buffer of three input-weight slots whose slot `l` is `V l`. -/
def cI {α : Type} (V : ℕ → S1x512x1024.Idx → α) : S3x512x1024.Idx → α := fun i => V (i 0).val (ixI (i 1) (i 2))
/-- The contents of a buffer of three output-weight slots whose slot `l` is `V l`. -/
def cO {α : Type} (V : ℕ → S1x1024x512.Idx → α) : S3x1024x512.Idx → α := fun i => V (i 0).val (ixO (i 1) (i 2))

/-! ## The weights -/

/-- The array of layer `l`'s input weights, and of its output weights. -/
def winSrc (c : Dev nD) : ℕ → S512x1024.Idx → Elt F .f32
  | 0 => m ((c : Thread nD τ).loc main_arg1) | 1 => m ((c : Thread nD τ).loc main_arg2) | _ => m ((c : Thread nD τ).loc main_arg3)
/-- Layer `l`'s output weights, as the device's argument holds them. -/
def woutSrc (c : Dev nD) : ℕ → S1024x512.Idx → Elt F .f32
  | 0 => m ((c : Thread nD τ).loc main_arg4) | 1 => m ((c : Thread nD τ).loc main_arg5) | _ => m ((c : Thread nD τ).loc main_arg6)

/-- Layer `l`'s weights as the local copies land them in scratch. -/
def wfi (c : Dev nD) (l : ℕ) : Vec F S1x512x1024 .f32 := fun j => winSrc m c l (Fin.cons (α := fun a => Fin (![512, 1024] a)) (j 1) (Fin.cons (j 2) finZeroElim))
/-- Layer `l`'s output weights as the local copy lands them in scratch. -/
def wfo (c : Dev nD) (l : ℕ) : Vec F S1x1024x512 .f32 := fun j => woutSrc m c l (Fin.cons (α := fun a => Fin (![1024, 512] a)) (j 1) (Fin.cons (j 2) finZeroElim))
/-- Layer `l`'s weights cast to the narrow format. -/
def wbi (c : Dev nD) (l : ℕ) : Vec F S1x512x1024 .bf16 := k0_pay1 (wfi m c l)
/-- Layer `l`'s output weights, cast. -/
def wbo (c : Dev nD) (l : ℕ) : Vec F S1x1024x512 .bf16 := k0_pay11 (wfo m c l)
/-- Rows `128 t` to `128 t + 127` of the cast output weights. -/
def wob (c : Dev nD) (l t : ℕ) : Vec F S1x128x512 .bf16 := fun j => wbo m c l (ixO ⟨(128 * t + (j 1).val) % 1024, Nat.mod_lt _ (by decide)⟩ (j 2))

/-! ## The layers -/

/-- The input block the pipeline stages. -/
def xstg (c : Dev nD) : (cc0_stg0_0 : Ref sig .tc).ty.Contents (Elt F) :=
  (win0_0.blk (0 : Fin 1)).view.read (Elt F) ((s₀ m ρ).mem ((c : Thread nD τ).loc main_arg0))

/-- The partial product of layer `l` on a device whose layer input is `x`. -/
def hid (c : Dev nD) (l : ℕ) (x : FVec F S64x512 .f32) : FVec F S64x1024 .f32 :=
  matmul dot_S64x512_S512x1024_S64x1024_1_0_0_1_n_n none (truncf .bf16 x bitsLt_bf16_f32)
    (shapeCast S512x1024 (wbi m c l) shapeCasts_S1x512x1024_S512x1024) (constant S64x1024 .f32 0x00000000#32)

set_option backward.proofsInPublic true in
/-- A block of 128 columns lies inside a partial product. -/
theorem slices_blk (t : ℕ) : S64x1024.Slices ![0, 128 * (t % 8)] S64x128 := by
  have : t % 8 < 8 := Nat.mod_lt _ (by decide)
  generalize t % 8 = t at this
  revert this t; decide

/-- The block of 128 columns of that product that device `t` sums. -/
def w4 (c : Dev nD) (l : ℕ) (x : FVec F S64x512 .f32) (t : ℕ) : FVec F S1x1x64x128 .bf16 :=
  shapeCast S1x1x64x128 (truncf .bf16 (extractStridedSlice S64x128 ![0, 128 * (t % 8)] (hid m c l x) (slices_blk t)) bitsLt_bf16_f32) shapeCasts_S64x128_S1x1x64x128

/-- A block as the sums read it. -/
def wide (v : FVec F S1x1x64x128 .bf16) : FVec F S64x128 .f32 := extf .f32 (shapeCast S64x128 v shapeCasts_S1x1x64x128_S64x128) bitsLt_bf16_f32

/-- The sum of a device's own block and the seven received ones (`r j` from step `j`), rectified and narrowed. -/
def a4 (own : FVec F S1x1x64x128 .bf16) (r : ℕ → FVec F S1x1x64x128 .bf16) : FVec F S1x1x64x128 .bf16 :=
  shapeCast S1x1x64x128 (truncf .bf16 (maximumf
    (addf (addf (addf (addf (addf (addf (addf (wide own) (wide (r 3))) (wide (r 6))) (wide (r 0))) (wide (r 2))) (wide (r 4))) (wide (r 1))) (wide (r 5)))
    (broadcast S64x128 (Scalar.ofBits .f32 0x00000000#32 : F .f32))) bitsLt_bf16_f32) shapeCasts_S64x128_S1x1x64x128

/-- One block of activations times its 128 rows of output weights. -/
def prod (a : FVec F S1x1x64x128 .bf16) (w : FVec F S1x128x512 .bf16) : FVec F S64x512 .f32 :=
  matmul dot_S64x128_S128x512_S64x512_1_0_0_1_n_n none (shapeCast S64x128 a shapeCasts_S1x1x64x128_S64x128)
    (shapeCast S128x512 w shapeCasts_S1x128x512_S128x512) (constant S64x512 .f32 0x00000000#32)

/-- The next layer's input on device `c`, from the activations `a t` of every device `t`. -/
def nextX (c : Dev nD) (l : ℕ) (a : ℕ → FVec F S1x1x64x128 .bf16) : FVec F S64x512 .f32 :=
  let p (t : ℕ) := prod (a t) (wob m c l t)
  addf (addf (addf (addf (addf (addf (addf (p c.val) (p (nx c 3).val)) (p (nx c 0).val)) (p (nx c 6).val)) (p (nx c 4).val)) (p (nx c 2).val)) (p (nx c 5).val)) (p (nx c 1).val)

set_option backward.proofsInPublic true in
/-- The device numbered `t`. -/
def dev (t : ℕ) : Dev nD := ⟨t % 8, Nat.mod_lt _ (by decide)⟩
/-- The device numbered as `c` is `c`. -/
theorem dev_val (c : Dev nD) : dev c.val = c := by revert c; decide

/-- The input of layer `l` on device `c`. -/
def X : ℕ → Dev nD → FVec F S64x512 .f32
  | 0 => fun c => shapeCast S64x512 (xstg m ρ c) shapeCasts_S64x512_S64x512
  | l + 1 => fun c => nextX m c l fun t => a4 (w4 m (dev t) l (X l (dev t)) t) fun j => w4 m (nx (dev t) (6 - j)) l (X l (nx (dev t) (6 - j))) t

/-- Block `t` of layer `l`'s partial product on device `c`. -/
def W4 (l : ℕ) (c : Dev nD) (t : ℕ) : FVec F S1x1x64x128 .bf16 := w4 m c l (X m ρ l c) t
/-- The block device `c` receives at step `j` of layer `l`'s scatter. -/
def R4 (l : ℕ) (c : Dev nD) (j : ℕ) : FVec F S1x1x64x128 .bf16 := W4 m ρ l (nx c (6 - j)) c.val
/-- The block of activations device `t` computes in layer `l`. -/
def A4 (l t : ℕ) : FVec F S1x1x64x128 .bf16 := a4 (W4 m ρ l (dev t) t) fun j => W4 m ρ l (nx (dev t) (6 - j)) t

/-- The result on device `c`. -/
def outAt (c : Dev nD) : (cc0_stg1_0 : Ref sig .tc).ty.Contents (Elt F) := X m ρ 3 c

/-! ## The buffers' contents -/

/-- The blocks of device `c`'s partial products, all written. -/
def cPart (c : Dev nD) : (cc0_scratch0 : Ref sig .tc).ty.Contents (Elt F) := c8 fun l t => W4 m ρ l c t
/-- The blocks its peers send device `c` in the reduce-scatters, all landed. -/
def cRs (c : Dev nD) : (cc0_scratch1 : Ref sig .tc).ty.Contents (Elt F) := c7 fun l j => R4 m ρ l c j
/-- The activations of every layer and device, all gathered. -/
def cAg : (cc0_scratch2 : Ref sig .tc).ty.Contents (Elt F) := c8 fun l t => A4 m ρ l t
/-- The input weights as loaded. -/
def cWfi (c : Dev nD) : (cc0_scratch3 : Ref sig .tc).ty.Contents (Elt F) := cI fun l => wfi m c l
/-- The output weights as loaded. -/
def cWfo (c : Dev nD) : (cc0_scratch4 : Ref sig .tc).ty.Contents (Elt F) := cO fun l => wfo m c l
/-- The input weights as cast. -/
def cWbi (c : Dev nD) : (cc0_scratch5 : Ref sig .tc).ty.Contents (Elt F) := cI fun l => wbi m c l
/-- The output weights as cast. -/
def cWbo (c : Dev nD) : (cc0_scratch6 : Ref sig .tc).ty.Contents (Elt F) := cO fun l => wbo m c l

/-! ## The slots as sets of indices -/

/-- The indices of slot `n` of a buffer of three times eight blocks. -/
def k8 (n : ℕ) : Finset S3x8x64x128.Idx := Finset.univ.filter fun i => 8 * (i 0).val + (i 1).val = n
/-- The indices of slot `n` of a buffer of three times seven blocks. -/
def k7 (n : ℕ) : Finset S3x7x64x128.Idx := Finset.univ.filter fun i => 7 * (i 0).val + (i 1).val = n
/-- The indices of layer `n` of the input weights. -/
def kI (n : ℕ) : Finset S3x512x1024.Idx := Finset.univ.filter fun i => (i 0).val = n
/-- The indices of layer `n` of the output weights. -/
def kO (n : ℕ) : Finset S3x1024x512.Idx := Finset.univ.filter fun i => (i 0).val = n

section Slots
variable {l t : ℕ}

/-- The rectangle of block `t` of layer `l`, of eight blocks, covers its slot. -/
theorem set8 (ht : t < 8) {h} : (Rect.unit (s := S3x8x64x128) ![l, t, 0, 0] S1x1x64x128.size h).set = k8 (8 * l + t) := by
  ext i
  have h1 := (i 1).isLt
  have h2 := (i 2).isLt
  have h3 := (i 3).isLt
  simp only [k8, Finset.mem_filter, Finset.mem_univ, true_and, Rect.mem_set_unit]
  constructor
  · intro hi
    have a0 := hi 0; have a1 := hi 1
    simp [Shape.size] at a0 a1
    omega
  · intro hi a
    change (i 1).val < 8 at h1
    have e0 : (i 0).val = l := by omega
    have e1 : (i 1).val = t := by omega
    fin_cases a
    · simp [e0]
    · simp [e1]
    · simpa using h2
    · simpa using h3
/-- The rectangle of block `t` of layer `l`, of seven blocks, covers its slot. -/
theorem set7 (ht : t < 7) {h} : (Rect.unit (s := S3x7x64x128) ![l, t, 0, 0] S1x1x64x128.size h).set = k7 (7 * l + t) := by
  ext i
  have h1 := (i 1).isLt
  have h2 := (i 2).isLt
  have h3 := (i 3).isLt
  simp only [k7, Finset.mem_filter, Finset.mem_univ, true_and, Rect.mem_set_unit]
  constructor
  · intro hi
    have a0 := hi 0; have a1 := hi 1
    simp [Shape.size] at a0 a1
    omega
  · intro hi a
    change (i 1).val < 7 at h1
    have e0 : (i 0).val = l := by omega
    have e1 : (i 1).val = t := by omega
    fin_cases a
    · simp [e0]
    · simp [e1]
    · simpa using h2
    · simpa using h3
/-- The rectangle of layer `l` of the input weights covers its slot. -/
theorem setI {h} : (Rect.unit (s := S3x512x1024) ![l, 0, 0] S1x512x1024.size h).set = kI l := by
  ext i
  have h1 := (i 1).isLt
  have h2 := (i 2).isLt
  simp only [kI, Finset.mem_filter, Finset.mem_univ, true_and, Rect.mem_set_unit]
  constructor
  · intro hi
    have a0 := hi 0
    simp [Shape.size] at a0
    omega
  · intro hi a
    fin_cases a
    · simp [hi]
    · simpa using h1
    · simpa using h2
/-- The rectangle of layer `l` of the output weights covers its slot. -/
theorem setO {h} : (Rect.unit (s := S3x1024x512) ![l, 0, 0] S1x1024x512.size h).set = kO l := by
  ext i
  have h1 := (i 1).isLt
  have h2 := (i 2).isLt
  simp only [kO, Finset.mem_filter, Finset.mem_univ, true_and, Rect.mem_set_unit]
  constructor
  · intro hi
    have a0 := hi 0
    simp [Shape.size] at a0
    omega
  · intro hi a
    fin_cases a
    · simp [hi]
    · simpa using h1
    · simpa using h2

/-- Contents given by blocks, read at a block's rectangle, are that block. -/
theorem c8_emb {α : Type} (V : ℕ → ℕ → S1x1x64x128.Idx → α) {h} (j : S1x1x64x128.Idx) :
    c8 V ((Rect.unit (s := S3x8x64x128) ![l, t, 0, 0] S1x1x64x128.size h).emb j) = V l t j := by
  unfold c8
  have h0 : (j 0).val = 0 := Nat.lt_one_iff.mp (j 0).isLt
  have h1 : (j 1).val = 0 := Nat.lt_one_iff.mp (j 1).isLt
  have e0 : ((Rect.unit (s := S3x8x64x128) ![l, t, 0, 0] S1x1x64x128.size h).emb j 0).val = l := by
    show l + 1 * (j 0).val = l; omega
  have e1 : ((Rect.unit (s := S3x8x64x128) ![l, t, 0, 0] S1x1x64x128.size h).emb j 1).val = t := by
    show t + 1 * (j 1).val = t; omega
  rw [e0, e1]
  congr 1
  funext a
  apply Fin.ext
  fin_cases a
  · exact h0.symm
  · exact h1.symm
  · show 0 + 1 * (j 2).val = _; simp
  · show 0 + 1 * (j 3).val = _; simp
/-- Contents given block by block, seven to a layer, read at a block. -/
theorem c7_emb {α : Type} (V : ℕ → ℕ → S1x1x64x128.Idx → α) {h} (j : S1x1x64x128.Idx) :
    c7 V ((Rect.unit (s := S3x7x64x128) ![l, t, 0, 0] S1x1x64x128.size h).emb j) = V l t j := by
  unfold c7
  have h0 : (j 0).val = 0 := Nat.lt_one_iff.mp (j 0).isLt
  have h1 : (j 1).val = 0 := Nat.lt_one_iff.mp (j 1).isLt
  have e0 : ((Rect.unit (s := S3x7x64x128) ![l, t, 0, 0] S1x1x64x128.size h).emb j 0).val = l := by
    show l + 1 * (j 0).val = l; omega
  have e1 : ((Rect.unit (s := S3x7x64x128) ![l, t, 0, 0] S1x1x64x128.size h).emb j 1).val = t := by
    show t + 1 * (j 1).val = t; omega
  rw [e0, e1]
  congr 1
  funext a
  apply Fin.ext
  fin_cases a
  · exact h0.symm
  · exact h1.symm
  · show 0 + 1 * (j 2).val = _; simp
  · show 0 + 1 * (j 3).val = _; simp
/-- Contents given layer by layer, read at a layer of the input weights. -/
theorem cI_emb {α : Type} (V : ℕ → S1x512x1024.Idx → α) {h} (j : S1x512x1024.Idx) :
    cI V ((Rect.unit (s := S3x512x1024) ![l, 0, 0] S1x512x1024.size h).emb j) = V l j := by
  unfold cI
  have h0 : (j 0).val = 0 := Nat.lt_one_iff.mp (j 0).isLt
  have e0 : ((Rect.unit (s := S3x512x1024) ![l, 0, 0] S1x512x1024.size h).emb j 0).val = l := by
    show l + 1 * (j 0).val = l; omega
  rw [e0]
  congr 1
  funext a
  apply Fin.ext
  fin_cases a
  · exact h0.symm
  · show 0 + 1 * (j 1).val = _; simp
  · show 0 + 1 * (j 2).val = _; simp
/-- Contents given layer by layer, read at a layer of the output weights. -/
theorem cO_emb {α : Type} (V : ℕ → S1x1024x512.Idx → α) {h} (j : S1x1024x512.Idx) :
    cO V ((Rect.unit (s := S3x1024x512) ![l, 0, 0] S1x1024x512.size h).emb j) = V l j := by
  unfold cO
  have h0 : (j 0).val = 0 := Nat.lt_one_iff.mp (j 0).isLt
  have e0 : ((Rect.unit (s := S3x1024x512) ![l, 0, 0] S1x1024x512.size h).emb j 0).val = l := by
    show l + 1 * (j 0).val = l; omega
  rw [e0]
  congr 1
  funext a
  apply Fin.ext
  fin_cases a
  · exact h0.symm
  · show 0 + 1 * (j 1).val = _; simp
  · show 0 + 1 * (j 2).val = _; simp

end Slots

end Cert.KernelIdealProof

end
-- ==== Proof.Layer.lean ====
module

public import proofs.«01_k».proof.Proof.Values
public import proofs.«01_k».proof.Proof.Gen.ReferenceIdeal.Run
public import Idealize.ShloMosaic.Lib.MatmulPlain
public import Idealize.ShloMosaic.Lib.StackMember
public import Idealize.ShloMosaic.Lib.ValueLayout
public import Idealize.ShloMosaic.Lib.IdealHost
public import Idealize.ShloMosaic.Lib.Layout

/-! # The result is the reference's

At the extended reals a device's layer input is its block of the columns of the reference's: the
kernel's sums over devices and over the coordinates of a block are the reference's sums over the
whole coordinate, in another order. -/

@[expose] public section

noncomputable section

namespace Cert.KernelIdealProof

open Cert.KernelIdeal Cert.KernelIdeal.Gen

open Idealize.ShloMosaic
open Idealize.ShloMosaic.TcCoe
open Idealize.ShloMosaic.ValueIdx (ix2 ix3 eq_ix2 ix0)
open scoped BigOperators

/-! ## Sums by blocks -/

/-- A coordinate of a whole dimension of `k` blocks of `n`: coordinate `d` of block `c`. -/
def at_ {k n : ℕ} (c : Fin k) (d : Fin n) : Fin (k * n) := finProdFinEquiv (c, d)
/-- The number of element `d` of block `c`. -/
theorem at_val {k n : ℕ} (c : Fin k) (d : Fin n) : (at_ c d).val = d.val + n * c.val := rfl
/-- A sum over the whole dimension is the sum over the blocks of the sums over each. -/
theorem sum_at {k n : ℕ} (f : Fin (k * n) → EReal) : ∑ i, f i = ∑ c : Fin k, ∑ d : Fin n, f (at_ c d) := by
  rw [← Equiv.sum_comp finProdFinEquiv, Fintype.sum_prod_type]; rfl

/-- The devices in the order a device adds what it has from each, and that this is every device once. -/
def turn (c : Dev nD) : List (Dev nD) := [c, nx c 3, nx c 0, nx c 6, nx c 4, nx c 2, nx c 5, nx c 1]
/-- The turn meets no device twice. -/
theorem turn_nodup : ∀ c, (turn c).Nodup := by decide
/-- The turn meets every device. -/
theorem turn_all : ∀ c, (turn c).toFinset = Finset.univ := by decide
/-- The sum in that order is the sum over the devices. -/
theorem sum_next (c : Dev nD) (f : Dev nD → EReal) :
    f c + f (nx c 3) + f (nx c 0) + f (nx c 6) + f (nx c 4) + f (nx c 2) + f (nx c 5) + f (nx c 1) = ∑ t, f t := by
  rw [← turn_all c, List.sum_toFinset f (turn_nodup c)]
  simp only [turn, List.map_cons, List.map_nil, List.sum_cons, List.sum_nil, add_zero, add_assoc]
/-- The received blocks are added in the same order. -/
theorem sum_recv (c : Dev nD) (f : Dev nD → EReal) :
    f c + f (nx c (6 - 3)) + f (nx c (6 - 6)) + f (nx c (6 - 0)) + f (nx c (6 - 2)) + f (nx c (6 - 4)) + f (nx c (6 - 1)) + f (nx c (6 - 5)) = ∑ t, f t :=
  sum_next c f

/-! ## The kernel's values at an index -/

/-- The index of a block at row `i`, column `q`. -/
abbrev bx (i : Fin 64) (q : Fin 128) : S1x1x64x128.Idx := ValueIdx.ix4 (0 : Fin 1) (0 : Fin 1) i q

/-- A block as a matrix, at an index. -/
theorem cast_blk {α : Type} (x : S1x1x64x128.Idx → α) (h : S1x1x64x128.ShapeCasts S64x128) (i : Fin 64) (q : Fin 128) :
    shapeCast S64x128 x h (ix2 i q) = x (bx i q) :=
  shapeCast_apply x h _ _ (by rw [Shape.rowMajor_val_four, Shape.rowMajor_val_two]; simp [Shape.size])
/-- A matrix as a block, at an index. -/
theorem cast_unblk {α : Type} (x : S64x128.Idx → α) (h : S64x128.ShapeCasts S1x1x64x128) (i : Fin 64) (q : Fin 128) :
    shapeCast S1x1x64x128 x h (bx i q) = x (ix2 i q) :=
  shapeCast_apply x h _ _ (by rw [Shape.rowMajor_val_four, Shape.rowMajor_val_two]; simp [Shape.size])

variable (m : (ℓ : Loc nD τ sig) → Buf (Elt Ideal) ℓ) (ρ : Dev nD → PrngReg)

/-- The cast input weights are the argument's. -/
theorem wbi_apply (c : Dev nD) (l : ℕ) (d : Fin 512) (k : Fin 1024) :
    shapeCast S512x1024 (wbi m c l) shapeCasts_S1x512x1024_S512x1024 (ix2 d k) = winSrc m c l (ix2 d k) := by
  rw [ValueIdx.shapeCast_1ab_ab_apply]
  unfold wbi k0_pay1
  rw [ValueIdx.shapeCast_ab_1ab_apply]
  show shapeCast S512x1024 (wfi m c l) _ (ix2 d k) = _
  rw [ValueIdx.shapeCast_1ab_ab_apply]
  unfold wfi
  congr 1
  funext a
  fin_cases a <;> rfl
/-- A block of rows of the cast output weights is the argument's. -/
theorem wob_apply (c : Dev nD) (l : ℕ) (t : Fin 8) (q : Fin 128) (j : Fin 512) :
    shapeCast S128x512 (wob m c l t.val) shapeCasts_S1x128x512_S128x512 (ix2 q j) = woutSrc m c l (ix2 (at_ t q) j) := by
  rw [ValueIdx.shapeCast_1ab_ab_apply]
  unfold wob
  have e : ixO ⟨(128 * t.val + q.val) % 1024, Nat.mod_lt _ (by decide)⟩ j = ix3 (0 : Fin 1) (at_ t q : Fin 1024) j := by
    funext a
    fin_cases a
    · rfl
    · apply Fin.ext
      show (128 * t.val + q.val) % 1024 = q.val + 128 * t.val
      have := t.isLt; have := q.isLt; omega
    · rfl
  show wbo m c l (ixO ⟨(128 * t.val + q.val) % 1024, Nat.mod_lt _ (by decide)⟩ j) = _
  rw [e]
  unfold wbo k0_pay11
  rw [ValueIdx.shapeCast_ab_1ab_apply]
  show shapeCast S1024x512 (wfo m c l) _ (ix2 (at_ t q : Fin 1024) j) = _
  rw [ValueIdx.shapeCast_1ab_ab_apply]
  unfold wfo
  congr 1
  funext a
  fin_cases a <;> rfl

/-- A device's partial product. -/
theorem hid_apply (c : Dev nD) (l : ℕ) (x : FVec Ideal S64x512 .f32) (i : Fin 64) (k : Fin 1024) :
    hid m c l x (ix2 i k) = ∑ d : Fin 512, x (ix2 i d) * winSrc m c l (ix2 d k) := by
  unfold hid
  rw [show dot_S64x512_S512x1024_S64x1024_1_0_0_1_n_n = DotDims.plain 64 512 1024 from rfl]
  refine (Ideal.matmul_plain_apply none _ _ _ i k).trans ?_
  rw [show (constant S64x1024 .f32 0x00000000#32 : FVec Ideal S64x1024 .f32) (ix2 i k) = 0 from Ideal.ofBits_zero_f32, zero_add]
  refine Finset.sum_congr rfl fun d _ => ?_
  rw [wbi_apply]
  rfl

/-- Its block `t`. -/
theorem w4_apply (c : Dev nD) (l : ℕ) (x : FVec Ideal S64x512 .f32) (t : Fin 8) (i : Fin 64) (q : Fin 128) :
    w4 m c l x t.val (bx i q) = ∑ d : Fin 512, x (ix2 i d) * winSrc m c l (ix2 d (at_ t q)) := by
  rw [← hid_apply]
  unfold w4
  rw [cast_unblk]
  show extractStridedSlice S64x128 ![0, 128 * (t.val % 8)] (hid m c l x) (slices_blk t.val) (ix2 i q) = _
  unfold extractStridedSlice
  congr 1
  funext a
  apply Fin.ext
  fin_cases a
  · show 0 + i.val = i.val; omega
  · show 128 * (t.val % 8) + q.val = q.val + 128 * t.val
    have := t.isLt; omega

/-- A block widened to float32 is the block. -/
theorem wide_apply (v : FVec Ideal S1x1x64x128 .bf16) (i : Fin 64) (q : Fin 128) : wide v (ix2 i q) = v (bx i q) := by
  unfold wide
  show shapeCast S64x128 v _ (ix2 i q) = _
  rw [cast_blk]

/-- The sum of the eight blocks, rectified. -/
theorem a4_apply (own : FVec Ideal S1x1x64x128 .bf16) (r : ℕ → FVec Ideal S1x1x64x128 .bf16) (i : Fin 64) (q : Fin 128) :
    a4 own r (bx i q) = max (own (bx i q) + r 3 (bx i q) + r 6 (bx i q) + r 0 (bx i q) + r 2 (bx i q) + r 4 (bx i q) + r 1 (bx i q) + r 5 (bx i q)) 0 := by
  unfold a4
  rw [cast_unblk]
  show max (wide own (ix2 i q) + wide (r 3) (ix2 i q) + wide (r 6) (ix2 i q) + wide (r 0) (ix2 i q) + wide (r 2) (ix2 i q) + wide (r 4) (ix2 i q) + wide (r 1) (ix2 i q) + wide (r 5) (ix2 i q)) (Ideal.ofBits .f32 0x00000000#32) = _
  rw [Ideal.ofBits_zero_f32]
  simp only [wide_apply]

/-- A block of activations times its rows of output weights. -/
theorem prod_apply (c : Dev nD) (l : ℕ) (t : Fin 8) (a : FVec Ideal S1x1x64x128 .bf16) (i : Fin 64) (j : Fin 512) :
    prod a (wob m c l t.val) (ix2 i j) = ∑ q : Fin 128, a (bx i q) * woutSrc m c l (ix2 (at_ t q) j) := by
  unfold prod
  rw [show dot_S64x128_S128x512_S64x512_1_0_0_1_n_n = DotDims.plain 64 128 512 from rfl]
  refine (Ideal.matmul_plain_apply none _ _ _ i j).trans ?_
  rw [show (constant S64x512 .f32 0x00000000#32 : FVec Ideal S64x512 .f32) (ix2 i j) = 0 from Ideal.ofBits_zero_f32, zero_add]
  refine Finset.sum_congr rfl fun q _ => ?_
  rw [wob_apply, cast_blk]

/-! ## One layer -/

/-- The reference's layer, at an index. -/
def lay (x : Fin 64 → Fin (8 * 512) → EReal) (Wi : Fin (8 * 512) → Fin 1024 → EReal) (Wo : Fin (8 * 128) → Fin (8 * 512) → EReal)
    (i : Fin 64) (J : Fin (8 * 512)) : EReal :=
  ∑ K : Fin (8 * 128), max (∑ D : Fin (8 * 512), x i D * Wi D K) 0 * Wo K J

/-- A device's layer is its block of the columns of the reference's. -/
theorem lay_block (l : ℕ) (X : Dev nD → FVec Ideal S64x512 .f32)
    (x : Fin 64 → Fin (8 * 512) → EReal) (Wi : Fin (8 * 512) → Fin 1024 → EReal) (Wo : Fin (8 * 128) → Fin (8 * 512) → EReal)
    (hX : ∀ c i d, X c (ix2 i d) = x i (at_ c d)) (hI : ∀ c d k, winSrc m c l (ix2 d k) = Wi (at_ c d) k)
    (hO : ∀ c k j, woutSrc m c l (ix2 k j) = Wo k (at_ c j)) (c : Dev nD) (i : Fin 64) (j : Fin 512) :
    nextX m c l (fun t => a4 (w4 m (dev t) l (X (dev t)) t) fun j => w4 m (nx (dev t) (6 - j)) l (X (nx (dev t) (6 - j))) t) (ix2 i j)
      = lay x Wi Wo i (at_ c j) := by
  have hA : ∀ (t : Fin 8) (q : Fin 128), a4 (w4 m (dev t.val) l (X (dev t.val)) t.val) (fun j => w4 m (nx (dev t.val) (6 - j)) l (X (nx (dev t.val) (6 - j))) t.val) (bx i q)
      = max (∑ D : Fin (8 * 512), x i D * Wi D (at_ t q)) 0 := by
    intro t q
    rw [a4_apply, show dev t.val = t from dev_val t]
    rw [sum_recv t fun e => w4 m e l (X e) t.val (bx i q), sum_at]
    congr 1
    refine Finset.sum_congr rfl fun e _ => ?_
    rw [w4_apply]
    exact Finset.sum_congr rfl fun d _ => by rw [hX, hI]
  unfold lay
  rw [sum_at]
  unfold nextX
  dsimp only
  refine (sum_next c fun t => prod (a4 (w4 m (dev t.val) l (X (dev t.val)) t.val) fun j => w4 m (nx (dev t.val) (6 - j)) l (X (nx (dev t.val) (6 - j))) t.val) (wob m c l t.val) (ix2 i j)).trans ?_
  refine Finset.sum_congr rfl fun t _ => ?_
  rw [prod_apply]
  exact Finset.sum_congr rfl fun q _ => by rw [hA, hO]

end Cert.KernelIdealProof

end
-- ==== Proof.Proto.lean ====
module

public import proofs.«01_k».proof.Proof.Values
public import Idealize.ShloMosaic.Lib.Transfers

/-! # The protocol

The semaphores as cells of the rounds library, what each signal or transfer hands over, what every
device owes the others at launch, and the assertion `St` that describes a device in the middle of its
program by counters: how many signals it has sent, how many transfers it has issued, and so on. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource that counts the rounds of the body's cells. -/
abbrev UB : Type := URounds (GSem nD τ sig) ℕ
/-- The user's resource: the pipeline's and the body's. -/
abbrev UU : Type := UR sig nD τ × UB

local notation "𝕄" => MT nD τ sig Unit (Elt F) ℕ UU ℕ

/-- Where the pipeline's resource sits. -/
abbrev EP : Emb (UR sig nD τ) (MT nD τ sig Unit (Elt F) ℕ UU ℕ) := embL
/-- Where the body's resource sits. -/
abbrev ER : Emb UB (MT nD τ sig Unit (Elt F) ℕ UU ℕ) := embR

variable (m : (ℓ : Loc nD τ sig) → Buf (Elt F) ℓ) (ρ : Dev nD → PrngReg)

/-! ## Cells -/

/-- The barrier semaphore. -/
abbrev barS : Sem sig := (SemArray.scalar (sig.barrier 0 rfl) : Sems sig S_).sem
set_option backward.proofsInPublic true in
/-- The DMA semaphore numbered `n`: 2 to 4 the input weights' copies, 5 to 7 the output weights', 8 to 49 the sends,
    50 to 91 the receives. -/
def dq (n : ℕ) : DmaSem sig := ⟨n % 92, Nat.mod_lt _ (by decide)⟩

/-- Device `c`'s barrier cell. -/
abbrev barCell (c : Dev nD) : GSem nD τ sig := ((c : Thread nD τ), .reg barS)
/-- Device `c`'s DMA cell `n`. -/
abbrev dCell (c : Dev nD) (n : ℕ) : GSem nD τ sig := ((c : Thread nD τ), .dma (dq n))

/-- The send and receive of the `n`-th transfer in program order: stage `n / 7`, step `sord (n % 7)`. -/
def sk (n : ℕ) : ℕ := 7 * (n / 7) + sord (n % 7)
/-- The `n`-th receive waited for. -/
def rk (n : ℕ) : ℕ := 7 * (n / 7) + rord (n % 7)

/-- What a block's transfer credits its semaphores, and what a weight array's copy does. -/
abbrev Nb : ℕ := (cc0_scratch0 : Ref sig .tc).dmaCredit S64x128 .bf16
/-- What the landing of a layer's weights pays. -/
abbrev Nw : ℕ := (cc0_scratch3 : Ref sig .tc).dmaCredit S512x1024 .f32

/-- A block landing in a reduce-scatter pays the amount of a block. -/
theorem Nb_rs : (cc0_scratch1 : Ref sig .tc).dmaCredit S64x128 .bf16 = Nb := rfl
/-- A block landing in an all-gather pays the amount of a block. -/
theorem Nb_ag : (cc0_scratch2 : Ref sig .tc).dmaCredit S64x128 .bf16 = Nb := rfl
/-- The output weights pay as much as the input weights. -/
theorem Nw_wo : (cc0_scratch4 : Ref sig .tc).dmaCredit S1024x512 .f32 = Nw := by decide

/-! ## Points-to assertions of the slots -/

/-- Device `c` owns slot `n` of its partial products, at contents `f`. -/
def pPart (c : Dev nD) (n : ℕ) (f : (cc0_scratch0 : Ref sig .tc).ty.Contents (Elt F)) : sProp 𝕄 :=
  ((c : Thread nD τ).loc cc0_scratch0) ↦[k8 n]{fullShare} f
/-- Device `c` owns slot `n` of its reduce-scatter buffer, at contents `f`. -/
def pRs (c : Dev nD) (n : ℕ) (f : (cc0_scratch1 : Ref sig .tc).ty.Contents (Elt F)) : sProp 𝕄 :=
  ((c : Thread nD τ).loc cc0_scratch1) ↦[k7 n]{fullShare} f
/-- Device `c` owns a share of slot `n` of its all-gather buffer, at contents `f`. -/
def pAg (c : Dev nD) (n : ℕ) (q : PosShare TreeShare) (f : (cc0_scratch2 : Ref sig .tc).ty.Contents (Elt F)) : sProp 𝕄 :=
  ((c : Thread nD τ).loc cc0_scratch2) ↦[k8 n]{q} f
/-- Device `c` owns layer `l` of its loaded input weights, at contents `f`. -/
def pWfi (c : Dev nD) (l : ℕ) (f : (cc0_scratch3 : Ref sig .tc).ty.Contents (Elt F)) : sProp 𝕄 :=
  ((c : Thread nD τ).loc cc0_scratch3) ↦[kI l]{fullShare} f
/-- Device `c` owns layer `l` of its loaded output weights, at contents `f`. -/
def pWfo (c : Dev nD) (l : ℕ) (f : (cc0_scratch4 : Ref sig .tc).ty.Contents (Elt F)) : sProp 𝕄 :=
  ((c : Thread nD τ).loc cc0_scratch4) ↦[kO l]{fullShare} f
/-- Device `c` owns layer `l` of its cast input weights, at contents `f`. -/
def pWbi (c : Dev nD) (l : ℕ) (f : (cc0_scratch5 : Ref sig .tc).ty.Contents (Elt F)) : sProp 𝕄 :=
  ((c : Thread nD τ).loc cc0_scratch5) ↦[kI l]{fullShare} f
/-- Device `c` owns layer `l` of its cast output weights, at contents `f`. -/
def pWbo (c : Dev nD) (l : ℕ) (f : (cc0_scratch6 : Ref sig .tc).ty.Contents (Elt F)) : sProp 𝕄 :=
  ((c : Thread nD τ).loc cc0_scratch6) ↦[kO l]{fullShare} f

/-- The array of layer `l`'s input weights, whole; of its output weights. -/
def srcI (c : Dev nD) (l : ℕ) : sProp 𝕄 :=
  match l with
  | 0 => iprop(((c : Thread nD τ).loc main_arg1) ↦{fullShare} winSrc m c 0)
  | 1 => iprop(((c : Thread nD τ).loc main_arg2) ↦{fullShare} winSrc m c 1)
  | _ => iprop(((c : Thread nD τ).loc main_arg3) ↦{fullShare} winSrc m c 2)
/-- Device `c` owns its argument of layer `l`'s output weights. -/
def srcO (c : Dev nD) (l : ℕ) : sProp 𝕄 :=
  match l with
  | 0 => iprop(((c : Thread nD τ).loc main_arg4) ↦{fullShare} woutSrc m c 0)
  | 1 => iprop(((c : Thread nD τ).loc main_arg5) ↦{fullShare} woutSrc m c 1)
  | _ => iprop(((c : Thread nD τ).loc main_arg6) ↦{fullShare} woutSrc m c 2)

/-! ## Payloads -/

/-- What the end of a local copy returns: the slot it filled, and its source. -/
def wiPay (c : Dev nD) (l : ℕ) : sProp 𝕄 := iprop(pWfi c l (cWfi m c) ∗ srcI m c l)
/-- What the end of the local copy of layer `l`'s output weights returns. -/
def woPay (c : Dev nD) (l : ℕ) : sProp 𝕄 := iprop(pWfo c l (cWfo m c) ∗ srcO m c l)
/-- What the end of the transfer numbered `a` returns to its sender: the source. -/
def sendPay (c : Dev nD) (a : ℕ) : sProp 𝕄 :=
  if (a / 7) % 2 = 0 then pPart c (8 * (a / 14) + (nx c (a % 7)).val) (cPart m ρ c)
  else pAg c (8 * (a / 14) + c.val) (Transfers.shareTokN fullShare (a % 7)) (cAg m ρ)
/-- What it hands its receiver: the filled slot. -/
def recvPay (c : Dev nD) (a : ℕ) : sProp 𝕄 :=
  if (a / 7) % 2 = 0 then pRs c (7 * (a / 14) + a % 7) (cRs m ρ c)
  else pAg c (8 * (a / 14) + (nx c (6 - a % 7)).val) fullShare (cAg m ρ)
/-- The slots of device `e` that step `j` of layer `l` of device `c` writes. -/
def rawRs (e : Dev nD) (n : ℕ) : sProp 𝕄 := iprop(∃ f, pRs (F := F) e n f)
/-- A slot of the all-gather buffer at contents not yet known. -/
def rawAg (e : Dev nD) (n : ℕ) : sProp 𝕄 := iprop(∃ f, pAg (F := F) e n fullShare f)
/-- The slots of device `e` that device `c`, at place `j`, is to write in layer `l`. -/
def slots (e c : Dev nD) (j l : ℕ) : sProp 𝕄 := iprop(rawRs e (7 * l + j) ∗ rawAg e (8 * l + c.val))
/-- What the barrier signal numbered `i` hands device `g`: the slots of the signalling device that `g` is to write. -/
def barPay (g : Dev nD) (i : ℕ) : sProp 𝕄 :=
  iprop(slots (F := F) (nx g (6 - i)) g (6 - i) 0 ∗ slots (F := F) (nx g (6 - i)) g (6 - i) 1 ∗ slots (F := F) (nx g (6 - i)) g (6 - i) 2)

/-- What the wait on DMA semaphore `n` returns. -/
def dmaPay (c : Dev nD) (n : ℕ) : sProp 𝕄 :=
  if n < 5 then wiPay m c (n - 2) else if n < 8 then woPay m c (n - 5) else if n < 50 then sendPay m ρ c (n - 8) else recvPay m ρ c (n - 50)

/-- The argument of the input weights may be kept in an invariant. -/
instance srcI_storable (c : Dev nD) (l : ℕ) : BI.Storable (upEmb : UEmb _ 𝕄) (srcI m c l) := by
  unfold srcI; split <;> infer_instance
/-- The argument of the output weights may be kept in an invariant. -/
instance srcO_storable (c : Dev nD) (l : ℕ) : BI.Storable (upEmb : UEmb _ 𝕄) (srcO m c l) := by
  unfold srcO; split <;> infer_instance
/-- What a DMA cell pays may be kept in an invariant. -/
instance dmaPay_storable (c : Dev nD) (n : ℕ) : BI.Storable (upEmb : UEmb _ 𝕄) (dmaPay m ρ c n) := by
  unfold dmaPay wiPay woPay sendPay recvPay pPart pRs pAg pWfi pWfo
  (repeat' split) <;> infer_instance
/-- What a barrier signal hands over may be kept in an invariant. -/
instance barPay_storable (g : Dev nD) (i : ℕ) : BI.Storable (upEmb : UEmb _ 𝕄) (barPay (F := F) g i) := by
  unfold barPay slots rawRs rawAg pRs pAg
  infer_instance

/-! ## The schedule -/

/-- The amount of a block is not zero. -/
theorem Nb_pos : 0 < Nb := sig.dmaCredit_pos _ _ _ _ _ (by decide)
/-- The amount of a layer's weights is not zero. -/
theorem Nw_pos : 0 < Nw := sig.dmaCredit_pos _ _ _ _ _ (by decide)

/-- One round: the barrier of a device has seven duties of one unit, every DMA semaphore of the kernel one duty of its
    transfer's credit. -/
def Rd : Rounds.Schedule (GSem nD τ sig) ℕ 𝕄 where
  duties g r := if r = 0 then (match g.2 with | .reg _ => Finset.range 7 | .dma _ => {0}) else ∅
  unitless _ := False
  amount g _ _ := match g.2 with | .reg _ => 1 | .dma q => if q.val < 8 then Nw else Nb
  payload g _ d := match g.2 with | .reg _ => barPay g.1.1 d | .dma q => dmaPay m ρ g.1.1 q.val
  amount_pos g _ _ _ := by
    rcases g with ⟨t, _ | q⟩
    · exact Nat.one_pos
    · dsimp only; split
      · exact Nw_pos
      · exact Nb_pos

/-- Every payload of the schedule may be kept in an invariant. -/
instance Rd_storable (g : GSem nD τ sig) (r : ℕ) (d : ℕ) : BI.Storable (upEmb : UEmb _ 𝕄) ((Rd (F := F) m ρ).payload g r d) := by
  rcases g with ⟨t, _ | q⟩
  · exact barPay_storable _ _
  · exact dmaPay_storable m ρ _ _

/-- No cell has a duty after its first round. -/
theorem duties_later (g : GSem nD τ sig) : ∀ r, 1 ≤ r → (Rd (F := F) m ρ).duties g r = ∅ :=
  fun r hr => if_neg (by omega)
/-- DMA semaphore `n` has number `n`. -/
theorem dq_val {n : ℕ} (h : n < 92) : (dq n).val = n := Nat.mod_eq_of_lt h

/-! ## What is owed; the levels -/

/-- The cell a device's `k`-th remote credit goes to: first the seven barriers, then the receives of its transfers. -/
def ocell (c : Dev nD) (k : ℕ) : GSem nD τ sig :=
  if k < 7 then barCell (nx c k) else dCell (nx c (sord ((k - 7) % 7))) (50 + sk (k - 7))
/-- How much the `k`-th thing owed is: a signal of one, or a block. -/
def oamt (k : ℕ) : ℕ := if k < 7 then 1 else Nb
/-- What a device still owes once it has paid the first `k`. -/
def Oat (c : Dev nD) (k : ℕ) : CellTallies nD τ sig Unit := ∑ i ∈ Finset.Ico k 49, tallyAt (ocell c i) () (oamt i)

/-- The ledgers: every cell of a TensorCore has one. -/
def L (g : GSem nD τ sig) : Finset Unit := if g.1.2 = .tc then {()} else ∅
/-- Barriers at 1, the receives of stage `s` at `2 + s`, everything else at 0. -/
def lv (g : GSem nD τ sig) (_ : Unit) : ℕ := match g.2 with | .reg _ => 1 | .dma q => if q.val < 50 then 0 else 2 + (q.val - 50) / 7

/-- A cell of another thread has none. -/
theorem L_of_ne (g : GSem nD τ sig) (h : g.1.2 ≠ .tc) : L g = ∅ := if_neg h
/-- A cell of a TensorCore has one. -/
theorem L_tc (c : Dev nD) (sm : SemLoc sig) : L ((c : Thread nD τ), sm) = {()} := if_pos rfl

/-! ## The cells indexed -/

/-- The kernel's semaphores: the barrier, then the DMA semaphores 2 to 91. -/
abbrev csem (k : Fin 91) : SemLoc sig := if k.val = 0 then .reg barS else .dma (dq (1 + k.val))
/-- The cell of a device and a number. -/
abbrev kcell (ck : Dev nD × Fin 91) : GSem nD τ sig := ((ck.1 : Thread nD τ), csem ck.2)

/-- A cell's invariant, at some name, and that its first round has been reached. -/
def IC (g : GSem nD τ sig) : sProp 𝕄 := iprop(∃ κ : ℕ, cellInv ER (Rd m ρ) κ g ∗ reached ER g 0)
/-- A cell's invariant can be copied. -/
instance IC_persistent (g : GSem nD τ sig) : BI.Persistent (IC (F := F) m ρ g) := by unfold IC; infer_instance
/-- The invariants of all cells of all devices. -/
def recs : sProp 𝕄 := bigSep Finset.univ fun ck : Dev nD × Fin 91 => IC m ρ (kcell ck)
/-- So can all of them. -/
instance recs_persistent : BI.Persistent (recs (F := F) m ρ) := by unfold recs; infer_instance

/-! ## The state of a device's program -/

/-- What it still owes, after `k` remote credits. -/
def owesC (c : Dev nD) (k : ℕ) : sProp 𝕄 := iprop(∃ W, owes (c : Thread nD τ) (Oat c k) W)
/-- The tokens and slots of the signals not yet sent. -/
def sigC (c : Dev nD) (ng : ℕ) : sProp 𝕄 :=
  bigSep (Finset.Ico ng 7) fun i => iprop(dutyTok ER (barCell (nx c i)) 0 i ∗ barPay (F := F) (nx c i) i)
/-- Its own barrier, before and after the wait. -/
def barC (c : Dev nD) : Bool → sProp 𝕄
  | false => iprop(cred (tallyAt (barCell c) () 7) ∗ atPos ER (barCell c) 0 ∅ 0)
  | true => iprop(atPos ER (barCell c) (0 + 1) ∅ 0)
/-- The slots the transfers `ns`, …, `41` are to write. -/
def dst (c : Dev nD) (a : ℕ) : sProp 𝕄 :=
  if (a / 7) % 2 = 0 then rawRs (F := F) (nx c (a % 7)) (7 * (a / 14) + a % 7) else rawAg (F := F) (nx c (a % 7)) (8 * (a / 14) + c.val)
/-- The slots still to be written by copies, once the barrier has handed them over. -/
def dstC (c : Dev nD) (b : Bool) (ns : ℕ) : sProp 𝕄 :=
  if b then bigSep (Finset.Ico ns 42) fun n => dst (F := F) c (sk n) else iprop(emp)
/-- The tokens of the transfers not yet issued. -/
def tokC (c : Dev nD) (ns : ℕ) : sProp 𝕄 :=
  bigSep (Finset.Ico ns 42) fun n => iprop(dutyTok ER (dCell c (8 + sk n)) 0 0 ∗ dutyTok ER (dCell (nx c (sk n % 7)) (50 + sk n)) 0 0)
/-- The transfers issued and not yet waited for. -/
def crdC (c : Dev nD) (nw ns : ℕ) : sProp 𝕄 := bigSep (Finset.Ico nw ns) fun n => cred (tallyAt (dCell c (8 + sk n)) () Nb)
/-- The positions of the send cells, `nw` of them waited for. -/
def satC (c : Dev nD) (nw : ℕ) : sProp 𝕄 :=
  iprop((bigSep (Finset.Ico nw 42) fun n => atPos ER (dCell c (8 + sk n)) 0 ∅ 0)
    ∗ bigSep (Finset.Ico 0 nw) fun n => atPos ER (dCell c (8 + sk n)) (0 + 1) ∅ 0)
/-- The sources ready to be sent, `ns` of them sent and `x` ready. -/
def srdC (c : Dev nD) (ns x : ℕ) : sProp 𝕄 := bigSep (Finset.Ico ns x) fun n => sendPay m ρ c (sk n)
/-- The sources returned. -/
def retC (c : Dev nD) (nw : ℕ) : sProp 𝕄 := bigSep (Finset.Ico 0 nw) fun n => sendPay m ρ c (sk n)
/-- The receives, `nr` of them waited for. -/
def rcvC (c : Dev nD) (nr : ℕ) : sProp 𝕄 :=
  iprop((bigSep (Finset.Ico nr 42) fun n => iprop(cred (tallyAt (dCell c (50 + rk n)) () Nb) ∗ atPos ER (dCell c (50 + rk n)) 0 ∅ 0))
    ∗ bigSep (Finset.Ico 0 nr) fun n => iprop(atPos ER (dCell c (50 + rk n)) (0 + 1) ∅ 0 ∗ recvPay m ρ c (rk n)))
/-- The partial-product blocks: `np` of them stored, those of the first `lp` layers handed on but the device's own. -/
def partC (c : Dev nD) (np lp : ℕ) : sProp 𝕄 :=
  iprop((bigSep (Finset.Ico np 24) fun n => iprop(∃ f, pPart (F := F) c n f))
    ∗ (bigSep (Finset.Ico (8 * lp) np) fun n => pPart c n (cPart m ρ c))
    ∗ bigSep (Finset.Ico 0 lp) fun l => pPart c (8 * l + c.val) (cPart m ρ c))
/-- The device's own activation blocks, those of the first `na` layers stored. -/
def agC (c : Dev nD) (na : ℕ) : sProp 𝕄 :=
  iprop((bigSep (Finset.Ico na 3) fun l => rawAg (F := F) c (8 * l + c.val))
    ∗ bigSep (Finset.Ico 0 na) fun l => pAg c (8 * l + c.val) (Transfers.shareDrop fullShare 7) (cAg m ρ))
/-- The input weights: `s` copies started, `w` waited for, `k` slots cast. -/
def wiC (c : Dev nD) (s w k : ℕ) : sProp 𝕄 :=
  iprop((bigSep (Finset.Ico s 3) fun l => iprop((∃ f, pWfi (F := F) c l f) ∗ dutyTok ER (dCell c (2 + l)) 0 0 ∗ srcI m c l))
    ∗ (bigSep (Finset.Ico w s) fun l => cred (tallyAt (dCell c (2 + l)) () Nw))
    ∗ (bigSep (Finset.Ico w 3) fun l => atPos ER (dCell c (2 + l)) 0 ∅ 0)
    ∗ (bigSep (Finset.Ico 0 w) fun l => iprop(atPos ER (dCell c (2 + l)) (0 + 1) ∅ 0 ∗ wiPay m c l))
    ∗ (bigSep (Finset.Ico k 3) fun l => iprop(∃ f, pWbi (F := F) c l f))
    ∗ bigSep (Finset.Ico 0 k) fun l => pWbi c l (cWbi m c))
/-- The output weights likewise. -/
def woC (c : Dev nD) (s w k : ℕ) : sProp 𝕄 :=
  iprop((bigSep (Finset.Ico s 3) fun l => iprop((∃ f, pWfo (F := F) c l f) ∗ dutyTok ER (dCell c (5 + l)) 0 0 ∗ srcO m c l))
    ∗ (bigSep (Finset.Ico w s) fun l => cred (tallyAt (dCell c (5 + l)) () Nw))
    ∗ (bigSep (Finset.Ico w 3) fun l => atPos ER (dCell c (5 + l)) 0 ∅ 0)
    ∗ (bigSep (Finset.Ico 0 w) fun l => iprop(atPos ER (dCell c (5 + l)) (0 + 1) ∅ 0 ∗ woPay m c l))
    ∗ (bigSep (Finset.Ico k 3) fun l => iprop(∃ f, pWbo (F := F) c l f))
    ∗ bigSep (Finset.Ico 0 k) fun l => pWbo c l (cWbo m c))
/-- The staged input. -/
def xC (c : Dev nD) : sProp 𝕄 := iprop(((c : Thread nD τ).loc cc0_stg0_0) ↦{fullShare} xstg m ρ c)
/-- The staged result, before and after its store. -/
def outC (c : Dev nD) : Bool → sProp 𝕄
  | false => iprop(∃ f : (cc0_stg1_0 : Ref sig .tc).ty.Contents (Elt F), ((c : Thread nD τ).loc cc0_stg1_0) ↦{fullShare} f)
  | true => iprop(((c : Thread nD τ).loc cc0_stg1_0) ↦{fullShare} outAt m ρ c)

/-- Device `c` in the middle of its program: `ng` signals sent, the barrier passed or not, `ns` transfers issued of which
    `nw` waited for and `x` with their source ready, `nr` receives waited for, `np` blocks of partial products stored and
    those of `lp` layers handed on, `na` blocks of activations stored, the weights' counters, and the result stored or not. -/
def St (c : Dev nD) (ng : ℕ) (b : Bool) (ns nw x nr np lp na si wi ki so wo ko : ℕ) (od : Bool) : sProp 𝕄 :=
  iprop(recs m ρ ∗ levAts L lv ∗ owesC c (ng + ns) ∗ sigC c ng ∗ barC c b ∗ dstC c b ns ∗ tokC c ns ∗ crdC c nw ns ∗ satC c nw
    ∗ srdC m ρ c ns x ∗ retC m ρ c nw ∗ rcvC m ρ c nr ∗ partC m ρ c np lp ∗ agC m ρ c na ∗ wiC m c si wi ki ∗ woC m c so wo ko
    ∗ xC m ρ c ∗ outC m ρ c od)

end Cert.KernelIdealProof

end
-- ==== Proof.Raw.lean ====
module

public import proofs.«01_k».proof.Proof.Proto
public import Mathlib.Algebra.Order.BigOperators.Group.LocallyFinite

/-! # One effect at a time

The rules for the effects of the program, at the protocol of `Proto`: a load and a store through a
rectangle, a signal, a local copy, a transfer to another device, a wait. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body has no loop to bound. -/
abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Mem
variable {c : Dev nD} {α : Type}
variable {cs : CoreSpace} {s : Shape} {e : EltTy} {M : Memref sig .tc cs s e} {r : Rect s} {hl : M.view.LoadsAt r.toLoadRect}
variable {S : Finset (Idx ((M.access r).loc (c : Thread nD τ)))}

/-- A load of a rectangle whose elements are held. -/
theorem ld {Q : α → sProp 𝕄} {k : (r.shape.Idx → Elt F e) → Prog (TpuEff nD τ sig (Elt F) Λ₀ .tc) α} {q : PosShare TreeShare}
    {f : Buf (Elt F) ((M.access r).loc (c : Thread nD τ))} {v : r.shape.Idx → Elt F e}
    (hS : (M.access r).set ⊆ S) (hv : (M.access r).read (Elt F) f = v) :
    ((M.access r).loc (c : Thread nD τ) ↦[S]{q} f)
      ⊢ iprop((((M.access r).loc (c : Thread nD τ) ↦[S]{q} f) -∗ WP c (k v) Q) -∗ WP c (.op (.load M r.toLoadRect hl) k) Q) := by
  subst hv
  exact wp_load_rect 𝒱₀ (c : Thread nD τ) none Set.univ (m := M) (r := r) (hl := hl) hS

/-- A store to a rectangle whose elements are held, the contents after it described as `g`. -/
theorem stw {Q : α → sProp 𝕄} {k : PUnit → Prog (TpuEff nD τ sig (Elt F) Λ₀ .tc) α} {w : r.shape.Idx → Elt F e} {hx} {hm}
    {f g : Buf (Elt F) ((M.access r).loc (c : Thread nD τ))}
    (hS : (M.access r).set = S) (hg : (M.access r).read (Elt F) g = w) :
    ((M.access r).loc (c : Thread nD τ) ↦[S]{fullShare} f)
      ⊢ iprop((((M.access r).loc (c : Thread nD τ) ↦[S]{fullShare} g) -∗ WP c (k ⟨⟩) Q)
          -∗ WP c (.op (.store M r w Finset.univ hx hm) k) Q) := by
  subst hg hS
  have e : ((M.access r).loc (c : Thread nD τ) ↦[(M.access r).set]{fullShare} g : sProp 𝕄)
      = ((M.access r).loc (c : Thread nD τ) ↦[(M.access r).set]{fullShare} (M.access r).write (Elt F) f ((M.access r).read (Elt F) g) Finset.univ) := by
    refine pointsTo_congr fun i hi => ?_
    obtain ⟨x, -, rfl⟩ := Finset.mem_map.mp hi
    rw [View.write_emb_of_mem _ _ (Finset.mem_univ x), View.read_apply, cast_cast, cast_eq]
  rw [e]
  exact wp_store 𝒱₀ (c : Thread nD τ) none Set.univ (m := M) (r := r) (Mk := Finset.univ) (fun _ h => h)

end Mem

/-! ## What is owed -/

/-- What is owed before the `k`-th payment is that payment and what is owed after it. -/
theorem Oat_succ (c : Dev nD) {k : ℕ} (hk : k < 49) : Oat c k = Oat c (k + 1) + tallyAt (ocell c k) () (oamt k) := by
  unfold Oat; rw [Finset.sum_eq_sum_Ico_succ_bot hk, add_comm]
/-- After all payments nothing is owed. -/
theorem Oat_end (c : Dev nD) : Oat c 49 = 0 := by unfold Oat; rw [Finset.Ico_self, Finset.sum_empty]

/-- What is owed is owed to a cell of a payment still to make. -/
theorem Oat_pos {c : Dev nD} {k : ℕ} {g : GSem nD τ sig} {u : Unit} (h : 0 < Oat c k g u) : ∃ i, k ≤ i ∧ i < 49 ∧ g = ocell c i := by
  unfold Oat at h
  rw [Finset.sum_apply, Finsupp.finset_sum_apply] at h
  obtain ⟨i, hi, h⟩ := Finset.exists_ne_zero_of_sum_ne_zero h.ne'
  refine ⟨i, (Finset.mem_Ico.mp hi).1, (Finset.mem_Ico.mp hi).2, ?_⟩
  rw [tallyAt_apply] at h
  by_contra hn
  exact h (if_neg fun h' => hn h'.1)

/-- A place in the order of the sends is one of seven. -/
theorem sord_lt (i : ℕ) : sord i < 7 := by unfold sord; split <;> decide
/-- A place in the order of the receives is one of seven. -/
theorem rord_lt (i : ℕ) : rord i < 7 := by unfold rord; split <;> decide
/-- The order of the sends stays within an exchange. -/
theorem sk_div (n : ℕ) : sk n / 7 = n / 7 := by have := sord_lt (n % 7); unfold sk; omega
/-- The order of the receives stays within an exchange. -/
theorem rk_div (n : ℕ) : rk n / 7 = n / 7 := by have := rord_lt (n % 7); unfold rk; omega
/-- Within an exchange the sends follow their order. -/
theorem sk_mod (n : ℕ) : sk n % 7 = sord (n % 7) := by have := sord_lt (n % 7); unfold sk; omega
/-- Within an exchange the receives follow theirs. -/
theorem rk_mod (n : ℕ) : rk n % 7 = rord (n % 7) := by have := rord_lt (n % 7); unfold rk; omega
/-- A send's number is one of 42. -/
theorem sk_lt {n : ℕ} (h : n < 42) : sk n < 42 := by have := sk_div n; omega
/-- A receive's number is one of 42. -/
theorem rk_lt {n : ℕ} (h : n < 42) : rk n < 42 := by have := rk_div n; omega

/-- The level of the cell the `i`-th payment goes to. -/
theorem lv_ocell (c : Dev nD) {i : ℕ} (h : i < 49) : lv (ocell c i) () = if i < 7 then 1 else 2 + (i - 7) / 7 := by
  unfold ocell
  split
  · rfl
  · have h1 : sk (i - 7) < 42 := sk_lt (by omega)
    show (if (dq (50 + sk (i - 7))).val < 50 then 0 else 2 + ((dq (50 + sk (i - 7))).val - 50) / 7) = _
    rw [dq_val (by omega), if_neg (by omega), Nat.add_sub_cancel_left, sk_div]

/-- A payment goes to a TensorCore's cell. -/
theorem ocell_tc (c : Dev nD) (i : ℕ) : (ocell c i).1.2 = .tc := by unfold ocell; split <;> rfl

/-- A wait on a cell below everything still owed. -/
theorem mayWait (c : Dev nD) (sm : SemLoc sig) (k n : ℕ) (h1 : lv ((c : Thread nD τ), sm) () ≤ n)
    (h2 : ∀ i, k ≤ i → i < 49 → n < if i < 7 then 1 else 2 + (i - 7) / 7) :
    (levAts L lv : sProp 𝕄) ⊢ MayWait (c : Thread nD τ) sm () (Oat c k) := by
  refine MayOwe.of_cut (L := L) (lev := lv) n (fun p hp => by rw [Finset.mem_singleton.mp hp, L_tc]; exact Finset.mem_singleton_self _)
    (fun g u hg => ?_) (fun p hp => by rw [Finset.mem_singleton.mp hp]; exact h1) (fun g u hg => ?_)
  · obtain ⟨i, _, _, rfl⟩ := Oat_pos hg
    show u ∈ (if (ocell c i).1.2 = .tc then ({()} : Finset Unit) else ∅)
    rw [if_pos (ocell_tc c i)]; exact Finset.mem_singleton_self _
  · obtain ⟨i, ha, hb, rfl⟩ := Oat_pos hg
    rw [lv_ocell c hb]; exact h2 i ha hb

/-! ## The cells' records -/

/-- The records hold a device's barrier invariant. -/
theorem IC_bar (c : Dev nD) : recs m ρ ⊢ IC m ρ (barCell c) :=
  bigSep_elim (Φ := fun ck : Dev nD × Fin 91 => IC m ρ (kcell ck)) (Finset.mem_univ ((c, 0) : Dev nD × Fin 91))
/-- The records hold the invariant of each of its DMA cells. -/
theorem IC_dma (c : Dev nD) {n : ℕ} (h2 : 2 ≤ n) (h : n < 92) : recs m ρ ⊢ IC m ρ (dCell c n) := by
  have e : kcell (c, ⟨n - 1, by omega⟩) = dCell c n := by
    show ((c : Thread nD τ), csem ⟨n - 1, _⟩) = _
    unfold csem
    rw [if_neg (by show ¬ n - 1 = 0; omega)]
    show ((c : Thread nD τ), SemLoc.dma (dq (1 + (n - 1)))) = _
    rw [show 1 + (n - 1) = n by omega]
  rw [← e]
  exact bigSep_elim (Φ := fun ck : Dev nD × Fin 91 => IC m ρ (kcell ck)) (Finset.mem_univ ((c, ⟨n - 1, by omega⟩) : Dev nD × Fin 91))

/-- What a duty of the barrier cell hands over. -/
theorem payload_bar (c : Dev nD) (d : ℕ) : (Rd (F := F) m ρ).payload (barCell c) 0 d = barPay c d := rfl
/-- How much the duty of a DMA cell pays. -/
theorem amount_dma {n : ℕ} (c : Dev nD) (h : n < 92) (d : ℕ) : (Rd (F := F) m ρ).amount (dCell c n) 0 d = if n < 8 then Nw else Nb := by
  show (if (dq n).val < 8 then Nw else Nb) = _
  rw [dq_val h]
/-- What the duty of a DMA cell hands over. -/
theorem payload_dma {n : ℕ} (c : Dev nD) (h : n < 92) (d : ℕ) : (Rd (F := F) m ρ).payload (dCell c n) 0 d = dmaPay m ρ c n := by
  show dmaPay m ρ c (dq n).val = _
  rw [dq_val h]
/-- How much a DMA cell receives in its round. -/
theorem expect_dma {n : ℕ} (c : Dev nD) (h : n < 92) : (Rd (F := F) m ρ).expect (dCell c n) 0 = if n < 8 then Nw else Nb := by
  unfold Schedule.expect Schedule.amountOf
  rw [show (Rd (F := F) m ρ).duties (dCell c n) 0 = {0} from rfl, Finset.sum_singleton, amount_dma m ρ c h]
/-- A barrier cell receives seven units in its round. -/
theorem expect_bar (c : Dev nD) : (Rd (F := F) m ρ).expect (barCell c) 0 = 7 := by
  unfold Schedule.expect Schedule.amountOf
  rw [show (Rd (F := F) m ρ).duties (barCell c) 0 = Finset.range 7 from rfl,
    Finset.sum_congr rfl (fun d _ => show (Rd (F := F) m ρ).amount (barCell c) 0 d = 1 from rfl), Finset.sum_const, Finset.card_range, smul_eq_mul]

section Eff
variable {c : Dev nD} {α : Type} {k : PUnit → Prog (TpuEff nD τ sig (Elt F) Λ₀ .tc) α}

/-- The signal numbered `i`. -/
theorem sig_raw {Q : α → sProp 𝕄} {i k' : ℕ} (hi : i < 7) (hk : 1 = k') :
    iprop(IC m ρ (barCell (nx c i)) ∗ owesC (F := F) c i ∗ dutyTok ER (barCell (nx c i)) 0 i ∗ barPay (F := F) (nx c i) i)
      ⊢ iprop((owesC (F := F) c (i + 1) -∗ WP c (k ⟨⟩) Q) -∗ WP c (.op (.semSignal (nx c i : Thread nD τ) barS k') k) Q) := by
  unfold IC owesC
  iintro ⟨⟨%κ, #HI, #HR⟩, ⟨%W, HO⟩, Ht, Hp⟩ Hk
  iapply (Rounds.wp_signal 𝒱₀ ER (Rd m ρ) (c : Thread nD τ) none (dst := (nx c i : Thread nD τ)) (κ := κ) (sem := barS) (r := 0)
      (d := i) (Finset.mem_range.mpr hi) (by exact hk) () (O₀ := Oat c i) (Oat c (i + 1))
      (by rw [Oat_succ c (by omega : i < 49)]; unfold ocell oamt; rw [if_pos hi, if_pos hi, hk])) $$ [HO Ht Hp]
  · isplitr; · iexact HI
    isplitl [HO]; · iexact HO
    isplitl [Ht]; · iexact Ht
    isplitl [Hp]; · rw [payload_bar m ρ]; iexact Hp
    iexact HR
  iintro HO
  iapply Hk
  iexists W; iexact HO

/-- The wait for the seven signals. -/
theorem bar_raw {Q : α → sProp 𝕄} {k' : ℕ} (hk : 7 = k') :
    iprop(IC m ρ (barCell c) ∗ levAts L lv ∗ owesC (F := F) c 7 ∗ cred (tallyAt (barCell c) () 7) ∗ atPos ER (barCell c) 0 ∅ 0)
      ⊢ iprop(((owesC (F := F) c 7 ∗ atPos ER (barCell c) (0 + 1) ∅ 0 ∗ bigSep (Finset.range 7) fun i => barPay (F := F) c i) -∗ WP c (k ⟨⟩) Q)
          -∗ WP c (.op (.semWait barS k') k) Q) := by
  subst hk
  unfold IC owesC
  iintro ⟨⟨%κ, #HI, #HR⟩, #Hlev, ⟨%W, HO⟩, Hc, Ha⟩ Hk
  iapply (Rounds.wp_wait_rest_token 𝒱₀ ER (Rd m ρ) (c : Thread nD τ) none (κ := κ)
      (wpE_semWait_eq 𝒱₀ (c : Thread nD τ) none Set.univ) (Set.mem_univ _) () (O := Oat c 7) (W := W) (R := 0) (m := 0) (T := ∅)
      (by rw [expect_bar])) $$ [Hc HO Ha]
  · isplitr; · iexact HI
    isplitl [Hc]; · iexact Hc
    isplitl [HO]; · iexact HO
    isplitr
    · iapply (mayWait (F := F) c (.reg barS) 7 1 (le_refl 1) (fun i h h' => by rw [if_neg (by omega)]; omega)); iexact Hlev
    iexact Ha
  iintro ⟨HO, Ha, -, Hp⟩
  iapply Hk
  isplitl [HO]; · iexists _; iexact HO
  isplitl [Ha]; · iexact Ha
  rw [Finset.sdiff_empty, show (Rd (F := F) m ρ).duties (barCell c) 0 = Finset.range 7 from rfl]
  simp only [payload_bar m ρ]
  iexact Hp

/-- A wait on DMA semaphore `n`. -/
theorem wait_raw {Q : α → sProp 𝕄} {n j o : ℕ} (h2 : 2 ≤ n) (hn : n < 92) (hj : lv (dCell c n) () ≤ j) (ho : ∀ i, o ≤ i → i < 49 → j < if i < 7 then 1 else 2 + (i - 7) / 7)
    {sp sp' : Space} {s : Shape} {e : EltTy} {src : Memref sig .tc sp s e} {dst : Memref sig .tc sp' s e} {h1} {h1'}
    (hN : dst.view.dmaCredit = if n < 8 then Nw else Nb) :
    iprop(IC m ρ (dCell c n) ∗ levAts L lv ∗ owesC (F := F) c o ∗ cred (tallyAt (dCell c n) () (if n < 8 then Nw else Nb)) ∗ atPos ER (dCell c n) 0 ∅ 0)
      ⊢ iprop(((owesC (F := F) c o ∗ atPos ER (dCell c n) (0 + 1) ∅ 0 ∗ dmaPay m ρ c n) -∗ WP c (k ⟨⟩) Q)
          -∗ WP c (.op (.waitDma2 (dq n) src dst h1 h1') k) Q) := by
  unfold IC owesC
  iintro ⟨⟨%κ, #HI, #HR⟩, #Hlev, ⟨%W, HO⟩, Hc, Ha⟩ Hk
  rw [← hN]
  iapply (Rounds.wp_wait_rest_token 𝒱₀ ER (Rd m ρ) (c : Thread nD τ) none (κ := κ)
      (wpE_waitDma2_eq 𝒱₀ (c : Thread nD τ) none Set.univ) (Set.mem_univ _) () (O := Oat c o) (W := W) (R := 0) (m := 0) (T := ∅)
      (by rw [expect_dma m ρ c hn, Nat.zero_add, hN])) $$ [Hc HO Ha]
  · isplitr; · iexact HI
    isplitl [Hc]; · iexact Hc
    isplitl [HO]; · iexact HO
    isplitr
    · iapply (mayWait (F := F) c (.dma (dq n)) o j hj ho); iexact Hlev
    iexact Ha
  iintro ⟨HO, Ha, -, Hp⟩
  iapply Hk
  isplitl [HO]; · iexists _; iexact HO
  isplitl [Ha]; · iexact Ha
  iapply (Entails.of_eq (show (bigSep ((Rd (F := F) m ρ).duties (dCell c n) 0 \ ∅) fun d => (Rd (F := F) m ρ).payload (dCell c n) 0 d)
      = dmaPay m ρ c n by
    rw [Finset.sdiff_empty, show (Rd (F := F) m ρ).duties (dCell c n) 0 = {0} from rfl, bigSep_singleton, payload_dma m ρ c hn]))
  iexact Hp

/-- A local copy that DMA semaphore `n` counts. -/
theorem copy_raw {Q : α → sProp 𝕄} {n : ℕ} (h2 : 2 ≤ n) (hn : n < 8) {sp sp' : Space} {s : Shape} {e : EltTy} {src : Memref sig .tc sp s e} {dst : Memref sig .tc sp' s e}
    {h1} {h1'} {h1''} (hN : dst.view.dmaCredit = Nw) {fs : Buf (Elt F) (src.view.loc (c : Thread nD τ))} {fd : Buf (Elt F) (dst.view.loc (c : Thread nD τ))}
    (hp : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ dmaPay m ρ c n) :
    iprop(IC m ρ (dCell c n) ∗ (src.view.loc (c : Thread nD τ) ↦[src.view.set]{fullShare} fs) ∗ (dst.view.loc (c : Thread nD τ) ↦[dst.view.set]{fullShare} fd)
        ∗ dutyTok ER (dCell c n) 0 0)
      ⊢ iprop((cred (tallyAt (dCell c n) () Nw) -∗ WP c (k ⟨⟩) Q)
          -∗ WP c (.op (.enqueueDma src (.here dst) (.dma (dq n)) h1 h1' h1'') k) Q) := by
  unfold IC
  iintro ⟨⟨%κ, #HI, #HR⟩, Hs, Hd, Ht⟩ Hk
  iapply (Rounds.wp_copy_pointsTo 𝒱₀ ER (Rd m ρ) (c : Thread nD τ) none (κ := κ) (r := 0) (d := 0) (fs := fs) (fd := fd) (Finset.mem_singleton_self 0) () Nw
      (by exact hN) (by rw [amount_dma m ρ c (by omega), if_pos hn]) (by rw [payload_dma m ρ c (by omega)]; exact hp)) $$ [Hs Hd Ht]
  · isplitr; · iexact HI
    isplitl [Hs]; · iexact Hs
    isplitl [Hd]; · iexact Hd
    isplitl [Ht]; · iexact Ht
    iexact HR
  iexact Hk

/-- The transfer issued `n`-th. -/
theorem send_raw {Q : α → sProp 𝕄} {n a : ℕ} (hn : n < 42) (ha : sk n = a) {src dst : Memref sig .tc .vmem S64x128 .bf16}
    {hsc} {h1} {h1'} {h1''} (hN : dst.view.dmaCredit = Nb) {q : PosShare TreeShare} {fs : Buf (Elt F) (src.view.loc (c : Thread nD τ))}
    {fd : Buf (Elt F) (dst.view.loc (nx c (a % 7) : Thread nD τ))}
    (hp : (src.view.loc (c : Thread nD τ) ↦[src.view.set]{q} fs : sProp 𝕄) ⊢ sendPay m ρ c a)
    (hp' : (dst.view.loc (nx c (a % 7) : Thread nD τ) ↦[dst.view.set]{fullShare} (dst.view.write (Elt F) fd (src.view.read (Elt F) fs) Finset.univ) : sProp 𝕄)
      ⊢ recvPay m ρ (nx c (a % 7)) a) :
    iprop(recs m ρ ∗ (src.view.loc (c : Thread nD τ) ↦[src.view.set]{q} fs) ∗ (dst.view.loc (nx c (a % 7) : Thread nD τ) ↦[dst.view.set]{fullShare} fd)
        ∗ owesC (F := F) c (7 + n) ∗ dutyTok ER (dCell c (8 + a)) 0 0 ∗ dutyTok ER (dCell (nx c (a % 7)) (50 + a)) 0 0)
      ⊢ iprop(((cred (tallyAt (dCell c (8 + a)) () Nb) ∗ owesC (F := F) c (7 + n + 1)) -∗ WP c (k ⟨⟩) Q)
          -∗ WP c (.op (.enqueueDma src (.remote (Dev.tc (nx c (a % 7)) : Thread nD τ) dst (.dma (dq (8 + a))) hsc) (.dma (dq (50 + a))) h1 h1' h1'') k) Q) := by
  subst ha
  have hlt := sk_lt hn
  iintro ⟨#HI, Hs, Hd, HO, Ht, Ht'⟩ Hk
  ihave #HI1 := (IC_dma m ρ c (n := 8 + sk n) (by omega) (by omega)) $$ HI
  ihave #HI2 := (IC_dma m ρ (nx c (sk n % 7)) (n := 50 + sk n) (by omega) (by omega)) $$ HI
  unfold IC owesC
  icases HI1 with ⟨%κ, #HI1, #HR1⟩
  icases HI2 with ⟨%κ', #HI2, #HR2⟩
  icases HO with ⟨%W, HO⟩
  iapply (Rounds.wp_send_pointsTo 𝒱₀ ER (Rd m ρ) (c : Thread nD τ) none (κ₁ := κ) (κ₂ := κ')
    (r₁ := 0) (r₂ := 0) (d₁ := 0) (d₂ := 0) (fs := fs) (fd := fd) (Finset.mem_singleton_self 0) (Finset.mem_singleton_self 0)
    () () Nb (by exact hN) (by rw [amount_dma m ρ c (by omega), if_neg (by omega)]) (by rw [amount_dma m ρ _ (by omega), if_neg (by omega)])
    (O₀ := Oat c (7 + n)) (Oat c (7 + n + 1))
    (by rw [Oat_succ c (by omega : 7 + n < 49)]; unfold ocell oamt; rw [if_neg (by omega), if_neg (by omega), Nat.add_sub_cancel_left, sk_mod]) (W := W)
    (by rw [payload_dma m ρ c (by omega)]; unfold dmaPay; rw [if_neg (by omega), if_neg (by omega), if_pos (by omega), Nat.add_sub_cancel_left]; exact hp)
    (by rw [payload_dma m ρ _ (by omega)]; unfold dmaPay; rw [if_neg (by omega), if_neg (by omega), if_neg (by omega), Nat.add_sub_cancel_left]; exact hp'))
    $$ [Hs Hd HO Ht Ht']
  · isplitr; · iexact HI1
    isplitr; · iexact HI2
    isplitl [Hs]; · iexact Hs
    isplitl [Hd]; · iexact Hd
    isplitl [HO]; · iexact HO
    isplitl [Ht]; · iexact Ht
    isplitr; · iexact HR1
    isplitl [Ht']; · iexact Ht'
    iexact HR2
  iintro ⟨Hc, HO⟩
  iapply Hk
  isplitl [Hc]; · iexact Hc
  iexists W; iexact HO

end Eff

end Cert.KernelIdealProof

end
-- ==== Proof.Sums.lean ====
module

public import proofs.«01_k».proof.Proof.Raw
public import Mathlib.Order.Interval.Finset.Nat

/-! # Separating conjunctions over runs of numbers

Taking the first of a run, adding one at its end, using one in the middle, renumbering. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The first of a run, and the rest. -/
theorem peel_eq {a b : ℕ} (h : a < b) (Φ : ℕ → sProp 𝕄) :
    bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega,
    bigSep_insert (by simp)]
  rfl
/-- The first of a range of resources taken out. -/
theorem peel {a b : ℕ} (h : a < b) (Φ : ℕ → sProp 𝕄) :
    bigSep (Finset.Ico a b) Φ ⊢ iprop(Φ a ∗ bigSep (Finset.Ico (a + 1) b) Φ) := Entails.of_eq (peel_eq h Φ)
/-- One more at the end of a run. -/
theorem push_eq {a b : ℕ} (h : a ≤ b) (Φ : ℕ → sProp 𝕄) :
    iprop(Φ b ∗ bigSep (Finset.Ico a b) Φ) = bigSep (Finset.Ico a (b + 1)) Φ := by
  rw [show Finset.Ico a (b + 1) = insert b (Finset.Ico a b) by ext x; simp only [Finset.mem_insert, Finset.mem_Ico]; omega,
    bigSep_insert (by simp)]
  rfl
/-- One more resource at the end of a range. -/
theorem push {a b : ℕ} (h : a ≤ b) (Φ : ℕ → sProp 𝕄) :
    iprop(Φ b ∗ bigSep (Finset.Ico a b) Φ) ⊢ bigSep (Finset.Ico a (b + 1)) Φ := Entails.of_eq (push_eq h Φ)
/-- An empty range holds nothing. -/
theorem ico_nil {a b : ℕ} (h : b ≤ a) (Φ : ℕ → sProp 𝕄) : bigSep (Finset.Ico a b) Φ = iprop(emp) := by
  rw [Finset.Ico_eq_empty_of_le h, bigSep_empty]; rfl
/-- One in the middle of a run, to be given back. -/
theorem acc {a b n : ℕ} (h : a ≤ n ∧ n < b) (Φ : ℕ → sProp 𝕄) :
    bigSep (Finset.Ico a b) Φ ⊢ iprop(Φ n ∗ (Φ n -∗ bigSep (Finset.Ico a b) Φ)) := by
  have e : bigSep (Finset.Ico a b) Φ = iprop(Φ n ∗ bigSep ((Finset.Ico a b).erase n) Φ) := bigSep_erase (Finset.mem_Ico.mpr h)
  rw [e]
  iintro ⟨H1, H2⟩
  isplitl [H1]; · iexact H1
  iintro H1
  isplitl [H1]; · iexact H1
  iexact H2
/-- Two runs end to end. -/
theorem join_eq {a b d : ℕ} (h : a ≤ b) (h' : b ≤ d) (Φ : ℕ → sProp 𝕄) :
    bigSep (Finset.Ico a d) Φ = iprop(bigSep (Finset.Ico a b) Φ ∗ bigSep (Finset.Ico b d) Φ) := by
  rw [show Finset.Ico a d = Finset.Ico a b ∪ Finset.Ico b d by rw [Finset.Ico_union_Ico_eq_Ico h h'],
    bigSep_union (Finset.Ico_disjoint_Ico_consecutive a b d)]
  rfl
/-- A separating conjunction renumbered. -/
theorem re {I J : Type} [DecidableEq I] [DecidableEq J] {s : Finset I} {t : Finset J} (f : I → J) (Φ : J → sProp 𝕄)
    (ht : t = s.image f) (hf : Set.InjOn f s) : bigSep t Φ = bigSep s fun i => Φ (f i) := by
  subst ht
  induction s using Finset.induction_on with
  | empty => rw [Finset.image_empty, bigSep_empty, bigSep_empty]
  | insert a s ha ih =>
    have hs : Set.InjOn f s := fun x hx y hy => hf (Finset.mem_insert_of_mem hx) (Finset.mem_insert_of_mem hy)
    have hn : f a ∉ s.image f := by
      intro h
      obtain ⟨b, hb, e⟩ := Finset.mem_image.mp h
      exact ha (hf (Finset.mem_insert_of_mem hb) (Finset.mem_insert_self a s) e ▸ hb)
    rw [Finset.image_insert, bigSep_insert hn, bigSep_insert ha, ih hs]
/-- A run renumbered to start at zero. -/
theorem shift (a n : ℕ) (Φ : ℕ → sProp 𝕄) : bigSep (Finset.Ico a (a + n)) Φ = bigSep (Finset.range n) fun i => Φ (a + i) := by
  refine re (fun i => a + i) Φ ?_ (fun x _ y _ e => Nat.add_left_cancel e)
  ext x
  simp only [Finset.mem_Ico, Finset.mem_image, Finset.mem_range]
  exact ⟨fun h => ⟨x - a, by omega, by omega⟩, fun ⟨y, hy, e⟩ => by omega⟩

/-- The order of the sends runs through all seven places. -/
theorem range_sord : Finset.range 7 = (Finset.range 7).image sord := by decide
/-- The order of the receives runs through all seven places. -/
theorem range_rord : Finset.range 7 = (Finset.range 7).image rord := by decide
/-- The order of the sends takes no place twice. -/
theorem sord_inj : Set.InjOn sord (Finset.range 7 : Finset ℕ) :=
  fun x hx y hy => (show ∀ x ∈ Finset.range 7, ∀ y ∈ Finset.range 7, sord x = sord y → x = y by decide) x hx y hy
/-- The sends, in order, are all 42. -/
theorem range_sk : Finset.range 42 = (Finset.range 42).image sk := by decide +kernel
/-- The receives, in order, are all 42. -/
theorem range_rk : Finset.range 42 = (Finset.range 42).image rk := by decide +kernel
/-- No send is numbered twice. -/
theorem sk_inj : Set.InjOn sk (Finset.range 42 : Finset ℕ) :=
  fun x hx y hy => (show ∀ x ∈ Finset.range 42, ∀ y ∈ Finset.range 42, sk x = sk y → x = y by decide +kernel) x hx y hy
/-- No receive is numbered twice. -/
theorem rk_inj : Set.InjOn rk (Finset.range 42 : Finset ℕ) :=
  fun x hx y hy => (show ∀ x ∈ Finset.range 42, ∀ y ∈ Finset.range 42, rk x = rk y → x = y by decide +kernel) x hx y hy
/-- Resources of all 42, in the order of the sends. -/
theorem by_sk (Φ : ℕ → sProp 𝕄) : bigSep (Finset.range 42) Φ = bigSep (Finset.Ico 0 42) fun n => Φ (sk n) := by
  rw [← Finset.range_eq_Ico]; exact re sk Φ range_sk sk_inj
/-- Resources of all 42, in the order of the receives. -/
theorem by_rk (Φ : ℕ → sProp 𝕄) : bigSep (Finset.range 42) Φ = bigSep (Finset.Ico 0 42) fun n => Φ (rk n) := by
  rw [← Finset.range_eq_Ico]; exact re rk Φ range_rk rk_inj

/-- The blocks of a layer: the device's own and those for the seven others, in the order they are sent. -/
theorem eight (c : Dev nD) (a : ℕ) (Φ : ℕ → sProp 𝕄) :
    bigSep (Finset.Ico a (a + 8)) Φ = iprop(Φ (a + c.val) ∗ bigSep (Finset.range 7) fun i => Φ (a + (nx c (sord i)).val)) := by
  rw [shift]
  have h1 : ∀ c : Dev nD, Finset.range 8 = insert c.val ((Finset.range 7).image fun i => (nx c (sord i)).val) := by decide +kernel
  have h2 : ∀ c : Dev nD, c.val ∉ (Finset.range 7).image fun i => (nx c (sord i)).val := by decide +kernel
  have h3 : ∀ c : Dev nD, ∀ x ∈ Finset.range 7, ∀ y ∈ Finset.range 7, (nx c (sord x)).val = (nx c (sord y)).val → x = y := by decide +kernel
  rw [h1 c, bigSep_insert (h2 c), re (t := (Finset.range 7).image fun i => (nx c (sord i)).val) _ _ rfl (fun x hx y hy => h3 c x hx y hy)]
  rfl

/-- The slots the seven signals bring are those of the forty-two transfers. -/
theorem bar_dst (c : Dev nD) : (bigSep (Finset.range 7) fun i => barPay (F := F) c i) ⊢ dstC (F := F) c true 0 := by
  have hd : ∀ i ∈ Finset.range 7, barPay (F := F) c i = bigSep (Finset.range 6) fun p => dst (F := F) c (7 * p + (6 - i)) := by
    intro i hi
    have hi := Finset.mem_range.mp hi
    rw [Finset.range_eq_Ico]
    simp only [peel_eq (F := F) (show 0 < 6 by decide), peel_eq (F := F) (show 0 + 1 < 6 by decide), peel_eq (F := F) (show 0 + 1 + 1 < 6 by decide),
      peel_eq (F := F) (show 0 + 1 + 1 + 1 < 6 by decide), peel_eq (F := F) (show 0 + 1 + 1 + 1 + 1 < 6 by decide), peel_eq (F := F) (show 0 + 1 + 1 + 1 + 1 + 1 < 6 by decide),
      ico_nil (F := F) (show 6 ≤ 0 + 1 + 1 + 1 + 1 + 1 + 1 by decide)]
    unfold barPay slots dst
    rw [if_pos (by omega), if_neg (by omega), if_pos (by omega), if_neg (by omega), if_pos (by omega), if_neg (by omega)]
    rw [show (7 * 0 + (6 - i)) % 7 = 6 - i by omega, show (7 * (0 + 1) + (6 - i)) % 7 = 6 - i by omega, show (7 * (0 + 1 + 1) + (6 - i)) % 7 = 6 - i by omega,
      show (7 * (0 + 1 + 1 + 1) + (6 - i)) % 7 = 6 - i by omega, show (7 * (0 + 1 + 1 + 1 + 1) + (6 - i)) % 7 = 6 - i by omega, show (7 * (0 + 1 + 1 + 1 + 1 + 1) + (6 - i)) % 7 = 6 - i by omega,
      show (7 * 0 + (6 - i)) / 14 = 0 by omega, show (7 * (0 + 1) + (6 - i)) / 14 = 0 by omega, show (7 * (0 + 1 + 1) + (6 - i)) / 14 = 1 by omega,
      show (7 * (0 + 1 + 1 + 1) + (6 - i)) / 14 = 1 by omega, show (7 * (0 + 1 + 1 + 1 + 1) + (6 - i)) / 14 = 2 by omega, show (7 * (0 + 1 + 1 + 1 + 1 + 1) + (6 - i)) / 14 = 2 by omega]
    have reassoc : ∀ A1 A2 A3 A4 A5 A6 : sProp 𝕄, iprop((A1 ∗ A2) ∗ (A3 ∗ A4) ∗ A5 ∗ A6) = iprop(A1 ∗ A2 ∗ A3 ∗ A4 ∗ A5 ∗ A6 ∗ emp) := by
      intro A1 A2 A3 A4 A5 A6
      have h1 : iprop((A1 ∗ A2) ∗ (A3 ∗ A4) ∗ A5 ∗ A6) ⊢ iprop(A1 ∗ A2 ∗ A3 ∗ A4 ∗ A5 ∗ A6 ∗ emp) := by
        iintro ⟨⟨H1, H2⟩, ⟨H3, H4⟩, H5, H6⟩
        iframe H1 H2 H3 H4 H5 H6
      have h2 : iprop(A1 ∗ A2 ∗ A3 ∗ A4 ∗ A5 ∗ A6 ∗ emp) ⊢ iprop((A1 ∗ A2) ∗ (A3 ∗ A4) ∗ A5 ∗ A6) := by
        iintro ⟨H1, H2, H3, H4, H5, H6, -⟩
        iframe H1 H2 H3 H4 H5 H6
      exact equiv_iff.mp ⟨h1, h2⟩
    exact reassoc _ _ _ _ _ _
  have hp : ∀ (s : Finset ℕ) (Φ : ℕ × ℕ → sProp 𝕄), bigSep (s ×ˢ Finset.range 6) Φ = bigSep s fun i => bigSep (Finset.range 6) fun p => Φ (i, p) := by
    intro s Φ
    induction s using Finset.induction_on with
    | empty => rw [Finset.empty_product, bigSep_empty, bigSep_empty]
    | insert a s ha ih =>
      rw [show insert a s ×ˢ Finset.range 6 = (Finset.range 6).image (fun p => (a, p)) ∪ s ×ˢ Finset.range 6 by
          ext ⟨x, y⟩
          simp only [Finset.mem_product, Finset.mem_insert, Finset.mem_union, Finset.mem_image, Prod.mk.injEq]
          constructor
          · rintro ⟨rfl | h, h'⟩
            · exact .inl ⟨y, h', rfl, rfl⟩
            · exact .inr ⟨h, h'⟩
          · rintro (⟨z, hz, rfl, rfl⟩ | ⟨h, h'⟩)
            · exact ⟨.inl rfl, hz⟩
            · exact ⟨.inr h, h'⟩, bigSep_union (by
        rw [Finset.disjoint_left]; intro x hx hx'
        obtain ⟨y, -, rfl⟩ := Finset.mem_image.mp hx
        exact ha (Finset.mem_product.mp hx').1), ih, bigSep_insert ha,
        re (t := (Finset.range 6).image _) _ Φ rfl (fun x _ y _ e => (Prod.mk.inj e).2)]
  rw [bigSep_congr hd, ← hp (Finset.range 7) (fun x => dst (F := F) c (7 * x.2 + (6 - x.1))),
    ← re (t := Finset.range 42) (fun x : ℕ × ℕ => 7 * x.2 + (6 - x.1)) (dst (F := F) c) (by decide +kernel)
      (fun x hx y hy => (show ∀ x ∈ Finset.range 7 ×ˢ Finset.range 6, ∀ y ∈ Finset.range 7 ×ˢ Finset.range 6,
        7 * x.2 + (6 - x.1) = 7 * y.2 + (6 - y.1) → x = y by decide +kernel) x hx y hy), by_sk]
  unfold dstC
  rw [if_pos rfl]

/-- A layer's stored blocks as the device's own and the sources of its scatter. -/
theorem part_eq (c : Dev nD) (l : ℕ) :
    (bigSep (Finset.Ico (8 * l) (8 * l + 8)) fun n => pPart c n (cPart m ρ c))
      = iprop(pPart c (8 * l + c.val) (cPart m ρ c) ∗ bigSep (Finset.Ico (14 * l) (14 * l + 7)) fun n => sendPay m ρ c (sk n)) := by
  rw [eight c, shift]
  refine congrArg (fun P : sProp 𝕄 => iprop(pPart c (8 * l + c.val) (cPart m ρ c) ∗ P)) (bigSep_congr fun i hi => ?_)
  have hi := Finset.mem_range.mp hi
  have h1 := sk_div (14 * l + i)
  have h2 := sk_mod (14 * l + i)
  unfold sendPay
  rw [if_pos (by omega), show sk (14 * l + i) / 14 = l by omega, h2, show (14 * l + i) % 7 = i by omega]
/-- A layer's partial products are the device's own block and the seven it sends. -/
theorem part_split (c : Dev nD) (l : ℕ) :
    (bigSep (Finset.Ico (8 * l) (8 * l + 8)) fun n => pPart c n (cPart m ρ c))
      ⊢ iprop(pPart c (8 * l + c.val) (cPart m ρ c) ∗ bigSep (Finset.Ico (14 * l) (14 * l + 7)) fun n => sendPay m ρ c (sk n)) :=
  Entails.of_eq (part_eq m ρ c l)

/-- A stored block of activations as the share kept and the sources of its gather. -/
theorem ag_eq (c : Dev nD) (l : ℕ) :
    pAg c (8 * l + c.val) fullShare (cAg m ρ)
      = iprop(pAg c (8 * l + c.val) (Transfers.shareDrop fullShare 7) (cAg m ρ)
          ∗ bigSep (Finset.Ico (14 * l + 7) (14 * l + 7 + 7)) fun n => sendPay m ρ c (sk n)) := by
  rw [shift]
  have e : (bigSep (Finset.range 7) fun i => pAg c (8 * l + c.val) (Transfers.shareTokN fullShare i) (cAg m ρ))
      = bigSep (Finset.range 7) fun i => sendPay m ρ c (sk (14 * l + 7 + i)) := by
    rw [re sord _ range_sord sord_inj]
    refine bigSep_congr fun i hi => ?_
    have hi := Finset.mem_range.mp hi
    have h1 := sk_div (14 * l + 7 + i)
    have h2 := sk_mod (14 * l + 7 + i)
    unfold sendPay
    rw [if_neg (by omega), show sk (14 * l + 7 + i) / 14 = l by omega, h2, show (14 * l + 7 + i) % 7 = i by omega]
  rw [← e]
  unfold pAg
  exact BI.Entails.antisymm (Transfers.pointsTo_toks_range fullShare 7).1 (Transfers.pointsTo_toks_range fullShare 7).2
/-- A device's activations are a share to read and the seven shares it lends to the sends. -/
theorem ag_split (c : Dev nD) (l : ℕ) :
    pAg c (8 * l + c.val) fullShare (cAg m ρ)
      ⊢ iprop(pAg c (8 * l + c.val) (Transfers.shareDrop fullShare 7) (cAg m ρ)
          ∗ bigSep (Finset.Ico (14 * l + 7) (14 * l + 7 + 7)) fun n => sendPay m ρ c (sk n)) := Entails.of_eq (ag_eq m ρ c l)

end Cert.KernelIdealProof

end
-- ==== Proof.Buffers.lean ====
module

public import proofs.«01_k».proof.Proof.Sums

/-! # The buffers' blocks

The blocks of the scratch buffers as the program's loads, stores and transfers name them. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}

/-! ## The regions of memory the program names -/

/-- The partial products. -/
abbrev mPart : Memref sig .tc .vmem S3x8x64x128 .bf16 := Memref.whole cc0_scratch0
/-- The reduce-scatter buffer. -/
abbrev mRs : Memref sig .tc .vmem S3x7x64x128 .bf16 := Memref.whole cc0_scratch1
/-- The all-gather buffer. -/
abbrev mAg : Memref sig .tc .vmem S3x8x64x128 .bf16 := Memref.whole cc0_scratch2
/-- The loaded input weights. -/
abbrev mWfi : Memref sig .tc .vmem S3x512x1024 .f32 := Memref.whole cc0_scratch3
/-- The loaded output weights. -/
abbrev mWfo : Memref sig .tc .vmem S3x1024x512 .f32 := Memref.whole cc0_scratch4
/-- The cast input weights. -/
abbrev mWbi : Memref sig .tc .vmem S3x512x1024 .bf16 := Memref.whole cc0_scratch5
/-- The cast output weights. -/
abbrev mWbo : Memref sig .tc .vmem S3x1024x512 .bf16 := Memref.whole cc0_scratch6
/-- The staged input. -/
abbrev mX : Memref sig .tc .vmem S64x512 .f32 := Memref.whole cc0_stg0_0
/-- The staged result. -/
abbrev mOut : Memref sig .tc .vmem S64x512 .f32 := Memref.whole cc0_stg1_0

/-- A block of a buffer of eight blocks to a layer. -/
abbrev r8 (off : Fin 4 → ℕ) (h : ∀ a, off a + S1x1x64x128.size a ≤ S3x8x64x128.size a) : Rect S3x8x64x128 := Rect.unit (s := S3x8x64x128) off S1x1x64x128.size h
/-- A block of a buffer of seven blocks to a layer. -/
abbrev r7 (off : Fin 4 → ℕ) (h : ∀ a, off a + S1x1x64x128.size a ≤ S3x7x64x128.size a) : Rect S3x7x64x128 := Rect.unit (s := S3x7x64x128) off S1x1x64x128.size h
/-- A layer of the input weights. -/
abbrev rI (off : Fin 3 → ℕ) (h : ∀ a, off a + S1x512x1024.size a ≤ S3x512x1024.size a) : Rect S3x512x1024 := Rect.unit (s := S3x512x1024) off S1x512x1024.size h
/-- A layer of the output weights. -/
abbrev rO (off : Fin 3 → ℕ) (h : ∀ a, off a + S1x1024x512.size a ≤ S3x1024x512.size a) : Rect S3x1024x512 := Rect.unit (s := S3x1024x512) off S1x1024x512.size h
/-- A block of a buffer, as the transfers name it. -/
abbrev b8 (M : Memref sig .tc .vmem S3x8x64x128 .bf16) (off : Fin 4 → ℕ) (h : ∀ a, off a + S1x1x64x128.size a ≤ S3x8x64x128.size a) : Memref sig .tc .vmem S64x128 .bf16 :=
  (M.slice (r8 off h) (fun _ => rfl)).squeeze S64x128 squeezes_S1x1x64x128_S64x128
/-- The block of seven to a layer that a copy moves. -/
abbrev b7 (M : Memref sig .tc .vmem S3x7x64x128 .bf16) (off : Fin 4 → ℕ) (h : ∀ a, off a + S1x1x64x128.size a ≤ S3x7x64x128.size a) : Memref sig .tc .vmem S64x128 .bf16 :=
  (M.slice (r7 off h) (fun _ => rfl)).squeeze S64x128 squeezes_S1x1x64x128_S64x128
/-- A weight slot, as the local copies name it. -/
abbrev bI (M : Memref sig .tc .vmem S3x512x1024 .f32) (off : Fin 3 → ℕ) (h : ∀ a, off a + S1x512x1024.size a ≤ S3x512x1024.size a) : Memref sig .tc .vmem S512x1024 .f32 :=
  (M.slice (rI off h) (fun _ => rfl)).squeeze S512x1024 squeezes_S1x512x1024_S512x1024
/-- The layer of output weights that a copy moves. -/
abbrev bO (M : Memref sig .tc .vmem S3x1024x512 .f32) (off : Fin 3 → ℕ) (h : ∀ a, off a + S1x1024x512.size a ≤ S3x1024x512.size a) : Memref sig .tc .vmem S1024x512 .f32 :=
  (M.slice (rO off h) (fun _ => rfl)).squeeze S1024x512 squeezes_S1x1024x512_S1024x512

/-- What a copy leaves, when the destination read at `g` is the source read at `fs`. -/
theorem land {c c' : Dev nD} {sp sp' : Space} {s : Shape} {e : EltTy} {src : Memref sig .tc sp s e} {dst : Memref sig .tc sp' s e}
    {fs : Buf (Elt F) (src.view.loc (c : Thread nD τ))} {fd : Buf (Elt F) (dst.view.loc (c' : Thread nD τ))}
    (g : Buf (Elt F) (dst.view.loc (c' : Thread nD τ))) (hg : dst.view.read (Elt F) g = src.view.read (Elt F) fs) :
    (dst.view.loc (c' : Thread nD τ) ↦[dst.view.set]{fullShare} (dst.view.write (Elt F) fd (src.view.read (Elt F) fs) Finset.univ) : sProp 𝕄)
      = (dst.view.loc (c' : Thread nD τ) ↦[dst.view.set]{fullShare} g) := by
  refine pointsTo_congr fun i hi => ?_
  obtain ⟨x, -, rfl⟩ := Finset.mem_map.mp hi
  rw [← hg, View.write_emb_of_mem _ _ (Finset.mem_univ x), View.read_apply, cast_cast, cast_eq]

section Regions
variable {l t : ℕ} {c : Dev nD} {q : PosShare TreeShare}

/-- A squeezed block covers the indices of its rectangle. -/
theorem set_b8 (b : Ref sig .tc) (r : Rect b.ty.shape) {s'} {h} : (((View.whole b).slice r).reshape s' h).set = r.set := by
  rw [View.set_reshape, View.set_slice_whole]

/-- A slot of the partial products is the block a copy reads. -/
theorem pPart_eq (ht : t < 8) {h} (f : (cc0_scratch0 : Ref sig .tc).ty.Contents (Elt F)) :
    pPart (F := F) c (8 * l + t) f = ((b8 mPart ![l, t, 0, 0] h).view.loc (c : Thread nD τ) ↦[(b8 mPart ![l, t, 0, 0] h).view.set]{fullShare} f) := by
  have e : (b8 mPart ![l, t, 0, 0] h).view.set = k8 (8 * l + t) := (set_b8 cc0_scratch0 _).trans (set8 ht)
  exact congrArg (fun S : Finset (Idx ((c : Thread nD τ).loc cc0_scratch0)) => (((c : Thread nD τ).loc cc0_scratch0 ↦[S]{fullShare} f) : sProp 𝕄)) e.symm
/-- A slot of the reduce-scatter buffer is the block a copy writes. -/
theorem pRs_eq (ht : t < 7) {h} (f : (cc0_scratch1 : Ref sig .tc).ty.Contents (Elt F)) :
    pRs (F := F) c (7 * l + t) f = ((b7 mRs ![l, t, 0, 0] h).view.loc (c : Thread nD τ) ↦[(b7 mRs ![l, t, 0, 0] h).view.set]{fullShare} f) := by
  have e : (b7 mRs ![l, t, 0, 0] h).view.set = k7 (7 * l + t) := (set_b8 cc0_scratch1 _).trans (set7 ht)
  exact congrArg (fun S : Finset (Idx ((c : Thread nD τ).loc cc0_scratch1)) => (((c : Thread nD τ).loc cc0_scratch1 ↦[S]{fullShare} f) : sProp 𝕄)) e.symm
/-- A slot of the all-gather buffer is the block a copy moves. -/
theorem pAg_eq (ht : t < 8) {h} (f : (cc0_scratch2 : Ref sig .tc).ty.Contents (Elt F)) :
    pAg (F := F) c (8 * l + t) q f = ((b8 mAg ![l, t, 0, 0] h).view.loc (c : Thread nD τ) ↦[(b8 mAg ![l, t, 0, 0] h).view.set]{q} f) := by
  have e : (b8 mAg ![l, t, 0, 0] h).view.set = k8 (8 * l + t) := (set_b8 cc0_scratch2 _).trans (set8 ht)
  exact congrArg (fun S : Finset (Idx ((c : Thread nD τ).loc cc0_scratch2)) => (((c : Thread nD τ).loc cc0_scratch2 ↦[S]{q} f) : sProp 𝕄)) e.symm
/-- A layer's slot of the input weights is what its local copy writes. -/
theorem pWfi_eq {h} (f : (cc0_scratch3 : Ref sig .tc).ty.Contents (Elt F)) :
    pWfi (F := F) c l f = ((bI mWfi ![l, 0, 0] h).view.loc (c : Thread nD τ) ↦[(bI mWfi ![l, 0, 0] h).view.set]{fullShare} f) := by
  have e : (bI mWfi ![l, 0, 0] h).view.set = kI l := (set_b8 cc0_scratch3 _).trans setI
  exact congrArg (fun S : Finset (Idx ((c : Thread nD τ).loc cc0_scratch3)) => (((c : Thread nD τ).loc cc0_scratch3 ↦[S]{fullShare} f) : sProp 𝕄)) e.symm
/-- A layer's slot of the output weights is what its local copy writes. -/
theorem pWfo_eq {h} (f : (cc0_scratch4 : Ref sig .tc).ty.Contents (Elt F)) :
    pWfo (F := F) c l f = ((bO mWfo ![l, 0, 0] h).view.loc (c : Thread nD τ) ↦[(bO mWfo ![l, 0, 0] h).view.set]{fullShare} f) := by
  have e : (bO mWfo ![l, 0, 0] h).view.set = kO l := (set_b8 cc0_scratch4 _).trans setO
  exact congrArg (fun S : Finset (Idx ((c : Thread nD τ).loc cc0_scratch4)) => (((c : Thread nD τ).loc cc0_scratch4 ↦[S]{fullShare} f) : sProp 𝕄)) e.symm

/-- The blocks read as the transfers read them. -/
theorem read_part {h} (x : S64x128.Idx) : (b8 mPart ![l, t, 0, 0] h).view.read (Elt F) (cPart m ρ c) x
    = W4 m ρ l c t (Shape.reshapeEquiv squeezes_S1x1x64x128_S64x128.numel_eq x) :=
  c8_emb (fun l t => W4 m ρ l c t) (Shape.reshapeEquiv squeezes_S1x1x64x128_S64x128.numel_eq x)
/-- What a block of the full reduce-scatter buffer reads. -/
theorem read_rs {h} (x : S64x128.Idx) : (b7 mRs ![l, t, 0, 0] h).view.read (Elt F) (cRs m ρ c) x
    = R4 m ρ l c t (Shape.reshapeEquiv squeezes_S1x1x64x128_S64x128.numel_eq x) :=
  c7_emb (fun l t => R4 m ρ l c t) (Shape.reshapeEquiv squeezes_S1x1x64x128_S64x128.numel_eq x)
end Regions

/-- The arrays of the weights. -/
abbrev wsI : ℕ → Memref sig .tc .hbm S512x1024 .f32
  | 0 => Memref.whole main_arg1 | 1 => Memref.whole main_arg2 | _ => Memref.whole main_arg3
/-- The argument of layer `l`'s output weights. -/
abbrev wsO : ℕ → Memref sig .tc .hbm S1024x512 .f32
  | 0 => Memref.whole main_arg4 | 1 => Memref.whole main_arg5 | _ => Memref.whole main_arg6

/-- The loaded input weights are the argument's. -/
theorem wfi_eq (c : Dev nD) (l : ℕ) (x : S512x1024.Idx) :
    wfi m c l (Shape.reshapeEquiv squeezes_S1x512x1024_S512x1024.numel_eq x) = winSrc m c l x := by
  have e : Shape.reshapeEquiv squeezes_S1x512x1024_S512x1024.numel_eq x = Fin.cons ⟨0, Nat.one_pos⟩ x :=
    Shape.reshapeEquiv_cons_one (d := ![512, 1024]) _ x
  unfold wfi
  rw [e]
  congr 1
  funext a
  fin_cases a <;> rfl
/-- The loaded output weights are the argument's. -/
theorem wfo_eq (c : Dev nD) (l : ℕ) (x : S1024x512.Idx) :
    wfo m c l (Shape.reshapeEquiv squeezes_S1x1024x512_S1024x512.numel_eq x) = woutSrc m c l x := by
  have e : Shape.reshapeEquiv squeezes_S1x1024x512_S1024x512.numel_eq x = Fin.cons ⟨0, Nat.one_pos⟩ x :=
    Shape.reshapeEquiv_cons_one (d := ![1024, 512]) _ x
  unfold wfo
  rw [e]
  congr 1
  funext a
  fin_cases a <;> rfl

section Buffers
variable {c : Dev nD} {α : Type} {l t : ℕ} {off : Fin 4 → ℕ} {off3 : Fin 3 → ℕ} {q : PosShare TreeShare}

/-- A block of the partial products, read. -/
theorem rd_part (hoff : off = ![l, t, 0, 0]) {h} : (mPart.access (r8 off h)).read (Elt F) (cPart m ρ c) = W4 m ρ l c t := by
  subst hoff; exact funext fun j => c8_emb (fun l t => W4 m ρ l c t) j
/-- A block of the reduce-scatter buffer, read. -/
theorem rd_rs (hoff : off = ![l, t, 0, 0]) {h} : (mRs.access (r7 off h)).read (Elt F) (cRs m ρ c) = R4 m ρ l c t := by
  subst hoff; exact funext fun j => c7_emb (fun l t => R4 m ρ l c t) j
/-- A block of the all-gather buffer, read. -/
theorem rd_ag (hoff : off = ![l, t, 0, 0]) {h} : (mAg.access (r8 off h)).read (Elt F) (cAg m ρ) = A4 m ρ l t := by
  subst hoff; exact funext fun j => c8_emb (fun l t => A4 m ρ l t) j
/-- A layer of the loaded input weights, read. -/
theorem rd_wfi (hoff : off3 = ![l, 0, 0]) {h} : (mWfi.access (rI off3 h)).read (Elt F) (cWfi m c) = wfi m c l := by
  subst hoff; exact funext fun j => cI_emb (fun l => wfi m c l) j
/-- A layer of the cast input weights, read. -/
theorem rd_wbi (hoff : off3 = ![l, 0, 0]) {h} : (mWbi.access (rI off3 h)).read (Elt F) (cWbi m c) = wbi m c l := by
  subst hoff; exact funext fun j => cI_emb (fun l => wbi m c l) j
/-- A layer of the loaded output weights, read. -/
theorem rd_wfo (hoff : off3 = ![l, 0, 0]) {h} : (mWfo.access (rO off3 h)).read (Elt F) (cWfo m c) = wfo m c l := by
  subst hoff; exact funext fun j => cO_emb (fun l => wfo m c l) j
/-- A layer of the cast output weights, read. -/
theorem rd_wbo (hoff : off3 = ![l, 0, 0]) {h} : (mWbo.access (rO off3 h)).read (Elt F) (cWbo m c) = wbo m c l := by
  subst hoff; exact funext fun j => cO_emb (fun l => wbo m c l) j

/-- Loading a block of the partial products. -/
theorem ld_part {Q : α → sProp 𝕄} (ht : t < 8) (hoff : off = ![l, t, 0, 0]) {h hl} {f : (cc0_scratch0 : Ref sig .tc).ty.Contents (Elt F)}
    {k : Vec F S1x1x64x128 .bf16 → Prog (TpuEff nD τ sig (Elt F) Λ₀ .tc) α} :
    pPart c (8 * l + t) f ⊢ iprop((pPart c (8 * l + t) f -∗ WP c (k ((mPart.access (r8 off h)).read (Elt F) f)) Q)
      -∗ WP c (.op (.load mPart (r8 off h).toLoadRect hl) k) Q) := by
  subst hoff
  have e := ld (c := c) (Q := Q) (M := mPart) (r := r8 ![l, t, 0, 0] h) (hl := hl) (S := k8 (8 * l + t)) (k := k) (q := fullShare) (f := f) (((View.set_slice_whole cc0_scratch0 _).trans (set8 ht)).subset) rfl
  unfold pPart; exact e
/-- Storing a block of the partial products. -/
theorem st_part {Q : α → sProp 𝕄} (ht : t < 8) (hoff : off = ![l, t, 0, 0]) {h hx hm} {f : (cc0_scratch0 : Ref sig .tc).ty.Contents (Elt F)}
    {w : FVec F S1x1x64x128 .bf16} (hw : w = W4 m ρ l c t) {k : PUnit → Prog (TpuEff nD τ sig (Elt F) Λ₀ .tc) α} :
    pPart c (8 * l + t) f ⊢ iprop((pPart c (8 * l + t) (cPart m ρ c) -∗ WP c (k ⟨⟩) Q)
      -∗ WP c (.op (.store mPart (r8 off h) w Finset.univ hx hm) k) Q) := by
  subst hoff
  have e := stw (c := c) (Q := Q) (M := mPart) (r := r8 ![l, t, 0, 0] h) (S := k8 (8 * l + t)) (k := k) (w := w) (hx := hx) (hm := hm) (f := f) (g := cPart m ρ c) ((View.set_slice_whole cc0_scratch0 _).trans (set8 ht)) ((rd_part rfl).trans hw.symm)
  unfold pPart; exact e
/-- Loading a block of the reduce-scatter buffer. -/
theorem ld_rs {Q : α → sProp 𝕄} (ht : t < 7) (hoff : off = ![l, t, 0, 0]) {h hl} {f : (cc0_scratch1 : Ref sig .tc).ty.Contents (Elt F)}
    {k : Vec F S1x1x64x128 .bf16 → Prog (TpuEff nD τ sig (Elt F) Λ₀ .tc) α} :
    pRs c (7 * l + t) f ⊢ iprop((pRs c (7 * l + t) f -∗ WP c (k ((mRs.access (r7 off h)).read (Elt F) f)) Q)
      -∗ WP c (.op (.load mRs (r7 off h).toLoadRect hl) k) Q) := by
  subst hoff
  have e := ld (c := c) (Q := Q) (M := mRs) (r := r7 ![l, t, 0, 0] h) (hl := hl) (S := k7 (7 * l + t)) (k := k) (q := fullShare) (f := f) (((View.set_slice_whole cc0_scratch1 _).trans (set7 ht)).subset) rfl
  unfold pRs; exact e
/-- Loading a block of the all-gather buffer, with any share of it. -/
theorem ld_ag {Q : α → sProp 𝕄} (ht : t < 8) (hoff : off = ![l, t, 0, 0]) {h hl} {f : (cc0_scratch2 : Ref sig .tc).ty.Contents (Elt F)}
    {k : Vec F S1x1x64x128 .bf16 → Prog (TpuEff nD τ sig (Elt F) Λ₀ .tc) α} :
    pAg c (8 * l + t) q f ⊢ iprop((pAg c (8 * l + t) q f -∗ WP c (k ((mAg.access (r8 off h)).read (Elt F) f)) Q)
      -∗ WP c (.op (.load mAg (r8 off h).toLoadRect hl) k) Q) := by
  subst hoff
  have e := ld (c := c) (Q := Q) (M := mAg) (r := r8 ![l, t, 0, 0] h) (hl := hl) (S := k8 (8 * l + t)) (k := k) (q := q) (f := f) (((View.set_slice_whole cc0_scratch2 _).trans (set8 ht)).subset) rfl
  unfold pAg; exact e
/-- Storing the device's own activations. -/
theorem st_ag {Q : α → sProp 𝕄} (ht : t < 8) (hoff : off = ![l, t, 0, 0]) {h hx hm} {f : (cc0_scratch2 : Ref sig .tc).ty.Contents (Elt F)}
    {w : FVec F S1x1x64x128 .bf16} (hw : w = A4 m ρ l t) {k : PUnit → Prog (TpuEff nD τ sig (Elt F) Λ₀ .tc) α} :
    pAg c (8 * l + t) fullShare f ⊢ iprop((pAg c (8 * l + t) fullShare (cAg m ρ) -∗ WP c (k ⟨⟩) Q)
      -∗ WP c (.op (.store mAg (r8 off h) w Finset.univ hx hm) k) Q) := by
  subst hoff
  have e := stw (c := c) (Q := Q) (M := mAg) (r := r8 ![l, t, 0, 0] h) (S := k8 (8 * l + t)) (k := k) (w := w) (hx := hx) (hm := hm) (f := f) (g := cAg m ρ) ((View.set_slice_whole cc0_scratch2 _).trans (set8 ht)) ((rd_ag rfl).trans hw.symm)
  unfold pAg; exact e
/-- Loading a layer's input weights. -/
theorem ld_wfi {Q : α → sProp 𝕄} (hoff : off3 = ![l, 0, 0]) {h hl} {f : (cc0_scratch3 : Ref sig .tc).ty.Contents (Elt F)}
    {k : Vec F S1x512x1024 .f32 → Prog (TpuEff nD τ sig (Elt F) Λ₀ .tc) α} :
    pWfi c l f ⊢ iprop((pWfi c l f -∗ WP c (k ((mWfi.access (rI off3 h)).read (Elt F) f)) Q)
      -∗ WP c (.op (.load mWfi (rI off3 h).toLoadRect hl) k) Q) := by
  subst hoff
  have e := ld (c := c) (Q := Q) (M := mWfi) (r := rI ![l, 0, 0] h) (hl := hl) (S := kI l) (k := k) (q := fullShare) (f := f) (((View.set_slice_whole cc0_scratch3 _).trans setI).subset) rfl
  unfold pWfi; exact e
/-- Loading a layer's output weights. -/
theorem ld_wfo {Q : α → sProp 𝕄} (hoff : off3 = ![l, 0, 0]) {h hl} {f : (cc0_scratch4 : Ref sig .tc).ty.Contents (Elt F)}
    {k : Vec F S1x1024x512 .f32 → Prog (TpuEff nD τ sig (Elt F) Λ₀ .tc) α} :
    pWfo c l f ⊢ iprop((pWfo c l f -∗ WP c (k ((mWfo.access (rO off3 h)).read (Elt F) f)) Q)
      -∗ WP c (.op (.load mWfo (rO off3 h).toLoadRect hl) k) Q) := by
  subst hoff
  have e := ld (c := c) (Q := Q) (M := mWfo) (r := rO ![l, 0, 0] h) (hl := hl) (S := kO l) (k := k) (q := fullShare) (f := f) (((View.set_slice_whole cc0_scratch4 _).trans setO).subset) rfl
  unfold pWfo; exact e
/-- Loading a layer's cast input weights. -/
theorem ld_wbi {Q : α → sProp 𝕄} (hoff : off3 = ![l, 0, 0]) {h hl} {f : (cc0_scratch5 : Ref sig .tc).ty.Contents (Elt F)}
    {k : Vec F S1x512x1024 .bf16 → Prog (TpuEff nD τ sig (Elt F) Λ₀ .tc) α} :
    pWbi c l f ⊢ iprop((pWbi c l f -∗ WP c (k ((mWbi.access (rI off3 h)).read (Elt F) f)) Q)
      -∗ WP c (.op (.load mWbi (rI off3 h).toLoadRect hl) k) Q) := by
  subst hoff
  have e := ld (c := c) (Q := Q) (M := mWbi) (r := rI ![l, 0, 0] h) (hl := hl) (S := kI l) (k := k) (q := fullShare) (f := f) (((View.set_slice_whole cc0_scratch5 _).trans setI).subset) rfl
  unfold pWbi; exact e
/-- Storing a layer's cast input weights. -/
theorem st_wbi {Q : α → sProp 𝕄} (hoff : off3 = ![l, 0, 0]) {h hx hm} {f : (cc0_scratch5 : Ref sig .tc).ty.Contents (Elt F)}
    {w : Vec F S1x512x1024 .bf16} (hw : w = wbi m c l) {k : PUnit → Prog (TpuEff nD τ sig (Elt F) Λ₀ .tc) α} :
    pWbi c l f ⊢ iprop((pWbi c l (cWbi m c) -∗ WP c (k ⟨⟩) Q)
      -∗ WP c (.op (.store mWbi (rI off3 h) w Finset.univ hx hm) k) Q) := by
  subst hoff
  have e := stw (c := c) (Q := Q) (M := mWbi) (r := rI ![l, 0, 0] h) (S := kI l) (k := k) (w := w) (hx := hx) (hm := hm) (f := f) (g := cWbi m c) ((View.set_slice_whole cc0_scratch5 _).trans setI) ((rd_wbi rfl).trans hw.symm)
  unfold pWbi; exact e
/-- Loading a layer's cast output weights. -/
theorem ld_wbo {Q : α → sProp 𝕄} (hoff : off3 = ![l, 0, 0]) {h hl} {f : (cc0_scratch6 : Ref sig .tc).ty.Contents (Elt F)}
    {k : Vec F S1x1024x512 .bf16 → Prog (TpuEff nD τ sig (Elt F) Λ₀ .tc) α} :
    pWbo c l f ⊢ iprop((pWbo c l f -∗ WP c (k ((mWbo.access (rO off3 h)).read (Elt F) f)) Q)
      -∗ WP c (.op (.load mWbo (rO off3 h).toLoadRect hl) k) Q) := by
  subst hoff
  have e := ld (c := c) (Q := Q) (M := mWbo) (r := rO ![l, 0, 0] h) (hl := hl) (S := kO l) (k := k) (q := fullShare) (f := f) (((View.set_slice_whole cc0_scratch6 _).trans setO).subset) rfl
  unfold pWbo; exact e
/-- Storing a layer's cast output weights. -/
theorem st_wbo {Q : α → sProp 𝕄} (hoff : off3 = ![l, 0, 0]) {h hx hm} {f : (cc0_scratch6 : Ref sig .tc).ty.Contents (Elt F)}
    {w : Vec F S1x1024x512 .bf16} (hw : w = wbo m c l) {k : PUnit → Prog (TpuEff nD τ sig (Elt F) Λ₀ .tc) α} :
    pWbo c l f ⊢ iprop((pWbo c l (cWbo m c) -∗ WP c (k ⟨⟩) Q)
      -∗ WP c (.op (.store mWbo (rO off3 h) w Finset.univ hx hm) k) Q) := by
  subst hoff
  have e := stw (c := c) (Q := Q) (M := mWbo) (r := rO ![l, 0, 0] h) (S := kO l) (k := k) (w := w) (hx := hx) (hm := hm) (f := f) (g := cWbo m c) ((View.set_slice_whole cc0_scratch6 _).trans setO) ((rd_wbo rfl).trans hw.symm)
  unfold pWbo; exact e

/-- The rows of the output weights that one block of activations meets. -/
abbrev rW (off : Fin 3 → ℕ) (h : ∀ a, off a + S1x128x512.size a ≤ S3x1024x512.size a) : Rect S3x1024x512 :=
  Rect.unit (s := S3x1024x512) off S1x128x512.size h
/-- Those rows lie in their layer. -/
theorem setW {h} : (rW ![l, 128 * t, 0] h).set ⊆ kO l := by
  intro i hi
  simp only [kO, Finset.mem_filter, Finset.mem_univ, true_and]
  have a0 := (Rect.mem_set_unit.mp hi) 0
  simp [Shape.size] at a0
  omega
/-- Those rows, read. -/
theorem rd_wob (ht : t < 8) (hoff : off3 = ![l, 128 * t, 0]) {h} : (mWbo.access (rW off3 h)).read (Elt F) (cWbo m c) = wob m c l t := by
  subst hoff
  funext j
  show cO (fun l => wbo m c l) ((rW ![l, 128 * t, 0] h).emb j) = _
  unfold cO wob
  have h0 : (j 0).val = 0 := Nat.lt_one_iff.mp (j 0).isLt
  have h1 : (j 1).val < 128 := (j 1).isLt
  have e0 : ((rW ![l, 128 * t, 0] h).emb j 0).val = l := by
    show l + 1 * (j 0).val = l; omega
  rw [e0]
  congr 1
  funext a
  apply Fin.ext
  fin_cases a
  · rfl
  · show 128 * t + 1 * (j 1).val = (128 * t + (j 1).val) % 1024; omega
  · show 0 + 1 * (j 2).val = (j 2).val; omega
/-- Loading those rows. -/
theorem ld_wob {Q : α → sProp 𝕄} (ht : t < 8) (hoff : off3 = ![l, 128 * t, 0]) {h hl}
    {k : Vec F S1x128x512 .bf16 → Prog (TpuEff nD τ sig (Elt F) Λ₀ .tc) α} :
    pWbo c l (cWbo m c) ⊢ iprop((pWbo c l (cWbo m c) -∗ WP c (k (wob m c l t)) Q)
      -∗ WP c (.op (.load mWbo (rW off3 h).toLoadRect hl) k) Q) := by
  have e := ld (c := c) (Q := Q) (M := mWbo) (r := rW off3 h) (hl := hl) (S := kO l) (k := k) (q := fullShare) (f := cWbo m c)
    (by subst hoff; exact (View.set_slice_whole cc0_scratch6 _).subset.trans setW) (rd_wob ht hoff)
  unfold pWbo; exact e

end Buffers

end Cert.KernelIdealProof

end
-- ==== Proof.Steps.lean ====
module

public import proofs.«01_k».proof.Proof.Buffers

/-! # The steps of a device's program

One lemma per kind of effect: from the state before it, the rest of the program is to be run from the state after it. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}

section Steps
variable {c : Dev nD} {α : Type} {ng ns nw x nr np lp na si wi ki so wo ko : ℕ} {b od : Bool}
variable {k : PUnit → Prog (TpuEff nD τ sig (Elt F) Λ₀ .tc) α}

/-- The signal to the device `i + 1` places on. -/
theorem st_sig {Q : α → sProp 𝕄} {i k' : ℕ} {dv : Dev nD} {sm : Sem sig} (hd : dv = nx c i) (hi : i < 7) (hs : sm = barS) (hk : 1 = k')
    (h : St m ρ c (i + 1) b 0 nw x nr np lp na si wi ki so wo ko od ⊢ WP c (k ⟨⟩) Q) :
    St m ρ c i b 0 nw x nr np lp na si wi ki so wo ko od ⊢ WP c (.op (.semSignal (dv : Thread nD τ) sm k') k) Q := by
  subst hd hs
  unfold St sigC at h ⊢
  iintro ⟨#Hrec, #Hlev, HO, Hsig, Hbar, Hdst, Htok, Hcrd, Hsat, Hsrd, Hret, Hrcv, Hpart, Hag, Hwi, Hwo, Hx, Hout⟩
  ihave Hs := (peel hi _) $$ Hsig
  icases Hs with ⟨⟨Ht, Hp⟩, Hsig⟩
  ihave #HI := (IC_bar m ρ (nx c i)) $$ Hrec
  iapply (sig_raw m ρ hi hk) $$ [HO Ht Hp]
  · isplitr; · iexact HI
    isplitl [HO]; · iexact HO
    isplitl [Ht]; · iexact Ht
    iexact Hp
  iintro HO
  iapply h
  iframe Hrec Hlev HO Hsig Hbar Hdst Htok Hcrd Hsat Hsrd Hret Hrcv Hpart Hag Hwi Hwo Hx Hout

/-- What holds, holds. -/
theorem idE (P : sProp 𝕄) : P ⊢ P := Entails.refl _

/-- The arrays of the weights hold what they held at launch. -/
def bufI (m : (ℓ : Loc nD τ sig) → Buf (Elt F) ℓ) (c : Dev nD) : (l : ℕ) → Buf (Elt F) ((wsI l).view.loc (c : Thread nD τ))
  | 0 => m ((c : Thread nD τ).loc main_arg1) | 1 => m ((c : Thread nD τ).loc main_arg2) | _ + 2 => m ((c : Thread nD τ).loc main_arg3)
/-- The contents of layer `l`'s argument of output weights. -/
def bufO (m : (ℓ : Loc nD τ sig) → Buf (Elt F) ℓ) (c : Dev nD) : (l : ℕ) → Buf (Elt F) ((wsO l).view.loc (c : Thread nD τ))
  | 0 => m ((c : Thread nD τ).loc main_arg4) | 1 => m ((c : Thread nD τ).loc main_arg5) | _ + 2 => m ((c : Thread nD τ).loc main_arg6)
/-- The input weights' argument reads as `winSrc`. -/
theorem bufI_read (l : ℕ) : (wsI l).view.read (Elt F) (bufI m c l) = winSrc m c l := by
  match l with
  | 0 => rfl
  | 1 => rfl
  | _ + 2 => rfl
/-- The output weights' argument reads as `woutSrc`. -/
theorem bufO_read (l : ℕ) : (wsO l).view.read (Elt F) (bufO m c l) = woutSrc m c l := by
  match l with
  | 0 => rfl
  | 1 => rfl
  | _ + 2 => rfl
/-- Owning the input weights' argument is owning what its local copy reads. -/
theorem srcI_eq (l : ℕ) : srcI m c l = ((wsI l).view.loc (c : Thread nD τ) ↦[(wsI l).view.set]{fullShare} bufI m c l) := by
  match l with
  | 0 => exact congrArg (fun S : Finset (Idx ((c : Thread nD τ).loc main_arg1)) => (((c : Thread nD τ).loc main_arg1 ↦[S]{fullShare} winSrc m c 0) : sProp 𝕄)) (show Finset.univ = (View.whole (main_arg1 : Ref sig .tc)).set from (View.set_whole (main_arg1 : Ref sig .tc)).symm)
  | 1 => exact congrArg (fun S : Finset (Idx ((c : Thread nD τ).loc main_arg2)) => (((c : Thread nD τ).loc main_arg2 ↦[S]{fullShare} winSrc m c 1) : sProp 𝕄)) (show Finset.univ = (View.whole (main_arg2 : Ref sig .tc)).set from (View.set_whole (main_arg2 : Ref sig .tc)).symm)
  | _ + 2 => exact congrArg (fun S : Finset (Idx ((c : Thread nD τ).loc main_arg3)) => (((c : Thread nD τ).loc main_arg3 ↦[S]{fullShare} winSrc m c 2) : sProp 𝕄)) (show Finset.univ = (View.whole (main_arg3 : Ref sig .tc)).set from (View.set_whole (main_arg3 : Ref sig .tc)).symm)
/-- Owning the output weights' argument is owning what its local copy reads. -/
theorem srcO_eq (l : ℕ) : srcO m c l = ((wsO l).view.loc (c : Thread nD τ) ↦[(wsO l).view.set]{fullShare} bufO m c l) := by
  match l with
  | 0 => exact congrArg (fun S : Finset (Idx ((c : Thread nD τ).loc main_arg4)) => (((c : Thread nD τ).loc main_arg4 ↦[S]{fullShare} woutSrc m c 0) : sProp 𝕄)) (show Finset.univ = (View.whole (main_arg4 : Ref sig .tc)).set from (View.set_whole (main_arg4 : Ref sig .tc)).symm)
  | 1 => exact congrArg (fun S : Finset (Idx ((c : Thread nD τ).loc main_arg5)) => (((c : Thread nD τ).loc main_arg5 ↦[S]{fullShare} woutSrc m c 1) : sProp 𝕄)) (show Finset.univ = (View.whole (main_arg5 : Ref sig .tc)).set from (View.set_whole (main_arg5 : Ref sig .tc)).symm)
  | _ + 2 => exact congrArg (fun S : Finset (Idx ((c : Thread nD τ).loc main_arg6)) => (((c : Thread nD τ).loc main_arg6 ↦[S]{fullShare} woutSrc m c 2) : sProp 𝕄)) (show Finset.univ = (View.whole (main_arg6 : Ref sig .tc)).set from (View.set_whole (main_arg6 : Ref sig .tc)).symm)

/-- The landed input weights read as their source. -/
theorem read_wfi {l : ℕ} {h} : (bI mWfi ![l, 0, 0] h).view.read (Elt F) (cWfi m c) = (wsI l).view.read (Elt F) (bufI m c l) := by
  rw [bufI_read]
  exact funext fun y => (cI_emb (fun l => wfi m c l) (Shape.reshapeEquiv squeezes_S1x512x1024_S512x1024.numel_eq y)).trans (wfi_eq c l y)
/-- The start of the copy of layer `si`'s input weights. -/
theorem st_cpI {Q : α → sProp 𝕄} {off : Fin 3 → ℕ} {M : Memref sig .tc .hbm S512x1024 .f32} {sm : DmaSem sig} (hM : M = wsI si) (hoff : off = ![si, 0, 0])
    (hsm : sm = dq (2 + si)) (hl : si < 3) (hw : wi ≤ si) {h0} {h1 h2 h3}
    (h : St m ρ c ng b ns nw x nr np lp na (si + 1) wi ki so wo ko od ⊢ WP c (k ⟨⟩) Q) :
    St m ρ c ng b ns nw x nr np lp na si wi ki so wo ko od ⊢ WP c (.op (.enqueueDma M (.here (bI mWfi off h0)) (.dma sm) h1 h2 h3) k) Q := by
  subst hM hoff hsm
  unfold St at h ⊢
  unfold wiC at ⊢
  iintro ⟨#Hrec, #Hlev, HO, Hsig, Hbar, Hdst, Htok, Hcrd, Hsat, Hsrd, Hret, Hrcv, Hpart, Hag, Hwi, Hwo, Hx, Hout⟩
  icases Hwi with ⟨H1, H2, H3⟩
  ihave H1 := (peel hl _) $$ H1
  icases H1 with ⟨⟨⟨%fd, Hd⟩, Ht, Hs⟩, H1⟩
  ihave #HI := (IC_dma m ρ c (n := 2 + si) (by omega) (by omega)) $$ Hrec
  ihave Hs := (Entails.of_eq (srcI_eq si)) $$ Hs
  ihave Hd := (Entails.of_eq (pWfi_eq (h := h0) fd)) $$ Hd
  iapply (copy_raw m ρ (c := c) (k := k) (Q := Q) (n := 2 + si) (by omega) (by omega) (src := wsI si) (dst := bI mWfi ![si, 0, 0] h0) (rfl) (fs := bufI m c si) (fd := fd)
    (by
      rw [land (c := c) (c' := c) (src := wsI si) (dst := bI mWfi ![si, 0, 0] h0) (fs := bufI m c si) (fd := fd) (cWfi m c) read_wfi, ← pWfi_eq (h := h0), ← srcI_eq]
      unfold dmaPay
      first
        | rw [if_pos (by omega), Nat.add_sub_cancel_left]; exact Entails.refl _
        | rw [if_neg (by omega), if_pos (by omega), Nat.add_sub_cancel_left]; exact Entails.refl _)) $$ [Hs Hd Ht]
  · isplitr; · iexact HI
    isplitl [Hs]; · iexact Hs
    isplitl [Hd]; · iexact Hd
    iexact Ht
  iintro Hc
  icases H3 with ⟨H3, H4⟩
  ihave H2 := (push hw (fun l => cred (tallyAt (dCell c (2 + l)) () Nw))) $$ [Hc H2]
  · iframe Hc H2
  ihave Hwi := (idE (wiC m c (si + 1) wi ki)) $$ [H1 H2 H3 H4]
  · unfold wiC; iframe H1 H2 H3 H4
  iapply h
  iframe Hrec Hlev HO Hsig Hbar Hdst Htok Hcrd Hsat Hsrd Hret Hrcv Hpart Hag Hwi Hwo Hx Hout

/-- The landed output weights read as their source. -/
theorem read_wfo {l : ℕ} {h} : (bO mWfo ![l, 0, 0] h).view.read (Elt F) (cWfo m c) = (wsO l).view.read (Elt F) (bufO m c l) := by
  rw [bufO_read]
  exact funext fun y => (cO_emb (fun l => wfo m c l) (Shape.reshapeEquiv squeezes_S1x1024x512_S1024x512.numel_eq y)).trans (wfo_eq c l y)
/-- The start of the copy of layer `so`'s output weights. -/
theorem st_cpO {Q : α → sProp 𝕄} {off : Fin 3 → ℕ} {M : Memref sig .tc .hbm S1024x512 .f32} {sm : DmaSem sig} (hM : M = wsO so) (hoff : off = ![so, 0, 0])
    (hsm : sm = dq (5 + so)) (hl : so < 3) (hw : wo ≤ so) {h0} {h1 h2 h3}
    (h : St m ρ c ng b ns nw x nr np lp na si wi ki (so + 1) wo ko od ⊢ WP c (k ⟨⟩) Q) :
    St m ρ c ng b ns nw x nr np lp na si wi ki so wo ko od ⊢ WP c (.op (.enqueueDma M (.here (bO mWfo off h0)) (.dma sm) h1 h2 h3) k) Q := by
  subst hM hoff hsm
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3⟩
  ihave H1 := (peel hl _) $$ H1
  icases H1 with ⟨⟨⟨%fd, Hd⟩, Ht, Hs⟩, H1⟩
  ihave #HI := (IC_dma m ρ c (n := 5 + so) (by omega) (by omega)) $$ Hrec
  ihave Hs := (Entails.of_eq (srcO_eq so)) $$ Hs
  ihave Hd := (Entails.of_eq (pWfo_eq (h := h0) fd)) $$ Hd
  iapply (copy_raw m ρ (c := c) (k := k) (Q := Q) (n := 5 + so) (by omega) (by omega) (src := wsO so) (dst := bO mWfo ![so, 0, 0] h0) (Nw_wo) (fs := bufO m c so) (fd := fd)
    (by
      rw [land (c := c) (c' := c) (src := wsO so) (dst := bO mWfo ![so, 0, 0] h0) (fs := bufO m c so) (fd := fd) (cWfo m c) read_wfo, ← pWfo_eq (h := h0), ← srcO_eq]
      unfold dmaPay
      first
        | rw [if_pos (by omega), Nat.add_sub_cancel_left]; exact Entails.refl _
        | rw [if_neg (by omega), if_pos (by omega), Nat.add_sub_cancel_left]; exact Entails.refl _)) $$ [Hs Hd Ht]
  · isplitr; · iexact HI
    isplitl [Hs]; · iexact Hs
    isplitl [Hd]; · iexact Hd
    iexact Ht
  iintro Hc
  icases H3 with ⟨H3, H4⟩
  ihave H2 := (push hw (fun l => cred (tallyAt (dCell c (5 + l)) () Nw))) $$ [Hc H2]
  · iframe Hc H2
  ihave Hwo := (idE (woC m c (so + 1) wo ko)) $$ [H1 H2 H3 H4]
  · unfold woC; iframe H1 H2 H3 H4
  iapply h
  iframe Hrec Hlev HO Hsig Hbar Hdst Htok Hcrd Hsat Hsrd Hret Hrcv Hpart Hag Hwi Hwo Hx Hout

/-- The weights' and the sends' cells are at the lowest level. -/
theorem lv_low {n : ℕ} (hn : n < 50) : lv (dCell c n) () ≤ 0 := by
  show (if (dq n).val < 50 then 0 else 2 + ((dq n).val - 50) / 7) ≤ 0
  rw [dq_val (by omega), if_pos hn]
/-- The cell of layer `l`'s input weights returns them. -/
theorem pay_wi {l : ℕ} (hl : l < 3) : dmaPay m ρ c (2 + l) = wiPay m c l := by
  unfold dmaPay; rw [if_pos (by omega), Nat.add_sub_cancel_left]
/-- The cell of layer `l`'s output weights returns them. -/
theorem pay_wo {l : ℕ} (hl : l < 3) : dmaPay m ρ c (5 + l) = woPay m c l := by
  unfold dmaPay; rw [if_neg (by omega), if_pos (by omega), Nat.add_sub_cancel_left]

/-- The wait for the copy of layer `wi`'s input weights. -/
theorem st_waitI {Q : α → sProp 𝕄} {sm : DmaSem sig} {src : Memref sig .tc .hbm S512x1024 .f32} {dst : Memref sig .tc .vmem S512x1024 .f32} (hsm : sm = dq (2 + wi))
    (hN : dst.view.dmaCredit = Nw) (hw : wi < si) (hs : si ≤ 3) {h1 h2} (h : St m ρ c ng b ns nw x nr np lp na si (wi + 1) ki so wo ko od ⊢ WP c (k ⟨⟩) Q) :
    St m ρ c ng b ns nw x nr np lp na si wi ki so wo ko od ⊢ WP c (.op (.waitDma2 sm src dst h1 h2) k) Q := by
  subst hsm
  unfold St at h ⊢
  unfold wiC at ⊢
  iintro ⟨#Hrec, #Hlev, HO, Hsig, Hbar, Hdst, Htok, Hcrd, Hsat, Hsrd, Hret, Hrcv, Hpart, Hag, Hwi, Hwo, Hx, Hout⟩
  icases Hwi with ⟨H1, H2, H3, H4, H5, H6⟩
  ihave H2 := (peel hw _) $$ H2
  icases H2 with ⟨Hc, H2⟩
  ihave H3 := (peel (show wi < 3 by omega) _) $$ H3
  icases H3 with ⟨Ha, H3⟩
  ihave #HI := (IC_dma m ρ c (n := 2 + wi) (by omega) (by omega)) $$ Hrec
  iapply (wait_raw m ρ (c := c) (k := k) (Q := Q) (n := 2 + wi) (j := 0) (o := ng + ns) (by omega) (by omega) (lv_low (by omega)) (fun i _ _ => by split <;> omega)
    (src := src) (dst := dst) (hN.trans (if_pos (by omega)).symm)) $$ [HO Hc Ha]
  · isplitr; · iexact HI
    isplitr; · iexact Hlev
    isplitl [HO]; · iexact HO
    isplitl [Hc]
    · rw [if_pos (by omega)]; iexact Hc
    iexact Ha
  rw [pay_wi (by omega)]
  iintro ⟨HO, Ha, Hp⟩
  ihave H4 := (push (Nat.zero_le wi) (fun l => iprop(atPos ER (dCell c (2 + l)) (0 + 1) ∅ 0 ∗ wiPay m c l))) $$ [Ha Hp H4]
  · iframe Ha Hp H4
  ihave Hwi := (idE (wiC m c si (wi + 1) ki)) $$ [H1 H2 H3 H4 H5 H6]
  · unfold wiC; iframe H1 H2 H3 H4 H5 H6
  iapply h
  iframe Hrec Hlev HO Hsig Hbar Hdst Htok Hcrd Hsat Hsrd Hret Hrcv Hpart Hag Hwi Hwo Hx Hout

/-- A load of layer `l`'s input weights as they landed. -/
theorem st_ldI {Q : α → sProp 𝕄} {l : ℕ} {off : Fin 3 → ℕ} {k : Vec F S1x512x1024 .f32 → Prog (TpuEff nD τ sig (Elt F) Λ₀ .tc) α} (hoff : off = ![l, 0, 0]) (hw : l < wi) {h0 hl}
    (h : St m ρ c ng b ns nw x nr np lp na si wi ki so wo ko od ⊢ WP c (k (wfi m c l)) Q) :
    St m ρ c ng b ns nw x nr np lp na si wi ki so wo ko od ⊢ WP c (.op (.load mWfi (rI off h0).toLoadRect hl) k) Q := by
  unfold St at h ⊢
  unfold wiC at ⊢
  iintro ⟨#Hrec, #Hlev, HO, Hsig, Hbar, Hdst, Htok, Hcrd, Hsat, Hsrd, Hret, Hrcv, Hpart, Hag, Hwi, Hwo, Hx, Hout⟩
  icases Hwi with ⟨H1, H2, H3, H4, H5, H6⟩
  ihave H4 := (acc (n := l) ⟨Nat.zero_le _, hw⟩ _) $$ H4
  icases H4 with ⟨⟨Ha, Hp⟩, H4⟩
  unfold wiPay
  icases Hp with ⟨Hp, Hs⟩
  iapply (ld_wfi (Q := Q) hoff) $$ [Hp]
  · iexact Hp
  rw [rd_wfi hoff]
  iintro Hp
  ihave H4 := H4 $$ [Ha Hp Hs]
  · iframe Ha Hp Hs
  ihave Hwi := (idE (wiC m c si wi ki)) $$ [H1 H2 H3 H4 H5 H6]
  · unfold wiC; iframe H1 H2 H3 H4 H5 H6
  iapply h
  iframe Hrec Hlev HO Hsig Hbar Hdst Htok Hcrd Hsat Hsrd Hret Hrcv Hpart Hag Hwi Hwo Hx Hout

/-- A load of the slot of layer `ki`'s cast input weights before it is written. -/
theorem st_rawBI {Q : α → sProp 𝕄} {off : Fin 3 → ℕ} {k : Vec F S1x512x1024 .bf16 → Prog (TpuEff nD τ sig (Elt F) Λ₀ .tc) α} (hoff : off = ![ki, 0, 0]) (hw : ki < 3) {h0 hl}
    (h : ∀ v, St m ρ c ng b ns nw x nr np lp na si wi ki so wo ko od ⊢ WP c (k v) Q) :
    St m ρ c ng b ns nw x nr np lp na si wi ki so wo ko od ⊢ WP c (.op (.load mWbi (rI off h0).toLoadRect hl) k) Q := by
  unfold St at h ⊢
  unfold wiC at ⊢
  iintro ⟨#Hrec, #Hlev, HO, Hsig, Hbar, Hdst, Htok, Hcrd, Hsat, Hsrd, Hret, Hrcv, Hpart, Hag, Hwi, Hwo, Hx, Hout⟩
  icases Hwi with ⟨H1, H2, H3, H4, H5, H6⟩
  ihave H5 := (acc (n := ki) ⟨le_rfl, hw⟩ _) $$ H5
  icases H5 with ⟨⟨%f, Hp⟩, H5⟩
  iapply (ld_wbi (Q := Q) hoff) $$ [Hp]
  · iexact Hp
  iintro Hp
  ihave H5 := H5 $$ [Hp]
  · iexists f; iexact Hp
  ihave Hwi := (idE (wiC m c si wi ki)) $$ [H1 H2 H3 H4 H5 H6]
  · unfold wiC; iframe H1 H2 H3 H4 H5 H6
  iapply (h _)
  iframe Hrec Hlev HO Hsig Hbar Hdst Htok Hcrd Hsat Hsrd Hret Hrcv Hpart Hag Hwi Hwo Hx Hout

/-- The store of layer `ki`'s cast input weights. -/
theorem st_stBI {Q : α → sProp 𝕄} {off : Fin 3 → ℕ} {w : Vec F S1x512x1024 .bf16} (hoff : off = ![ki, 0, 0]) (hv : w = wbi m c ki) (hw : ki < 3) {h0 hx hm}
    (h : St m ρ c ng b ns nw x nr np lp na si wi (ki + 1) so wo ko od ⊢ WP c (k ⟨⟩) Q) :
    St m ρ c ng b ns nw x nr np lp na si wi ki so wo ko od ⊢ WP c (.op (.store mWbi (rI off h0) w Finset.univ hx hm) k) Q := by
  unfold St at h ⊢
  unfold wiC at ⊢
  iintro ⟨#Hrec, #Hlev, HO, Hsig, Hbar, Hdst, Htok, Hcrd, Hsat, Hsrd, Hret, Hrcv, Hpart, Hag, Hwi, Hwo, Hx, Hout⟩
  icases Hwi with ⟨H1, H2, H3, H4, H5, H6⟩
  ihave H5 := (peel hw _) $$ H5
  icases H5 with ⟨⟨%f, Hp⟩, H5⟩
  iapply (st_wbi (Q := Q) hoff hv) $$ [Hp]
  · iexact Hp
  iintro Hp
  ihave H6 := (push (Nat.zero_le ki) (fun l => pWbi c l (cWbi m c))) $$ [Hp H6]
  · iframe Hp H6
  ihave Hwi := (idE (wiC m c si wi (ki + 1))) $$ [H1 H2 H3 H4 H5 H6]
  · unfold wiC; iframe H1 H2 H3 H4 H5 H6
  iapply h
  iframe Hrec Hlev HO Hsig Hbar Hdst Htok Hcrd Hsat Hsrd Hret Hrcv Hpart Hag Hwi Hwo Hx Hout

/-- A load of layer `l`'s cast input weights. -/
theorem st_ldBI {Q : α → sProp 𝕄} {l : ℕ} {off : Fin 3 → ℕ} {k : Vec F S1x512x1024 .bf16 → Prog (TpuEff nD τ sig (Elt F) Λ₀ .tc) α} (hoff : off = ![l, 0, 0]) (hw : l < ki) {h0 hl}
    (h : St m ρ c ng b ns nw x nr np lp na si wi ki so wo ko od ⊢ WP c (k (wbi m c l)) Q) :
    St m ρ c ng b ns nw x nr np lp na si wi ki so wo ko od ⊢ WP c (.op (.load mWbi (rI off h0).toLoadRect hl) k) Q := by
  unfold St at h ⊢
  unfold wiC at ⊢
  iintro ⟨#Hrec, #Hlev, HO, Hsig, Hbar, Hdst, Htok, Hcrd, Hsat, Hsrd, Hret, Hrcv, Hpart, Hag, Hwi, Hwo, Hx, Hout⟩
  icases Hwi with ⟨H1, H2, H3, H4, H5, H6⟩
  ihave H6 := (acc (n := l) ⟨Nat.zero_le _, hw⟩ _) $$ H6
  icases H6 with ⟨Hp, H6⟩
  iapply (ld_wbi (Q := Q) hoff) $$ [Hp]
  · iexact Hp
  rw [rd_wbi hoff]
  iintro Hp
  ihave H6 := H6 $$ [Hp]
  · iexact Hp
  ihave Hwi := (idE (wiC m c si wi ki)) $$ [H1 H2 H3 H4 H5 H6]
  · unfold wiC; iframe H1 H2 H3 H4 H5 H6
  iapply h
  iframe Hrec Hlev HO Hsig Hbar Hdst Htok Hcrd Hsat Hsrd Hret Hrcv Hpart Hag Hwi Hwo Hx Hout

/-- The wait for the copy of layer `wo`'s output weights. -/
theorem st_waitO {Q : α → sProp 𝕄} {sm : DmaSem sig} {src : Memref sig .tc .hbm S1024x512 .f32} {dst : Memref sig .tc .vmem S1024x512 .f32} (hsm : sm = dq (5 + wo))
    (hN : dst.view.dmaCredit = Nw) (hw : wo < so) (hs : so ≤ 3) {h1 h2} (h : St m ρ c ng b ns nw x nr np lp na si wi ki so (wo + 1) ko od ⊢ WP c (k ⟨⟩) Q) :
    St m ρ c ng b ns nw x nr np lp na si wi ki so wo ko od ⊢ WP c (.op (.waitDma2 sm src dst h1 h2) k) Q := by
  subst hsm
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3, H4, H5, H6⟩
  ihave H2 := (peel hw _) $$ H2
  icases H2 with ⟨Hc, H2⟩
  ihave H3 := (peel (show wo < 3 by omega) _) $$ H3
  icases H3 with ⟨Ha, H3⟩
  ihave #HI := (IC_dma m ρ c (n := 5 + wo) (by omega) (by omega)) $$ Hrec
  iapply (wait_raw m ρ (c := c) (k := k) (Q := Q) (n := 5 + wo) (j := 0) (o := ng + ns) (by omega) (by omega) (lv_low (by omega)) (fun i _ _ => by split <;> omega)
    (src := src) (dst := dst) (hN.trans (if_pos (by omega)).symm)) $$ [HO Hc Ha]
  · isplitr; · iexact HI
    isplitr; · iexact Hlev
    isplitl [HO]; · iexact HO
    isplitl [Hc]
    · rw [if_pos (by omega)]; iexact Hc
    iexact Ha
  rw [pay_wo (by omega)]
  iintro ⟨HO, Ha, Hp⟩
  ihave H4 := (push (Nat.zero_le wo) (fun l => iprop(atPos ER (dCell c (5 + l)) (0 + 1) ∅ 0 ∗ woPay m c l))) $$ [Ha Hp H4]
  · iframe Ha Hp H4
  ihave Hwo := (idE (woC m c so (wo + 1) ko)) $$ [H1 H2 H3 H4 H5 H6]
  · unfold woC; iframe H1 H2 H3 H4 H5 H6
  iapply h
  iframe Hrec Hlev HO Hsig Hbar Hdst Htok Hcrd Hsat Hsrd Hret Hrcv Hpart Hag Hwi Hwo Hx Hout

/-- A load of layer `l`'s output weights as they landed. -/
theorem st_ldO {Q : α → sProp 𝕄} {l : ℕ} {off : Fin 3 → ℕ} {k : Vec F S1x1024x512 .f32 → Prog (TpuEff nD τ sig (Elt F) Λ₀ .tc) α} (hoff : off = ![l, 0, 0]) (hw : l < wo) {h0 hl}
    (h : St m ρ c ng b ns nw x nr np lp na si wi ki so wo ko od ⊢ WP c (k (wfo m c l)) Q) :
    St m ρ c ng b ns nw x nr np lp na si wi ki so wo ko od ⊢ WP c (.op (.load mWfo (rO off h0).toLoadRect hl) k) Q := by
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3, H4, H5, H6⟩
  ihave H4 := (acc (n := l) ⟨Nat.zero_le _, hw⟩ _) $$ H4
  icases H4 with ⟨⟨Ha, Hp⟩, H4⟩
  unfold woPay
  icases Hp with ⟨Hp, Hs⟩
  iapply (ld_wfo (Q := Q) hoff) $$ [Hp]
  · iexact Hp
  rw [rd_wfo hoff]
  iintro Hp
  ihave H4 := H4 $$ [Ha Hp Hs]
  · iframe Ha Hp Hs
  ihave Hwo := (idE (woC m c so wo ko)) $$ [H1 H2 H3 H4 H5 H6]
  · unfold woC; iframe H1 H2 H3 H4 H5 H6
  iapply h
  iframe Hrec Hlev HO Hsig Hbar Hdst Htok Hcrd Hsat Hsrd Hret Hrcv Hpart Hag Hwi Hwo Hx Hout

/-- A load of the slot of layer `ko`'s cast output weights before it is written. -/
theorem st_rawBO {Q : α → sProp 𝕄} {off : Fin 3 → ℕ} {k : Vec F S1x1024x512 .bf16 → Prog (TpuEff nD τ sig (Elt F) Λ₀ .tc) α} (hoff : off = ![ko, 0, 0]) (hw : ko < 3) {h0 hl}
    (h : ∀ v, St m ρ c ng b ns nw x nr np lp na si wi ki so wo ko od ⊢ WP c (k v) Q) :
    St m ρ c ng b ns nw x nr np lp na si wi ki so wo ko od ⊢ WP c (.op (.load mWbo (rO off h0).toLoadRect hl) k) Q := by
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3, H4, H5, H6⟩
  ihave H5 := (acc (n := ko) ⟨le_rfl, hw⟩ _) $$ H5
  icases H5 with ⟨⟨%f, Hp⟩, H5⟩
  iapply (ld_wbo (Q := Q) hoff) $$ [Hp]
  · iexact Hp
  iintro Hp
  ihave H5 := H5 $$ [Hp]
  · iexists f; iexact Hp
  ihave Hwo := (idE (woC m c so wo ko)) $$ [H1 H2 H3 H4 H5 H6]
  · unfold woC; iframe H1 H2 H3 H4 H5 H6
  iapply (h _)
  iframe Hrec Hlev HO Hsig Hbar Hdst Htok Hcrd Hsat Hsrd Hret Hrcv Hpart Hag Hwi Hwo Hx Hout

/-- The store of layer `ko`'s cast output weights. -/
theorem st_stBO {Q : α → sProp 𝕄} {off : Fin 3 → ℕ} {w : Vec F S1x1024x512 .bf16} (hoff : off = ![ko, 0, 0]) (hv : w = wbo m c ko) (hw : ko < 3) {h0 hx hm}
    (h : St m ρ c ng b ns nw x nr np lp na si wi ki so wo (ko + 1) od ⊢ WP c (k ⟨⟩) Q) :
    St m ρ c ng b ns nw x nr np lp na si wi ki so wo ko od ⊢ WP c (.op (.store mWbo (rO off h0) w Finset.univ hx hm) k) Q := by
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3, H4, H5, H6⟩
  ihave H5 := (peel hw _) $$ H5
  icases H5 with ⟨⟨%f, Hp⟩, H5⟩
  iapply (st_wbo (Q := Q) hoff hv) $$ [Hp]
  · iexact Hp
  iintro Hp
  ihave H6 := (push (Nat.zero_le ko) (fun l => pWbo c l (cWbo m c))) $$ [Hp H6]
  · iframe Hp H6
  ihave Hwo := (idE (woC m c so wo (ko + 1))) $$ [H1 H2 H3 H4 H5 H6]
  · unfold woC; iframe H1 H2 H3 H4 H5 H6
  iapply h
  iframe Hrec Hlev HO Hsig Hbar Hdst Htok Hcrd Hsat Hsrd Hret Hrcv Hpart Hag Hwi Hwo Hx Hout

/-- A load of layer `l`'s cast output weights. -/
theorem st_ldBO {Q : α → sProp 𝕄} {l : ℕ} {off : Fin 3 → ℕ} {k : Vec F S1x1024x512 .bf16 → Prog (TpuEff nD τ sig (Elt F) Λ₀ .tc) α} (hoff : off = ![l, 0, 0]) (hw : l < ko) {h0 hl}
    (h : St m ρ c ng b ns nw x nr np lp na si wi ki so wo ko od ⊢ WP c (k (wbo m c l)) Q) :
    St m ρ c ng b ns nw x nr np lp na si wi ki so wo ko od ⊢ WP c (.op (.load mWbo (rO off h0).toLoadRect hl) k) Q := by
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3, H4, H5, H6⟩
  ihave H6 := (acc (n := l) ⟨Nat.zero_le _, hw⟩ _) $$ H6
  icases H6 with ⟨Hp, H6⟩
  iapply (ld_wbo (Q := Q) hoff) $$ [Hp]
  · iexact Hp
  rw [rd_wbo hoff]
  iintro Hp
  ihave H6 := H6 $$ [Hp]
  · iexact Hp
  ihave Hwo := (idE (woC m c so wo ko)) $$ [H1 H2 H3 H4 H5 H6]
  · unfold woC; iframe H1 H2 H3 H4 H5 H6
  iapply h
  iframe Hrec Hlev HO Hsig Hbar Hdst Htok Hcrd Hsat Hsrd Hret Hrcv Hpart Hag Hwi Hwo Hx Hout

/-- A load of rows `128 t` on of layer `l`'s cast output weights. -/
theorem st_ldW {Q : α → sProp 𝕄} {l t : ℕ} {off : Fin 3 → ℕ} {k : Vec F S1x128x512 .bf16 → Prog (TpuEff nD τ sig (Elt F) Λ₀ .tc) α} (ht : t < 8) (hoff : off = ![l, 128 * t, 0]) (hw : l < ko) {h0 hl}
    (h : St m ρ c ng b ns nw x nr np lp na si wi ki so wo ko od ⊢ WP c (k (wob m c l t)) Q) :
    St m ρ c ng b ns nw x nr np lp na si wi ki so wo ko od ⊢ WP c (.op (.load mWbo (rW off h0).toLoadRect hl) k) Q := by
  unfold St at h ⊢
  unfold woC at ⊢
  iintro ⟨#Hrec, #Hlev, HO, Hsig, Hbar, Hdst, Htok, Hcrd, Hsat, Hsrd, Hret, Hrcv, Hpart, Hag, Hwi, Hwo, Hx, Hout⟩
  icases Hwo with ⟨H1, H2, H3, H4, H5, H6⟩
  ihave H6 := (acc (n := l) ⟨Nat.zero_le _, hw⟩ _) $$ H6
  icases H6 with ⟨Hp, H6⟩
  iapply (ld_wob (Q := Q) ht hoff) $$ [Hp]
  · iexact Hp
  iintro Hp
  ihave H6 := H6 $$ [Hp]
  · iexact Hp
  ihave Hwo := (idE (woC m c so wo ko)) $$ [H1 H2 H3 H4 H5 H6]
  · unfold woC; iframe H1 H2 H3 H4 H5 H6
  iapply h
  iframe Hrec Hlev HO Hsig Hbar Hdst Htok Hcrd Hsat Hsrd Hret Hrcv Hpart Hag Hwi Hwo Hx Hout

end Steps

end Cert.KernelIdealProof

end
-- ==== Proof.Moves.lean ====
module

public import proofs.«01_k».proof.Proof.Steps

/-! # The steps of a device's program, continued

The partial products, the barrier, the transfers between devices and their waits, the activations and the result. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg}

section Steps
variable {c : Dev nD} {α : Type} {ng ns nw x nr np lp na si wi ki so wo ko : ℕ} {b od : Bool}
variable {k : PUnit → Prog (TpuEff nD τ sig (Elt F) Λ₀ .tc) α}

/-- The load of the staged input. -/
theorem st_ldX {Q : α → sProp 𝕄} {off : Fin 2 → ℕ} {k : Vec F S64x512 .f32 → Prog (TpuEff nD τ sig (Elt F) Λ₀ .tc) α} (hoff : off = ![0, 0]) {h0 hl}
    (h : St m ρ c ng b ns nw x nr np lp na si wi ki so wo ko od ⊢ WP c (k (xstg m ρ c)) Q) :
    St m ρ c ng b ns nw x nr np lp na si wi ki so wo ko od ⊢ WP c (.op (.load mX (Rect.unit (s := S64x512) off S64x512.size h0).toLoadRect hl) k) Q := by
  have hz : off = fun _ => 0 := by subst hoff; funext a; fin_cases a <;> rfl
  unfold St at h ⊢
  unfold xC at h ⊢
  iintro ⟨#Hrec, #Hlev, HO, Hsig, Hbar, Hdst, Htok, Hcrd, Hsat, Hsrd, Hret, Hrcv, Hpart, Hag, Hwi, Hwo, Hx, Hout⟩
  have e := ld (c := c) (Q := Q) (M := mX) (r := Rect.unit (s := S64x512) off S64x512.size h0) (hl := hl) (S := Finset.univ) (k := k) (q := fullShare) (f := xstg m ρ c)
    (Finset.subset_univ _) (Memref.read_access_unit_zero (Elt F) cc0_stg0_0 hz h0 (xstg m ρ c))
  iapply e $$ [Hx]
  · iexact Hx
  iintro Hx
  iapply h
  iframe Hrec Hlev HO Hsig Hbar Hdst Htok Hcrd Hsat Hsrd Hret Hrcv Hpart Hag Hwi Hwo Hx Hout

/-- A load of the next block of partial products before it is written. -/
theorem st_rawPart {Q : α → sProp 𝕄} {l t : ℕ} {off : Fin 4 → ℕ} {k : Vec F S1x1x64x128 .bf16 → Prog (TpuEff nD τ sig (Elt F) Λ₀ .tc) α} (hoff : off = ![l, t, 0, 0]) (hn : np = 8 * l + t) (ht : t < 8) (hl' : l < 3) {h0 hl}
    (h : ∀ v, St m ρ c ng b ns nw x nr np lp na si wi ki so wo ko od ⊢ WP c (k v) Q) :
    St m ρ c ng b ns nw x nr np lp na si wi ki so wo ko od ⊢ WP c (.op (.load mPart (r8 off h0).toLoadRect hl) k) Q := by
  subst hn
  unfold St at h ⊢
  unfold partC at ⊢
  iintro ⟨#Hrec, #Hlev, HO, Hsig, Hbar, Hdst, Htok, Hcrd, Hsat, Hsrd, Hret, Hrcv, Hpart, Hag, Hwi, Hwo, Hx, Hout⟩
  icases Hpart with ⟨H1, H2, H3⟩
  ihave H1 := (acc (n := 8 * l + t) ⟨le_rfl, by omega⟩ _) $$ H1
  icases H1 with ⟨⟨%f, Hp⟩, H1⟩
  iapply (ld_part (Q := Q) ht hoff) $$ [Hp]
  · iexact Hp
  iintro Hp
  ihave H1 := H1 $$ [Hp]
  · iexists f; iexact Hp
  ihave Hpart := (idE (partC m ρ c (8 * l + t) lp)) $$ [H1 H2 H3]
  · unfold partC; iframe H1 H2 H3
  iapply (h _)
  iframe Hrec Hlev HO Hsig Hbar Hdst Htok Hcrd Hsat Hsrd Hret Hrcv Hpart Hag Hwi Hwo Hx Hout

/-- The store of the next block of partial products. -/
theorem st_stPart {Q : α → sProp 𝕄} {l t : ℕ} {off : Fin 4 → ℕ} {w : FVec F S1x1x64x128 .bf16} (hoff : off = ![l, t, 0, 0]) (hn : np = 8 * l + t) (ht : t < 8) (hl' : l < 3)
    (hlp : 8 * lp ≤ np) (hv : w = W4 m ρ l c t) {h0 hx hm} (h : St m ρ c ng b ns nw x nr (np + 1) lp na si wi ki so wo ko od ⊢ WP c (k ⟨⟩) Q) :
    St m ρ c ng b ns nw x nr np lp na si wi ki so wo ko od ⊢ WP c (.op (.store mPart (r8 off h0) w Finset.univ hx hm) k) Q := by
  subst hn
  unfold St at h ⊢
  unfold partC at ⊢
  iintro ⟨#Hrec, #Hlev, HO, Hsig, Hbar, Hdst, Htok, Hcrd, Hsat, Hsrd, Hret, Hrcv, Hpart, Hag, Hwi, Hwo, Hx, Hout⟩
  icases Hpart with ⟨H1, H2, H3⟩
  ihave H1 := (peel (show 8 * l + t < 24 by omega) _) $$ H1
  icases H1 with ⟨⟨%f, Hp⟩, H1⟩
  iapply (st_part (m := m) (ρ := ρ) (Q := Q) ht hoff hv) $$ [Hp]
  · iexact Hp
  iintro Hp
  ihave H2 := (push hlp (fun n => pPart c n (cPart m ρ c))) $$ [Hp H2]
  · iframe Hp H2
  ihave Hpart := (idE (partC m ρ c (8 * l + t + 1) lp)) $$ [H1 H2 H3]
  · unfold partC; iframe H1 H2 H3
  iapply h
  iframe Hrec Hlev HO Hsig Hbar Hdst Htok Hcrd Hsat Hsrd Hret Hrcv Hpart Hag Hwi Hwo Hx Hout

/-- The blocks of a whole layer are ready to be sent, the device's own kept. -/
theorem st_hand {Q : α → sProp 𝕄} {p : Prog (TpuEff nD τ sig (Elt F) Λ₀ .tc) α} (hns : ns ≤ 14 * lp)
    (h : St m ρ c ng b ns nw (14 * lp + 7) nr (8 * lp + 8) (lp + 1) na si wi ki so wo ko od ⊢ WP c p Q) :
    St m ρ c ng b ns nw (14 * lp) nr (8 * lp + 8) lp na si wi ki so wo ko od ⊢ WP c p Q := by
  unfold St at h ⊢
  unfold partC at ⊢
  iintro ⟨#Hrec, #Hlev, HO, Hsig, Hbar, Hdst, Htok, Hcrd, Hsat, Hsrd, Hret, Hrcv, Hpart, Hag, Hwi, Hwo, Hx, Hout⟩
  icases Hpart with ⟨H1, H2, H3⟩
  ihave H2 := (part_split m ρ c lp) $$ H2
  icases H2 with ⟨Hp, H2⟩
  ihave H3 := (push (Nat.zero_le lp) (fun l => pPart c (8 * l + c.val) (cPart m ρ c))) $$ [Hp H3]
  · iframe Hp H3
  ihave Hsrd := (Entails.of_eq (show iprop(srdC m ρ c ns (14 * lp) ∗ bigSep (Finset.Ico (14 * lp) (14 * lp + 7)) fun n => sendPay m ρ c (sk n)) = srdC m ρ c ns (14 * lp + 7) by
    unfold srdC; exact (join_eq hns (by omega) _).symm)) $$ [Hsrd H2]
  · iframe Hsrd H2
  ihave H2 := (Entails.of_eq (ico_nil (show 8 * lp + 8 ≤ 8 * (lp + 1) by omega) (fun n => pPart c n (cPart m ρ c))).symm) $$ []
  · iempintro
  ihave Hpart := (idE (partC m ρ c (8 * lp + 8) (lp + 1))) $$ [H1 H2 H3]
  · unfold partC; iframe H1 H2 H3
  iapply h
  iframe Hrec Hlev HO Hsig Hbar Hdst Htok Hcrd Hsat Hsrd Hret Hrcv Hpart Hag Hwi Hwo Hx Hout

/-- A load of the device's own block of partial products. -/
theorem st_ldPart {Q : α → sProp 𝕄} {l : ℕ} {off : Fin 4 → ℕ} {k : Vec F S1x1x64x128 .bf16 → Prog (TpuEff nD τ sig (Elt F) Λ₀ .tc) α} (hoff : off = ![l, c.val, 0, 0]) (hl' : l < lp) {h0 hl}
    (h : St m ρ c ng b ns nw x nr np lp na si wi ki so wo ko od ⊢ WP c (k (W4 m ρ l c c.val)) Q) :
    St m ρ c ng b ns nw x nr np lp na si wi ki so wo ko od ⊢ WP c (.op (.load mPart (r8 off h0).toLoadRect hl) k) Q := by
  unfold St at h ⊢
  unfold partC at ⊢
  iintro ⟨#Hrec, #Hlev, HO, Hsig, Hbar, Hdst, Htok, Hcrd, Hsat, Hsrd, Hret, Hrcv, Hpart, Hag, Hwi, Hwo, Hx, Hout⟩
  icases Hpart with ⟨H1, H2, H3⟩
  ihave H3 := (acc (n := l) ⟨Nat.zero_le _, hl'⟩ _) $$ H3
  icases H3 with ⟨Hp, H3⟩
  iapply (ld_part (Q := Q) c.isLt hoff) $$ [Hp]
  · iexact Hp
  rw [rd_part hoff]
  iintro Hp
  ihave H3 := H3 $$ [Hp]
  · iexact Hp
  ihave Hpart := (idE (partC m ρ c np lp)) $$ [H1 H2 H3]
  · unfold partC; iframe H1 H2 H3
  iapply h
  iframe Hrec Hlev HO Hsig Hbar Hdst Htok Hcrd Hsat Hsrd Hret Hrcv Hpart Hag Hwi Hwo Hx Hout

/-- The wait for the seven signals. -/
theorem st_bar {Q : α → sProp 𝕄} {k' : ℕ} {sm : Sem sig} (hs : sm = barS) (hk : 7 = k')
    (h : St m ρ c 7 true 0 nw x nr np lp na si wi ki so wo ko od ⊢ WP c (k ⟨⟩) Q) :
    St m ρ c 7 false 0 nw x nr np lp na si wi ki so wo ko od ⊢ WP c (.op (.semWait sm k') k) Q := by
  subst hs
  unfold St barC at h ⊢
  iintro ⟨#Hrec, #Hlev, HO, Hsig, Hbar, Hdst, Htok, Hcrd, Hsat, Hsrd, Hret, Hrcv, Hpart, Hag, Hwi, Hwo, Hx, Hout⟩
  icases Hbar with ⟨Hc, Ha⟩
  ihave #HI := (IC_bar m ρ c) $$ Hrec
  iapply (bar_raw m ρ (c := c) (k := k) (Q := Q) hk) $$ [HO Hc Ha]
  · isplitr; · iexact HI
    isplitr; · iexact Hlev
    isplitl [HO]; · iexact HO
    isplitl [Hc]; · iexact Hc
    iexact Ha
  iintro ⟨HO, Hbar, Hp⟩
  iclear Hdst
  ihave Hdst := (bar_dst c) $$ Hp
  iapply h
  iframe Hrec Hlev HO Hsig Hbar Hdst Htok Hcrd Hsat Hsrd Hret Hrcv Hpart Hag Hwi Hwo Hx Hout

/-- In a reduce-scatter a send writes a slot of the peer's reduce-scatter buffer. -/
theorem dst_rs {a : ℕ} (hst : a / 7 % 2 = 0) : dst (F := F) c a = rawRs (nx c (a % 7)) (7 * (a / 14) + a % 7) := if_pos hst
/-- In an all-gather a send writes a slot of the peer's all-gather buffer. -/
theorem dst_ag {a : ℕ} (hst : a / 7 % 2 = 1) : dst (F := F) c a = rawAg (nx c (a % 7)) (8 * (a / 14) + c.val) := if_neg (by omega)
/-- In a reduce-scatter a receive hands over the landed block of the partial products. -/
theorem recv_rs {a : ℕ} (hst : a / 7 % 2 = 0) : recvPay m ρ c a = pRs c (7 * (a / 14) + a % 7) (cRs m ρ c) := if_pos hst
/-- In an all-gather a receive hands over the sender's activations. -/
theorem recv_ag {a : ℕ} (hst : a / 7 % 2 = 1) : recvPay m ρ c a = pAg c (8 * (a / 14) + (nx c (6 - a % 7)).val) fullShare (cAg m ρ) := if_neg (by omega)
/-- In a reduce-scatter a send's end gives back its block of the partial products. -/
theorem sendPay_part {a : ℕ} (hst : a / 7 % 2 = 0) {h} :
    sendPay m ρ c a = ((b8 mPart ![a / 14, (nx c (a % 7)).val, 0, 0] h).view.loc (c : Thread nD τ)
      ↦[(b8 mPart ![a / 14, (nx c (a % 7)).val, 0, 0] h).view.set]{fullShare} cPart m ρ c) := by
  unfold sendPay; rw [if_pos hst]; exact pPart_eq (nx c (a % 7)).isLt (cPart m ρ c)
/-- In an all-gather a send's end gives back its share of the activations. -/
theorem sendPay_ag {a : ℕ} (hst : a / 7 % 2 = 1) {h} :
    sendPay m ρ c a = ((b8 mAg ![a / 14, c.val, 0, 0] h).view.loc (c : Thread nD τ)
      ↦[(b8 mAg ![a / 14, c.val, 0, 0] h).view.set]{Transfers.shareTokN fullShare (a % 7)} cAg m ρ) := by
  unfold sendPay; rw [if_neg (by omega)]; exact pAg_eq c.isLt (cAg m ρ)
/-- The block a receive of a reduce-scatter hands over, as the copy's destination. -/
theorem recvPay_rs {a : ℕ} (hst : a / 7 % 2 = 0) {h} :
    recvPay m ρ c a = ((b7 mRs ![a / 14, a % 7, 0, 0] h).view.loc (c : Thread nD τ)
      ↦[(b7 mRs ![a / 14, a % 7, 0, 0] h).view.set]{fullShare} cRs m ρ c) := by
  unfold recvPay; rw [if_pos hst]; exact pRs_eq (Nat.mod_lt _ (by decide)) (cRs m ρ c)
/-- The block a receive of an all-gather hands over, as the copy's destination. -/
theorem recvPay_ag {a : ℕ} (hst : a / 7 % 2 = 1) {h} :
    recvPay m ρ (nx c (a % 7)) a = ((b8 mAg ![a / 14, c.val, 0, 0] h).view.loc (nx c (a % 7) : Thread nD τ)
      ↦[(b8 mAg ![a / 14, c.val, 0, 0] h).view.set]{fullShare} cAg m ρ) := by
  unfold recvPay
  rw [if_neg (by omega), nx_nx c _ (Nat.mod_lt _ (by decide))]
  exact pAg_eq (c := nx c (a % 7)) c.isLt (cAg m ρ)
/-- What lands at the peer is what the sender's block holds. -/
theorem read_sent {a : ℕ} {h h'} :
    (b7 mRs ![a / 14, a % 7, 0, 0] h).view.read (Elt F) (cRs m ρ (nx c (a % 7)))
      = (b8 mPart ![a / 14, (nx c (a % 7)).val, 0, 0] h').view.read (Elt F) (cPart m ρ c) := by
  funext y
  rw [read_rs, read_part]
  unfold R4
  rw [nx_nx c _ (Nat.mod_lt _ (by decide))]

/-- The transfer of a block of partial products to the device that sums it. -/
theorem st_sendR {Q : α → sProp 𝕄} {a : ℕ} {off off' : Fin 4 → ℕ} {dv : Dev nD} {s1 s2 : DmaSem sig} (ha : sk ns = a) (hst : a / 7 % 2 = 0)
    (hoff : off = ![a / 14, (nx c (a % 7)).val, 0, 0]) (hoff' : off' = ![a / 14, a % 7, 0, 0]) (hd : dv = nx c (a % 7))
    (hs1 : s1 = dq (8 + a)) (hs2 : s2 = dq (50 + a)) (hn : ns < 42) (hx : ns < x) (hw : nw ≤ ns) {h0 h0' hsc h1 h2 h3}
    (h : St m ρ c 7 true (ns + 1) nw x nr np lp na si wi ki so wo ko od ⊢ WP c (k ⟨⟩) Q) :
    St m ρ c 7 true ns nw x nr np lp na si wi ki so wo ko od
      ⊢ WP c (.op (.enqueueDma (b8 mPart off h0) (.remote (Dev.tc dv : Thread nD τ) (b7 mRs off' h0') (.dma s1) hsc) (.dma s2) h1 h2 h3) k) Q := by
  subst hoff hoff' hd hs1 hs2
  unfold St at h ⊢
  unfold dstC tokC crdC srdC at h ⊢
  rw [if_pos rfl] at h ⊢
  iintro ⟨#Hrec, #Hlev, HO, Hsig, Hbar, Hdst, Htok, Hcrd, Hsat, Hsrd, Hret, Hrcv, Hpart, Hag, Hwi, Hwo, Hx, Hout⟩
  ihave Hdst := (peel hn _) $$ Hdst
  icases Hdst with ⟨Hd, Hdst⟩
  ihave Htok := (peel hn _) $$ Htok
  icases Htok with ⟨⟨Ht1, Ht2⟩, Htok⟩
  ihave Hsrd := (peel hx _) $$ Hsrd
  icases Hsrd with ⟨Hs, Hsrd⟩
  rw [ha]
  ihave Hs := (Entails.of_eq (sendPay_part (h := h0) hst)) $$ Hs
  ihave Hd := (Entails.of_eq (dst_rs hst)) $$ Hd
  unfold rawRs
  icases Hd with ⟨%fd, Hd⟩
  ihave Hd := (Entails.of_eq (pRs_eq (h := h0') (Nat.mod_lt _ (by decide)) fd)) $$ Hd
  iapply (send_raw m ρ (c := c) (k := k) (Q := Q) hn ha (src := b8 mPart ![a / 14, (nx c (a % 7)).val, 0, 0] h0) (dst := b7 mRs ![a / 14, a % 7, 0, 0] h0') rfl
    (fs := cPart m ρ c) (fd := fd) (by rw [sendPay_part (h := h0) hst])
    (by rw [land (c := c) (c' := nx c (a % 7)) (src := b8 mPart ![a / 14, (nx c (a % 7)).val, 0, 0] h0) (dst := b7 mRs ![a / 14, a % 7, 0, 0] h0') (fs := cPart m ρ c) (fd := fd)
      (cRs m ρ (nx c (a % 7))) read_sent, recvPay_rs (h := h0') hst])) $$ [Hs Hd HO Ht1 Ht2]
  · isplitr; · iexact Hrec
    isplitl [Hs]; · iexact Hs
    isplitl [Hd]; · iexact Hd
    isplitl [HO]; · iexact HO
    isplitl [Ht1]; · iexact Ht1
    iexact Ht2
  iintro ⟨Hc, HO⟩
  ihave Hcrd := (push hw (fun n => cred (tallyAt (dCell c (8 + sk n)) () Nb))) $$ [Hc Hcrd]
  · rw [ha]; iframe Hc Hcrd
  iapply h
  iframe Hrec Hlev HO Hsig Hbar Hdst Htok Hcrd Hsat Hsrd Hret Hrcv Hpart Hag Hwi Hwo Hx Hout

/-- The transfer of the device's block of activations to another device. -/
theorem st_sendA {Q : α → sProp 𝕄} {a : ℕ} {off : Fin 4 → ℕ} {dv : Dev nD} {s1 s2 : DmaSem sig} (ha : sk ns = a) (hst : a / 7 % 2 = 1)
    (hoff : off = ![a / 14, c.val, 0, 0]) (hd : dv = nx c (a % 7))
    (hs1 : s1 = dq (8 + a)) (hs2 : s2 = dq (50 + a)) (hn : ns < 42) (hx : ns < x) (hw : nw ≤ ns) {h0 h0' hsc h1 h2 h3}
    (h : St m ρ c 7 true (ns + 1) nw x nr np lp na si wi ki so wo ko od ⊢ WP c (k ⟨⟩) Q) :
    St m ρ c 7 true ns nw x nr np lp na si wi ki so wo ko od
      ⊢ WP c (.op (.enqueueDma (b8 mAg off h0) (.remote (Dev.tc dv : Thread nD τ) (b8 mAg off h0') (.dma s1) hsc) (.dma s2) h1 h2 h3) k) Q := by
  subst hoff hd hs1 hs2
  unfold St at h ⊢
  unfold dstC tokC crdC srdC at h ⊢
  rw [if_pos rfl] at h ⊢
  iintro ⟨#Hrec, #Hlev, HO, Hsig, Hbar, Hdst, Htok, Hcrd, Hsat, Hsrd, Hret, Hrcv, Hpart, Hag, Hwi, Hwo, Hx, Hout⟩
  ihave Hdst := (peel hn _) $$ Hdst
  icases Hdst with ⟨Hd, Hdst⟩
  ihave Htok := (peel hn _) $$ Htok
  icases Htok with ⟨⟨Ht1, Ht2⟩, Htok⟩
  ihave Hsrd := (peel hx _) $$ Hsrd
  icases Hsrd with ⟨Hs, Hsrd⟩
  rw [ha]
  ihave Hs := (Entails.of_eq (sendPay_ag (h := h0) hst)) $$ Hs
  ihave Hd := (Entails.of_eq (dst_ag hst)) $$ Hd
  unfold rawAg
  icases Hd with ⟨%fd, Hd⟩
  ihave Hd := (Entails.of_eq (pAg_eq (c := nx c (a % 7)) (l := a / 14) (t := c.val) (h := h0') c.isLt fd)) $$ Hd
  iapply (send_raw m ρ (c := c) (k := k) (Q := Q) hn ha (src := b8 mAg ![a / 14, c.val, 0, 0] h0) (dst := b8 mAg ![a / 14, c.val, 0, 0] h0') rfl
    (fs := cAg m ρ) (fd := fd) (by rw [sendPay_ag (h := h0) hst])
    (by rw [land (c := c) (c' := nx c (a % 7)) (src := b8 mAg ![a / 14, c.val, 0, 0] h0) (dst := b8 mAg ![a / 14, c.val, 0, 0] h0') (fs := cAg m ρ) (fd := fd)
      (cAg m ρ) rfl, recvPay_ag (h := h0') hst])) $$ [Hs Hd HO Ht1 Ht2]
  · isplitr; · iexact Hrec
    isplitl [Hs]; · iexact Hs
    isplitl [Hd]; · iexact Hd
    isplitl [HO]; · iexact HO
    isplitl [Ht1]; · iexact Ht1
    iexact Ht2
  iintro ⟨Hc, HO⟩
  ihave Hcrd := (push hw (fun n => cred (tallyAt (dCell c (8 + sk n)) () Nb))) $$ [Hc Hcrd]
  · rw [ha]; iframe Hc Hcrd
  iapply h
  iframe Hrec Hlev HO Hsig Hbar Hdst Htok Hcrd Hsat Hsrd Hret Hrcv Hpart Hag Hwi Hwo Hx Hout

/-- The level of a receive's cell is that of its exchange. -/
theorem lv_recv {a : ℕ} (ha : a < 42) : lv (dCell c (50 + a)) () ≤ 2 + a / 7 := by
  show (if (dq (50 + a)).val < 50 then 0 else 2 + ((dq (50 + a)).val - 50) / 7) ≤ _
  rw [dq_val (by omega), if_neg (by omega), Nat.add_sub_cancel_left]
/-- The cell of a receive hands over its landed block. -/
theorem pay_recv {a : ℕ} : dmaPay m ρ c (50 + a) = recvPay m ρ c a := by
  unfold dmaPay; rw [if_neg (by omega), if_neg (by omega), if_neg (by omega), Nat.add_sub_cancel_left]
/-- The cell of a send gives back its source. -/
theorem pay_send {a : ℕ} (ha : a < 42) : dmaPay m ρ c (8 + a) = sendPay m ρ c a := by
  unfold dmaPay; rw [if_neg (by omega), if_neg (by omega), if_pos (by omega), Nat.add_sub_cancel_left]

/-- The wait for a block sent by another device: every transfer of its stage has been issued. -/
theorem st_recv {Q : α → sProp 𝕄} {a : ℕ} {sm : DmaSem sig} {src dst : Memref sig .tc .vmem S64x128 .bf16} (ha : rk nr = a) (hs : sm = dq (50 + a)) (hn : nr < 42)
    (hns : 7 * (a / 7 + 1) ≤ ns) (hN : dst.view.dmaCredit = Nb) {h1 h2}
    (h : St m ρ c 7 b ns nw x (nr + 1) np lp na si wi ki so wo ko od ⊢ WP c (k ⟨⟩) Q) :
    St m ρ c 7 b ns nw x nr np lp na si wi ki so wo ko od ⊢ WP c (.op (.waitDma2 sm src dst h1 h2) k) Q := by
  subst hs
  have ha' : a < 42 := ha ▸ rk_lt hn
  unfold St at h ⊢
  unfold rcvC at ⊢
  iintro ⟨#Hrec, #Hlev, HO, Hsig, Hbar, Hdst, Htok, Hcrd, Hsat, Hsrd, Hret, Hrcv, Hpart, Hag, Hwi, Hwo, Hx, Hout⟩
  icases Hrcv with ⟨H1, H2⟩
  ihave H1 := (peel hn _) $$ H1
  icases H1 with ⟨⟨Hc, Ha⟩, H1⟩
  rw [ha]
  ihave #HI := (IC_dma m ρ c (n := 50 + a) (by omega) (by omega)) $$ Hrec
  iapply (wait_raw m ρ (c := c) (k := k) (Q := Q) (n := 50 + a) (j := 2 + a / 7) (o := 7 + ns) (by omega) (by omega) (lv_recv ha')
    (fun i _ _ => by rw [if_neg (by omega)]; omega) (src := src) (dst := dst) (hN.trans (if_neg (by omega)).symm)) $$ [HO Hc Ha]
  · isplitr; · iexact HI
    isplitr; · iexact Hlev
    isplitl [HO]; · iexact HO
    isplitl [Hc]
    · rw [if_neg (by omega)]; iexact Hc
    iexact Ha
  rw [pay_recv]
  iintro ⟨HO, Ha, Hp⟩
  ihave H2 := (push (Nat.zero_le nr) (fun n => iprop(atPos ER (dCell c (50 + rk n)) (0 + 1) ∅ 0 ∗ recvPay m ρ c (rk n)))) $$ [Ha Hp H2]
  · rw [ha]; iframe Ha Hp H2
  ihave Hrcv := (idE (rcvC m ρ c (nr + 1))) $$ [H1 H2]
  · unfold rcvC; iframe H1 H2
  iapply h
  iframe Hrec Hlev HO Hsig Hbar Hdst Htok Hcrd Hsat Hsrd Hret Hrcv Hpart Hag Hwi Hwo Hx Hout

/-- A load of a received block of partial products. -/
theorem st_ldRs {Q : α → sProp 𝕄} {n a : ℕ} {off : Fin 4 → ℕ} {k : Vec F S1x1x64x128 .bf16 → Prog (TpuEff nD τ sig (Elt F) Λ₀ .tc) α} (ha : rk n = a) (hn : n < nr) (hst : a / 7 % 2 = 0)
    (hoff : off = ![a / 14, a % 7, 0, 0]) {h0 hl} (h : St m ρ c ng b ns nw x nr np lp na si wi ki so wo ko od ⊢ WP c (k (R4 m ρ (a / 14) c (a % 7))) Q) :
    St m ρ c ng b ns nw x nr np lp na si wi ki so wo ko od ⊢ WP c (.op (.load mRs (r7 off h0).toLoadRect hl) k) Q := by
  unfold St at h ⊢
  unfold rcvC at ⊢
  iintro ⟨#Hrec, #Hlev, HO, Hsig, Hbar, Hdst, Htok, Hcrd, Hsat, Hsrd, Hret, Hrcv, Hpart, Hag, Hwi, Hwo, Hx, Hout⟩
  icases Hrcv with ⟨H1, H2⟩
  ihave H2 := (acc (n := n) ⟨Nat.zero_le _, hn⟩ _) $$ H2
  icases H2 with ⟨⟨Ha, Hp⟩, H2⟩
  rw [ha]
  ihave Hp := (Entails.of_eq (recv_rs hst)) $$ Hp
  iapply (ld_rs (Q := Q) (Nat.mod_lt _ (by decide)) hoff) $$ [Hp]
  · iexact Hp
  rw [rd_rs hoff]
  iintro Hp
  ihave Hp := (Entails.of_eq (recv_rs hst).symm) $$ Hp
  ihave H2 := H2 $$ [Ha Hp]
  · iframe Ha Hp
  ihave Hrcv := (idE (rcvC m ρ c nr)) $$ [H1 H2]
  · unfold rcvC; iframe H1 H2
  iapply h
  iframe Hrec Hlev HO Hsig Hbar Hdst Htok Hcrd Hsat Hsrd Hret Hrcv Hpart Hag Hwi Hwo Hx Hout

/-- A load of a received block of activations. -/
theorem st_ldRa {Q : α → sProp 𝕄} {n a : ℕ} {off : Fin 4 → ℕ} {k : Vec F S1x1x64x128 .bf16 → Prog (TpuEff nD τ sig (Elt F) Λ₀ .tc) α} (ha : rk n = a) (hn : n < nr) (hst : a / 7 % 2 = 1)
    (hoff : off = ![a / 14, (nx c (6 - a % 7)).val, 0, 0]) {h0 hl} (h : St m ρ c ng b ns nw x nr np lp na si wi ki so wo ko od ⊢ WP c (k (A4 m ρ (a / 14) (nx c (6 - a % 7)).val)) Q) :
    St m ρ c ng b ns nw x nr np lp na si wi ki so wo ko od ⊢ WP c (.op (.load mAg (r8 off h0).toLoadRect hl) k) Q := by
  unfold St at h ⊢
  unfold rcvC at ⊢
  iintro ⟨#Hrec, #Hlev, HO, Hsig, Hbar, Hdst, Htok, Hcrd, Hsat, Hsrd, Hret, Hrcv, Hpart, Hag, Hwi, Hwo, Hx, Hout⟩
  icases Hrcv with ⟨H1, H2⟩
  ihave H2 := (acc (n := n) ⟨Nat.zero_le _, hn⟩ _) $$ H2
  icases H2 with ⟨⟨Ha, Hp⟩, H2⟩
  rw [ha]
  ihave Hp := (Entails.of_eq (recv_ag hst)) $$ Hp
  iapply (ld_ag (Q := Q) (nx c (6 - a % 7)).isLt hoff) $$ [Hp]
  · iexact Hp
  rw [rd_ag hoff]
  iintro Hp
  ihave Hp := (Entails.of_eq (recv_ag hst).symm) $$ Hp
  ihave H2 := H2 $$ [Ha Hp]
  · iframe Ha Hp
  ihave Hrcv := (idE (rcvC m ρ c nr)) $$ [H1 H2]
  · unfold rcvC; iframe H1 H2
  iapply h
  iframe Hrec Hlev HO Hsig Hbar Hdst Htok Hcrd Hsat Hsrd Hret Hrcv Hpart Hag Hwi Hwo Hx Hout

/-- A load of the slot of the device's own activations before it is written. -/
theorem st_rawAg {Q : α → sProp 𝕄} {off : Fin 4 → ℕ} {k : Vec F S1x1x64x128 .bf16 → Prog (TpuEff nD τ sig (Elt F) Λ₀ .tc) α} (hoff : off = ![na, c.val, 0, 0]) (hn : na < 3) {h0 hl}
    (h : ∀ v, St m ρ c ng b ns nw x nr np lp na si wi ki so wo ko od ⊢ WP c (k v) Q) :
    St m ρ c ng b ns nw x nr np lp na si wi ki so wo ko od ⊢ WP c (.op (.load mAg (r8 off h0).toLoadRect hl) k) Q := by
  unfold St at h ⊢
  unfold agC rawAg at ⊢
  iintro ⟨#Hrec, #Hlev, HO, Hsig, Hbar, Hdst, Htok, Hcrd, Hsat, Hsrd, Hret, Hrcv, Hpart, Hag, Hwi, Hwo, Hx, Hout⟩
  icases Hag with ⟨H1, H2⟩
  ihave H1 := (acc (n := na) ⟨le_rfl, hn⟩ _) $$ H1
  icases H1 with ⟨⟨%f, Hp⟩, H1⟩
  iapply (ld_ag (Q := Q) c.isLt hoff) $$ [Hp]
  · iexact Hp
  iintro Hp
  ihave H1 := H1 $$ [Hp]
  · iexists f; iexact Hp
  ihave Hag := (idE (agC m ρ c na)) $$ [H1 H2]
  · unfold agC rawAg; iframe H1 H2
  iapply (h _)
  iframe Hrec Hlev HO Hsig Hbar Hdst Htok Hcrd Hsat Hsrd Hret Hrcv Hpart Hag Hwi Hwo Hx Hout

/-- The store of the device's own activations, which are then ready to be sent. -/
theorem st_stAg {Q : α → sProp 𝕄} {off : Fin 4 → ℕ} {w : FVec F S1x1x64x128 .bf16} (hoff : off = ![na, c.val, 0, 0]) (hv : w = A4 m ρ na c.val) (hn : na < 3)
    (hns : ns ≤ 14 * na + 7) {h0 hx hm} (h : St m ρ c ng b ns nw (14 * na + 7 + 7) nr np lp (na + 1) si wi ki so wo ko od ⊢ WP c (k ⟨⟩) Q) :
    St m ρ c ng b ns nw (14 * na + 7) nr np lp na si wi ki so wo ko od ⊢ WP c (.op (.store mAg (r8 off h0) w Finset.univ hx hm) k) Q := by
  unfold St at h ⊢
  unfold agC at ⊢
  iintro ⟨#Hrec, #Hlev, HO, Hsig, Hbar, Hdst, Htok, Hcrd, Hsat, Hsrd, Hret, Hrcv, Hpart, Hag, Hwi, Hwo, Hx, Hout⟩
  icases Hag with ⟨H1, H2⟩
  ihave H1 := (peel hn _) $$ H1
  icases H1 with ⟨Hp, H1⟩
  unfold rawAg
  icases Hp with ⟨%f, Hp⟩
  iapply (st_ag (m := m) (ρ := ρ) (Q := Q) c.isLt hoff hv) $$ [Hp]
  · iexact Hp
  iintro Hp
  ihave Hp := (ag_split m ρ c na) $$ Hp
  icases Hp with ⟨Hp, H3⟩
  ihave H2 := (push (Nat.zero_le na) (fun l => pAg c (8 * l + c.val) (Transfers.shareDrop fullShare 7) (cAg m ρ))) $$ [Hp H2]
  · iframe Hp H2
  ihave Hsrd := (Entails.of_eq (show iprop(srdC m ρ c ns (14 * na + 7) ∗ bigSep (Finset.Ico (14 * na + 7) (14 * na + 7 + 7)) fun n => sendPay m ρ c (sk n)) = srdC m ρ c ns (14 * na + 7 + 7) by
    unfold srdC; exact (join_eq hns (by omega) _).symm)) $$ [Hsrd H3]
  · iframe Hsrd H3
  ihave Hag := (idE (agC m ρ c (na + 1))) $$ [H1 H2]
  · unfold agC rawAg; iframe H1 H2
  iapply h
  iframe Hrec Hlev HO Hsig Hbar Hdst Htok Hcrd Hsat Hsrd Hret Hrcv Hpart Hag Hwi Hwo Hx Hout

/-- A load of the device's own activations. -/
theorem st_ldAg {Q : α → sProp 𝕄} {l : ℕ} {off : Fin 4 → ℕ} {k : Vec F S1x1x64x128 .bf16 → Prog (TpuEff nD τ sig (Elt F) Λ₀ .tc) α} (hoff : off = ![l, c.val, 0, 0]) (hl' : l < na) {h0 hl}
    (h : St m ρ c ng b ns nw x nr np lp na si wi ki so wo ko od ⊢ WP c (k (A4 m ρ l c.val)) Q) :
    St m ρ c ng b ns nw x nr np lp na si wi ki so wo ko od ⊢ WP c (.op (.load mAg (r8 off h0).toLoadRect hl) k) Q := by
  unfold St at h ⊢
  unfold agC at ⊢
  iintro ⟨#Hrec, #Hlev, HO, Hsig, Hbar, Hdst, Htok, Hcrd, Hsat, Hsrd, Hret, Hrcv, Hpart, Hag, Hwi, Hwo, Hx, Hout⟩
  icases Hag with ⟨H1, H2⟩
  ihave H2 := (acc (n := l) ⟨Nat.zero_le _, hl'⟩ _) $$ H2
  icases H2 with ⟨Hp, H2⟩
  iapply (ld_ag (Q := Q) c.isLt hoff) $$ [Hp]
  · iexact Hp
  rw [rd_ag hoff]
  iintro Hp
  ihave H2 := H2 $$ [Hp]
  · iexact Hp
  ihave Hag := (idE (agC m ρ c na)) $$ [H1 H2]
  · unfold agC; iframe H1 H2
  iapply h
  iframe Hrec Hlev HO Hsig Hbar Hdst Htok Hcrd Hsat Hsrd Hret Hrcv Hpart Hag Hwi Hwo Hx Hout

/-- A load of the staged result before it is written. -/
theorem st_rawOut {Q : α → sProp 𝕄} {off : Fin 2 → ℕ} {k : Vec F S64x512 .f32 → Prog (TpuEff nD τ sig (Elt F) Λ₀ .tc) α} (hoff : off = ![0, 0]) {h0 hl}
    (h : ∀ v, St m ρ c ng b ns nw x nr np lp na si wi ki so wo ko false ⊢ WP c (k v) Q) :
    St m ρ c ng b ns nw x nr np lp na si wi ki so wo ko false ⊢ WP c (.op (.load mOut (Rect.unit (s := S64x512) off S64x512.size h0).toLoadRect hl) k) Q := by
  have hz : off = fun _ => 0 := by subst hoff; funext a; fin_cases a <;> rfl
  unfold St at h ⊢
  unfold outC at h ⊢
  iintro ⟨#Hrec, #Hlev, HO, Hsig, Hbar, Hdst, Htok, Hcrd, Hsat, Hsrd, Hret, Hrcv, Hpart, Hag, Hwi, Hwo, Hx, Hout⟩
  icases Hout with ⟨%f, Hout⟩
  have e := ld (c := c) (Q := Q) (M := mOut) (r := Rect.unit (s := S64x512) off S64x512.size h0) (hl := hl) (S := Finset.univ) (k := k) (q := fullShare) (f := f)
    (Finset.subset_univ _) (Memref.read_access_unit_zero (Elt F) cc0_stg1_0 hz h0 f)
  iapply e $$ [Hout]
  · iexact Hout
  iintro Hout
  iapply (h _)
  iframe Hrec Hlev HO Hsig Hbar Hdst Htok Hcrd Hsat Hsrd Hret Hrcv Hpart Hag Hwi Hwo Hx
  iexists f; iexact Hout
/-- The store of the result. -/
theorem st_stOut {Q : α → sProp 𝕄} {off : Fin 2 → ℕ} {w : Vec F S64x512 .f32} (hoff : off = ![0, 0]) (hv : w = outAt m ρ c) {h0 hx hm}
    (h : St m ρ c ng b ns nw x nr np lp na si wi ki so wo ko true ⊢ WP c (k ⟨⟩) Q) :
    St m ρ c ng b ns nw x nr np lp na si wi ki so wo ko false ⊢ WP c (.op (.store mOut (Rect.unit (s := S64x512) off S64x512.size h0) w Finset.univ hx hm) k) Q := by
  have hz : off = fun _ => 0 := by subst hoff; funext a; fin_cases a <;> rfl
  unfold St at h ⊢
  unfold outC at h ⊢
  iintro ⟨#Hrec, #Hlev, HO, Hsig, Hbar, Hdst, Htok, Hcrd, Hsat, Hsrd, Hret, Hrcv, Hpart, Hag, Hwi, Hwo, Hx, Hout⟩
  icases Hout with ⟨%f, Hout⟩
  have hset : (mOut.access (Rect.unit (s := S64x512) off S64x512.size h0)).set = Finset.univ := by
    subst hz; exact (View.set_slice_whole cc0_stg1_0 _).trans (Rect.set_whole _)
  have e := stw (c := c) (Q := Q) (M := mOut) (r := Rect.unit (s := S64x512) off S64x512.size h0) (S := Finset.univ) (k := k) (w := w) (hx := hx) (hm := hm) (f := f) (g := outAt m ρ c)
    hset ((Memref.read_access_unit_zero (Elt F) cc0_stg1_0 hz h0 (outAt m ρ c)).trans hv.symm)
  iapply e $$ [Hout]
  · iexact Hout
  iintro Hout
  iapply h
  iframe Hrec Hlev HO Hsig Hbar Hdst Htok Hcrd Hsat Hsrd Hret Hrcv Hpart Hag Hwi Hwo Hx Hout

/-- The wait for the end of a transfer issued. -/
theorem st_sent {Q : α → sProp 𝕄} {a : ℕ} {sm : DmaSem sig} {src dst : Memref sig .tc .vmem S64x128 .bf16} (ha : sk nw = a) (hs : sm = dq (8 + a)) (hn : nw < ns) (hn' : nw < 42)
    (hN : dst.view.dmaCredit = Nb) {h1 h2}
    (h : St m ρ c ng b ns (nw + 1) x nr np lp na si wi ki so wo ko od ⊢ WP c (k ⟨⟩) Q) :
    St m ρ c ng b ns nw x nr np lp na si wi ki so wo ko od ⊢ WP c (.op (.waitDma2 sm src dst h1 h2) k) Q := by
  subst hs
  have ha' : a < 42 := ha ▸ sk_lt hn'
  unfold St at h ⊢
  unfold crdC satC retC at h ⊢
  iintro ⟨#Hrec, #Hlev, HO, Hsig, Hbar, Hdst, Htok, Hcrd, Hsat, Hsrd, Hret, Hrcv, Hpart, Hag, Hwi, Hwo, Hx, Hout⟩
  ihave Hcrd := (peel hn _) $$ Hcrd
  icases Hcrd with ⟨Hc, Hcrd⟩
  icases Hsat with ⟨H1, H2⟩
  ihave H1 := (peel hn' _) $$ H1
  icases H1 with ⟨Ha, H1⟩
  rw [ha]
  ihave #HI := (IC_dma m ρ c (n := 8 + a) (by omega) (by omega)) $$ Hrec
  iapply (wait_raw m ρ (c := c) (k := k) (Q := Q) (n := 8 + a) (j := 0) (o := ng + ns) (by omega) (by omega) (lv_low (by omega))
    (fun i _ _ => by split <;> omega) (src := src) (dst := dst) (hN.trans (if_neg (by omega)).symm)) $$ [HO Hc Ha]
  · isplitr; · iexact HI
    isplitr; · iexact Hlev
    isplitl [HO]; · iexact HO
    isplitl [Hc]
    · rw [if_neg (by omega)]; iexact Hc
    iexact Ha
  rw [pay_send ha']
  iintro ⟨HO, Ha, Hp⟩
  ihave H2 := (push (Nat.zero_le nw) (fun n => atPos ER (dCell c (8 + sk n)) (0 + 1) ∅ 0)) $$ [Ha H2]
  · rw [ha]; iframe Ha H2
  ihave Hret := (push (Nat.zero_le nw) (fun n => sendPay m ρ c (sk n))) $$ [Hp Hret]
  · rw [ha]; iframe Hp Hret
  iapply h
  iframe Hrec Hlev HO Hsig Hbar Hdst Htok Hcrd H1 H2 Hsrd Hret Hrcv Hpart Hag Hwi Hwo Hx Hout

end Steps

end Cert.KernelIdealProof

end
-- ==== Proof.Addr.lean ====
module

public import proofs.«01_k».proof.Proof.Moves

/-! # Where the program's transfers go

The devices, offsets and semaphores that the program computes, in closed form. -/

@[expose] public section

set_option maxRecDepth 4096

noncomputable section

namespace Cert.KernelIdealProof

open Cert.KernelIdeal Cert.KernelIdeal.Gen

open Idealize.ShloMosaic
open Idealize.ShloMosaic.TcCoe

/-- The devices signalled. -/
theorem dev_sig : ∀ c : Dev nD, k0_dev1 c = (nx c 0).val ∧ k0_dev2 c = (nx c 1).val ∧ k0_dev3 c = (nx c 2).val ∧ k0_dev4 c = (nx c 3).val
    ∧ k0_dev5 c = (nx c 4).val ∧ k0_dev6 c = (nx c 5).val ∧ k0_dev7 c = (nx c 6).val := by decide +kernel
/-- The devices that the scatters of the three layers write to. -/
theorem dev_rs : ∀ c : Dev nD, (k0_dev8 c = (nx c 5).val ∧ k0_dev9 c = (nx c 1).val ∧ k0_dev10 c = (nx c 4).val ∧ k0_dev11 c = (nx c 2).val
      ∧ k0_dev12 c = (nx c 0).val ∧ k0_dev13 c = (nx c 6).val ∧ k0_dev14 c = (nx c 3).val)
    ∧ (k0_dev22 c = (nx c 5).val ∧ k0_dev23 c = (nx c 1).val ∧ k0_dev24 c = (nx c 4).val ∧ k0_dev25 c = (nx c 2).val
      ∧ k0_dev26 c = (nx c 0).val ∧ k0_dev27 c = (nx c 6).val ∧ k0_dev28 c = (nx c 3).val)
    ∧ (k0_dev36 c = (nx c 5).val ∧ k0_dev37 c = (nx c 1).val ∧ k0_dev38 c = (nx c 4).val ∧ k0_dev39 c = (nx c 2).val
      ∧ k0_dev40 c = (nx c 0).val ∧ k0_dev41 c = (nx c 6).val ∧ k0_dev42 c = (nx c 3).val) := by decide +kernel
/-- The devices that the gathers write to. -/
theorem dev_ag : ∀ c : Dev nD, (k0_dev15 c = (nx c 5).val ∧ k0_dev16 c = (nx c 1).val ∧ k0_dev17 c = (nx c 4).val ∧ k0_dev18 c = (nx c 2).val
      ∧ k0_dev19 c = (nx c 0).val ∧ k0_dev20 c = (nx c 6).val ∧ k0_dev21 c = (nx c 3).val)
    ∧ (k0_dev29 c = (nx c 5).val ∧ k0_dev30 c = (nx c 1).val ∧ k0_dev31 c = (nx c 4).val ∧ k0_dev32 c = (nx c 2).val
      ∧ k0_dev33 c = (nx c 0).val ∧ k0_dev34 c = (nx c 6).val ∧ k0_dev35 c = (nx c 3).val)
    ∧ (k0_dev43 c = (nx c 5).val ∧ k0_dev44 c = (nx c 1).val ∧ k0_dev45 c = (nx c 4).val ∧ k0_dev46 c = (nx c 2).val
      ∧ k0_dev47 c = (nx c 0).val ∧ k0_dev48 c = (nx c 6).val ∧ k0_dev49 c = (nx c 3).val) := by decide +kernel

/-- The blocks that the scatters send. -/
theorem off_rs : ∀ c : Dev nD, ∀ j < 7, k0_off1 c (BitVec.ofNat 32 (j + 1)) = ![0, (nx c j).val, 0, 0]
    ∧ k0_off7 c (BitVec.ofNat 32 (j + 1)) = ![1, (nx c j).val, 0, 0] ∧ k0_off13 c (BitVec.ofNat 32 (j + 1)) = ![2, (nx c j).val, 0, 0] := by decide +kernel
/-- The blocks that the gathers receive: step `j`'s comes from `j + 1` places back. -/
theorem off_ag : ∀ c : Dev nD, ∀ j < 7, k0_off5 c (BitVec.ofNat 32 (j + 1)) = ![0, (nx c (6 - j)).val, 0, 0]
    ∧ k0_off11 c (BitVec.ofNat 32 (j + 1)) = ![1, (nx c (6 - j)).val, 0, 0] ∧ k0_off17 c (BitVec.ofNat 32 (j + 1)) = ![2, (nx c (6 - j)).val, 0, 0] := by decide +kernel
/-- The rows of the output weights that multiply them. -/
theorem off_w : ∀ c : Dev nD, ∀ j < 7, k0_off6 c (BitVec.ofNat 32 (j + 1)) = ![0, 128 * (nx c (6 - j)).val, 0]
    ∧ k0_off12 c (BitVec.ofNat 32 (j + 1)) = ![1, 128 * (nx c (6 - j)).val, 0] ∧ k0_off18 c (BitVec.ofNat 32 (j + 1)) = ![2, 128 * (nx c (6 - j)).val, 0] := by decide +kernel
/-- The device's own blocks and rows. -/
theorem off_own : ∀ c : Dev nD, (k0_off2 c = ![0, c.val, 0, 0] ∧ k0_off8 c = ![1, c.val, 0, 0] ∧ k0_off14 c = ![2, c.val, 0, 0])
    ∧ (k0_off3 c = ![0, c.val, 0, 0] ∧ k0_off9 c = ![1, c.val, 0, 0] ∧ k0_off15 c = ![2, c.val, 0, 0])
    ∧ (k0_off4 c = ![0, 128 * c.val, 0] ∧ k0_off10 c = ![1, 128 * c.val, 0] ∧ k0_off16 c = ![2, 128 * c.val, 0]) := by decide +kernel

end Cert.KernelIdealProof

end
-- ==== Proof.Walk.lean ====
module

public import proofs.«01_k».proof.Proof.Addr

/-! # The program walked -/

@[expose] public section

set_option maxRecDepth 8192
set_option maxHeartbeats 400000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {c : Dev nD}

/-- A program run first, and then the rest. -/
theorem seq {α β : Type} {P : sProp 𝕄} {p : Prog (TpuEff nD τ sig (Elt F) Λ₀ .tc) β} {k : β → Prog (TpuEff nD τ sig (Elt F) Λ₀ .tc) α} {Q : α → sProp 𝕄}
    (h : P ⊢ WP c p fun a => WP c (k a) Q) : P ⊢ WP c (p >>= k) Q := by
  rw [WP, wp_bind]; exact h
/-- A program that has returned. -/
theorem fin {α : Type} {P : sProp 𝕄} {v : α} {Q : α → sProp 𝕄} (h : P ⊢ Q v) : P ⊢ WP c (.ret v) Q := by
  rw [WP, wp_ret]; exact h.trans fupd_intro
/-- A program run first, for any condition from which the rest goes on. -/
theorem into {α β : Type} {P : sProp 𝕄} {p : Prog (TpuEff nD τ sig (Elt F) Λ₀ .tc) β} {k : β → Prog (TpuEff nD τ sig (Elt F) Λ₀ .tc) α} {Q : α → sProp 𝕄}
    (h : ∀ Q' : β → sProp 𝕄, (∀ a, WP c (k a) Q ⊢ Q' a) → P ⊢ WP c p Q') : P ⊢ WP c (p >>= k) Q :=
  seq (h _ fun a => idE _)
/-- A program that has returned, to a weaker condition. -/
theorem out {α : Type} {P : sProp 𝕄} {v : α} {Q Q' : α → sProp 𝕄} (hQ : ∀ a, Q a ⊢ Q' a) (h : P ⊢ Q v) : P ⊢ WP c (.ret v) Q' :=
  fin (h.trans (hQ v))
/-- Asking for the device's number gives it. -/
theorem did {α : Type} {P : sProp 𝕄} {k : Dev nD → Prog (TpuEff nD τ sig (Elt F) Λ₀ .tc) α} {Q : α → sProp 𝕄} (h : P ⊢ WP c (k c) Q) :
    P ⊢ WP c (.op .deviceId k) Q := by
  rw [WP, wp_deviceId]; exact h

/-- A layer's output is the next layer's input. -/
theorem X_succ (l : ℕ) : X m ρ (l + 1) c = nextX m c l (A4 m ρ l) := rfl
/-- The device's own activations are the sum of its blocks after ReLU. -/
theorem A4_own (m : (ℓ : Loc nD τ sig) → Buf (Elt F) ℓ) (ρ : Dev nD → PrngReg) (l : ℕ) (c : Dev nD) : A4 m ρ l c.val = a4 (W4 m ρ l c c.val) (R4 m ρ l c) := by
  unfold A4 R4; rw [dev_val]

/-- The body on a device, from its state at the start to its state at the end. -/
theorem body_run {Q : PUnit → sProp 𝕄} (h : St m ρ c 7 true 42 42 42 42 24 3 3 3 3 3 3 3 3 true ⊢ Q ⟨⟩) :
    St m ρ c 0 false 0 0 0 0 0 0 0 0 0 0 0 0 0 false ⊢ WP c (cc0_body mX (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) mOut (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) Q := by
  rw [cc0_body_eq_skeleton]
  unfold cc0_body_skel
  refine into fun _ hB => ?_
  rw [k0_part89_eq_skeleton]
  unfold k0_part89_skel
  refine into fun _ hQ => ?_
  rw [k0_part1_eq_skeleton]
  unfold k0_part1_skel
  simp only [semSignalWord, semWaitWord, Prog.lift, Prog.bind_op, Prog.bind_ret, Prog.pure_eq_ret]
  refine did ?_
  refine st_cpI rfl rfl rfl (by decide) (by decide) ?_
  refine st_cpO rfl rfl rfl (by decide) (by decide) ?_
  refine st_cpI rfl rfl rfl (by decide) (by decide) ?_
  refine st_cpO rfl rfl rfl (by decide) (by decide) ?_
  refine st_cpI rfl rfl rfl (by decide) (by decide) ?_
  refine out hQ ?_; clear hQ
  refine into fun _ hQ => ?_
  rw [k0_part2_eq_skeleton]
  unfold k0_part2_skel
  simp only [semSignalWord, semWaitWord, Prog.lift, Prog.bind_op, Prog.bind_ret, Prog.pure_eq_ret]
  refine st_cpO rfl rfl rfl (by decide) (by decide) ?_
  refine st_sig (Fin.ext (by simp only [dev_sig c])) (by decide) rfl rfl ?_
  refine st_sig (Fin.ext (by simp only [dev_sig c])) (by decide) rfl rfl ?_
  refine out hQ ?_; clear hQ
  refine into fun _ hQ => ?_
  rw [k0_part3_eq_skeleton]
  unfold k0_part3_skel
  simp only [semSignalWord, semWaitWord, Prog.lift, Prog.bind_op, Prog.bind_ret, Prog.pure_eq_ret]
  refine st_sig (Fin.ext (by simp only [dev_sig c])) (by decide) rfl rfl ?_
  refine st_sig (Fin.ext (by simp only [dev_sig c])) (by decide) rfl rfl ?_
  refine out hQ ?_; clear hQ
  refine into fun _ hQ => ?_
  rw [k0_part4_eq_skeleton]
  unfold k0_part4_skel
  simp only [semSignalWord, semWaitWord, Prog.lift, Prog.bind_op, Prog.bind_ret, Prog.pure_eq_ret]
  refine st_sig (Fin.ext (by simp only [dev_sig c])) (by decide) rfl rfl ?_
  refine st_sig (Fin.ext (by simp only [dev_sig c])) (by decide) rfl rfl ?_
  refine st_sig (Fin.ext (by simp only [dev_sig c])) (by decide) rfl rfl ?_
  refine out hQ ?_; clear hQ
  refine into fun _ hQ => ?_
  rw [k0_part5_eq_skeleton]
  unfold k0_part5_skel
  simp only [semSignalWord, semWaitWord, Prog.lift, Prog.bind_op, Prog.bind_ret, Prog.pure_eq_ret]
  refine st_waitI rfl rfl (by decide) (by decide) ?_
  refine st_ldI rfl (by decide) ?_
  refine st_rawBI rfl (by decide) fun _ => ?_
  refine st_stBI rfl rfl (by decide) ?_
  refine st_ldX rfl ?_
  refine st_ldBI rfl (by decide) ?_
  refine st_rawPart (l := 0) (t := 0) rfl rfl (by decide) (by decide) fun _ => ?_
  refine st_stPart (l := 0) (t := 0) rfl rfl (by decide) (by decide) (by decide) rfl ?_
  refine st_rawPart (l := 0) (t := 1) rfl rfl (by decide) (by decide) fun _ => ?_
  refine st_stPart (l := 0) (t := 1) rfl rfl (by decide) (by decide) (by decide) rfl ?_
  refine st_rawPart (l := 0) (t := 2) rfl rfl (by decide) (by decide) fun _ => ?_
  refine st_stPart (l := 0) (t := 2) rfl rfl (by decide) (by decide) (by decide) rfl ?_
  refine out hQ ?_; clear hQ
  refine into fun _ hQ => ?_
  rw [k0_part6_eq_skeleton]
  unfold k0_part6_skel
  simp only [semSignalWord, semWaitWord, Prog.lift, Prog.bind_op, Prog.bind_ret, Prog.pure_eq_ret]
  refine st_rawPart (l := 0) (t := 3) rfl rfl (by decide) (by decide) fun _ => ?_
  refine st_stPart (l := 0) (t := 3) rfl rfl (by decide) (by decide) (by decide) rfl ?_
  refine st_rawPart (l := 0) (t := 4) rfl rfl (by decide) (by decide) fun _ => ?_
  refine st_stPart (l := 0) (t := 4) rfl rfl (by decide) (by decide) (by decide) rfl ?_
  refine st_rawPart (l := 0) (t := 5) rfl rfl (by decide) (by decide) fun _ => ?_
  refine st_stPart (l := 0) (t := 5) rfl rfl (by decide) (by decide) (by decide) rfl ?_
  refine st_rawPart (l := 0) (t := 6) rfl rfl (by decide) (by decide) fun _ => ?_
  refine st_stPart (l := 0) (t := 6) rfl rfl (by decide) (by decide) (by decide) rfl ?_
  refine st_rawPart (l := 0) (t := 7) rfl rfl (by decide) (by decide) fun _ => ?_
  refine st_stPart (l := 0) (t := 7) rfl rfl (by decide) (by decide) (by decide) rfl ?_
  refine st_bar rfl rfl ?_
  refine out hQ ?_; clear hQ
  refine into fun _ hQ => ?_
  rw [k0_part7_eq_skeleton]
  unfold k0_part7_skel
  simp only [semSignalWord, semWaitWord, Prog.lift, Prog.bind_op, Prog.bind_ret, Prog.pure_eq_ret]
  refine st_hand (lp := 0) (by decide) ?_
  refine st_sendR (a := 5) rfl rfl (off_rs c 5 (by decide)).1 rfl (Fin.ext (by simp only [dev_rs c])) rfl rfl (by decide) (by decide) (by decide) ?_
  refine out hQ ?_; clear hQ
  refine into fun _ hQ => ?_
  rw [k0_part8_eq_skeleton]
  unfold k0_part8_skel
  simp only [semSignalWord, semWaitWord, Prog.lift, Prog.bind_op, Prog.bind_ret, Prog.pure_eq_ret]
  refine st_sendR (a := 1) rfl rfl (off_rs c 1 (by decide)).1 rfl (Fin.ext (by simp only [dev_rs c])) rfl rfl (by decide) (by decide) (by decide) ?_
  refine out hQ ?_; clear hQ
  refine into fun _ hQ => ?_
  rw [k0_part9_eq_skeleton]
  unfold k0_part9_skel
  simp only [semSignalWord, semWaitWord, Prog.lift, Prog.bind_op, Prog.bind_ret, Prog.pure_eq_ret]
  refine st_sendR (a := 4) rfl rfl (off_rs c 4 (by decide)).1 rfl (Fin.ext (by simp only [dev_rs c])) rfl rfl (by decide) (by decide) (by decide) ?_
  refine st_sendR (a := 2) rfl rfl (off_rs c 2 (by decide)).1 rfl (Fin.ext (by simp only [dev_rs c])) rfl rfl (by decide) (by decide) (by decide) ?_
  refine out hQ ?_; clear hQ
  refine into fun _ hQ => ?_
  rw [k0_part10_eq_skeleton]
  unfold k0_part10_skel
  simp only [semSignalWord, semWaitWord, Prog.lift, Prog.bind_op, Prog.bind_ret, Prog.pure_eq_ret]
  refine st_sendR (a := 0) rfl rfl (off_rs c 0 (by decide)).1 rfl (Fin.ext (by simp only [dev_rs c])) rfl rfl (by decide) (by decide) (by decide) ?_
  refine out hQ ?_; clear hQ
  refine into fun _ hQ => ?_
  rw [k0_part11_eq_skeleton]
  unfold k0_part11_skel
  simp only [semSignalWord, semWaitWord, Prog.lift, Prog.bind_op, Prog.bind_ret, Prog.pure_eq_ret]
  refine st_sendR (a := 6) rfl rfl (off_rs c 6 (by decide)).1 rfl (Fin.ext (by simp only [dev_rs c])) rfl rfl (by decide) (by decide) (by decide) ?_
  refine out hQ ?_; clear hQ
  refine into fun _ hQ => ?_
  rw [k0_part12_eq_skeleton]
  unfold k0_part12_skel
  simp only [semSignalWord, semWaitWord, Prog.lift, Prog.bind_op, Prog.bind_ret, Prog.pure_eq_ret]
  refine st_sendR (a := 3) rfl rfl (off_rs c 3 (by decide)).1 rfl (Fin.ext (by simp only [dev_rs c])) rfl rfl (by decide) (by decide) (by decide) ?_
  refine st_waitO rfl Nw_wo (by decide) (by decide) ?_
  refine st_ldO rfl (by decide) ?_
  refine st_rawBO rfl (by decide) fun _ => ?_
  refine st_stBO rfl rfl (by decide) ?_
  refine st_waitI rfl rfl (by decide) (by decide) ?_
  refine st_ldI rfl (by decide) ?_
  refine st_rawBI rfl (by decide) fun _ => ?_
  refine st_stBI rfl rfl (by decide) ?_
  refine st_ldPart (l := 0) (off_own c).1.1 (by decide) ?_
  refine out hQ ?_; clear hQ
  refine into fun _ hQ => ?_
  rw [k0_part13_eq_skeleton]
  unfold k0_part13_skel
  simp only [semSignalWord, semWaitWord, Prog.lift, Prog.bind_op, Prog.bind_ret, Prog.pure_eq_ret]
  refine st_recv (a := 3) rfl rfl (by decide) (by decide) rfl ?_
  refine st_ldRs (n := 0) (a := 3) rfl (by decide) rfl rfl ?_
  refine st_recv (a := 6) rfl rfl (by decide) (by decide) rfl ?_
  refine st_ldRs (n := 1) (a := 6) rfl (by decide) rfl rfl ?_
  refine out hQ ?_; clear hQ
  refine into fun _ hQ => ?_
  rw [k0_part14_eq_skeleton]
  unfold k0_part14_skel
  simp only [semSignalWord, semWaitWord, Prog.lift, Prog.bind_op, Prog.bind_ret, Prog.pure_eq_ret]
  refine st_recv (a := 0) rfl rfl (by decide) (by decide) rfl ?_
  refine st_ldRs (n := 2) (a := 0) rfl (by decide) rfl rfl ?_
  refine st_recv (a := 2) rfl rfl (by decide) (by decide) rfl ?_
  refine st_ldRs (n := 3) (a := 2) rfl (by decide) rfl rfl ?_
  refine out hQ ?_; clear hQ
  refine into fun _ hQ => ?_
  rw [k0_part15_eq_skeleton]
  unfold k0_part15_skel
  simp only [semSignalWord, semWaitWord, Prog.lift, Prog.bind_op, Prog.bind_ret, Prog.pure_eq_ret]
  refine st_recv (a := 4) rfl rfl (by decide) (by decide) rfl ?_
  refine st_ldRs (n := 4) (a := 4) rfl (by decide) rfl rfl ?_
  refine st_recv (a := 1) rfl rfl (by decide) (by decide) rfl ?_
  refine out hQ ?_; clear hQ
  refine into fun _ hQ => ?_
  rw [k0_part16_eq_skeleton]
  unfold k0_part16_skel
  simp only [semSignalWord, semWaitWord, Prog.lift, Prog.bind_op, Prog.bind_ret, Prog.pure_eq_ret]
  refine st_ldRs (n := 5) (a := 1) rfl (by decide) rfl rfl ?_
  refine st_recv (a := 5) rfl rfl (by decide) (by decide) rfl ?_
  refine st_ldRs (n := 6) (a := 5) rfl (by decide) rfl rfl ?_
  refine st_rawAg (off_own c).1.1 (by decide) fun _ => ?_
  refine st_stAg (na := 0) (off_own c).1.1 (Eq.trans rfl (A4_own m ρ 0 c).symm) (by decide) (by decide) ?_
  refine out hQ ?_; clear hQ
  refine into fun _ hQ => ?_
  rw [k0_part17_eq_skeleton]
  unfold k0_part17_skel
  simp only [semSignalWord, semWaitWord, Prog.lift, Prog.bind_op, Prog.bind_ret, Prog.pure_eq_ret]
  refine st_sendA (a := 12) rfl rfl (off_own c).2.1.1 (Fin.ext (by simp only [dev_ag c])) rfl rfl (by decide) (by decide) (by decide) ?_
  refine out hQ ?_; clear hQ
  refine into fun _ hQ => ?_
  rw [k0_part18_eq_skeleton]
  unfold k0_part18_skel
  simp only [semSignalWord, semWaitWord, Prog.lift, Prog.bind_op, Prog.bind_ret, Prog.pure_eq_ret]
  refine st_sendA (a := 8) rfl rfl (off_own c).2.1.1 (Fin.ext (by simp only [dev_ag c])) rfl rfl (by decide) (by decide) (by decide) ?_
  refine st_sendA (a := 11) rfl rfl (off_own c).2.1.1 (Fin.ext (by simp only [dev_ag c])) rfl rfl (by decide) (by decide) (by decide) ?_
  refine out hQ ?_; clear hQ
  refine into fun _ hQ => ?_
  rw [k0_part19_eq_skeleton]
  unfold k0_part19_skel
  simp only [semSignalWord, semWaitWord, Prog.lift, Prog.bind_op, Prog.bind_ret, Prog.pure_eq_ret]
  refine st_sendA (a := 9) rfl rfl (off_own c).2.1.1 (Fin.ext (by simp only [dev_ag c])) rfl rfl (by decide) (by decide) (by decide) ?_
  refine out hQ ?_; clear hQ
  refine into fun _ hQ => ?_
  rw [k0_part20_eq_skeleton]
  unfold k0_part20_skel
  simp only [semSignalWord, semWaitWord, Prog.lift, Prog.bind_op, Prog.bind_ret, Prog.pure_eq_ret]
  refine st_sendA (a := 7) rfl rfl (off_own c).2.1.1 (Fin.ext (by simp only [dev_ag c])) rfl rfl (by decide) (by decide) (by decide) ?_
  refine out hQ ?_; clear hQ
  refine into fun _ hQ => ?_
  rw [k0_part21_eq_skeleton]
  unfold k0_part21_skel
  simp only [semSignalWord, semWaitWord, Prog.lift, Prog.bind_op, Prog.bind_ret, Prog.pure_eq_ret]
  refine st_sendA (a := 13) rfl rfl (off_own c).2.1.1 (Fin.ext (by simp only [dev_ag c])) rfl rfl (by decide) (by decide) (by decide) ?_
  refine st_sendA (a := 10) rfl rfl (off_own c).2.1.1 (Fin.ext (by simp only [dev_ag c])) rfl rfl (by decide) (by decide) (by decide) ?_
  refine st_ldAg (l := 0) (off_own c).1.1 (by decide) ?_
  refine out hQ ?_; clear hQ
  refine into fun _ hQ => ?_
  rw [k0_part22_eq_skeleton]
  unfold k0_part22_skel
  simp only [semSignalWord, semWaitWord, Prog.lift, Prog.bind_op, Prog.bind_ret, Prog.pure_eq_ret]
  refine st_ldW (l := 0) c.isLt (off_own c).2.2.1 (by decide) ?_
  refine st_recv (a := 10) rfl rfl (by decide) (by decide) rfl ?_
  refine st_ldRa (n := 7) (a := 10) rfl (by decide) rfl (off_ag c 3 (by decide)).1 ?_
  refine st_ldW (l := 0) (nx c 3).isLt (off_w c 3 (by decide)).1 (by decide) ?_
  refine out hQ ?_; clear hQ
  refine into fun _ hQ => ?_
  rw [k0_part23_eq_skeleton]
  unfold k0_part23_skel
  simp only [semSignalWord, semWaitWord, Prog.lift, Prog.bind_op, Prog.bind_ret, Prog.pure_eq_ret]
  refine st_recv (a := 13) rfl rfl (by decide) (by decide) rfl ?_
  refine st_ldRa (n := 8) (a := 13) rfl (by decide) rfl (off_ag c 6 (by decide)).1 ?_
  refine st_ldW (l := 0) (nx c 0).isLt (off_w c 6 (by decide)).1 (by decide) ?_
  refine out hQ ?_; clear hQ
  refine into fun _ hQ => ?_
  rw [k0_part24_eq_skeleton]
  unfold k0_part24_skel
  simp only [semSignalWord, semWaitWord, Prog.lift, Prog.bind_op, Prog.bind_ret, Prog.pure_eq_ret]
  refine st_recv (a := 7) rfl rfl (by decide) (by decide) rfl ?_
  refine st_ldRa (n := 9) (a := 7) rfl (by decide) rfl (off_ag c 0 (by decide)).1 ?_
  refine st_ldW (l := 0) (nx c 6).isLt (off_w c 0 (by decide)).1 (by decide) ?_
  refine out hQ ?_; clear hQ
  refine into fun _ hQ => ?_
  rw [k0_part25_eq_skeleton]
  unfold k0_part25_skel
  simp only [semSignalWord, semWaitWord, Prog.lift, Prog.bind_op, Prog.bind_ret, Prog.pure_eq_ret]
  refine st_recv (a := 9) rfl rfl (by decide) (by decide) rfl ?_
  refine st_ldRa (n := 10) (a := 9) rfl (by decide) rfl (off_ag c 2 (by decide)).1 ?_
  refine st_ldW (l := 0) (nx c 4).isLt (off_w c 2 (by decide)).1 (by decide) ?_
  refine out hQ ?_; clear hQ
  refine into fun _ hQ => ?_
  rw [k0_part26_eq_skeleton]
  unfold k0_part26_skel
  simp only [semSignalWord, semWaitWord, Prog.lift, Prog.bind_op, Prog.bind_ret, Prog.pure_eq_ret]
  refine st_recv (a := 11) rfl rfl (by decide) (by decide) rfl ?_
  refine st_ldRa (n := 11) (a := 11) rfl (by decide) rfl (off_ag c 4 (by decide)).1 ?_
  refine st_ldW (l := 0) (nx c 2).isLt (off_w c 4 (by decide)).1 (by decide) ?_
  refine out hQ ?_; clear hQ
  refine into fun _ hQ => ?_
  rw [k0_part27_eq_skeleton]
  unfold k0_part27_skel
  simp only [semSignalWord, semWaitWord, Prog.lift, Prog.bind_op, Prog.bind_ret, Prog.pure_eq_ret]
  refine st_recv (a := 8) rfl rfl (by decide) (by decide) rfl ?_
  refine st_ldRa (n := 12) (a := 8) rfl (by decide) rfl (off_ag c 1 (by decide)).1 ?_
  refine st_ldW (l := 0) (nx c 5).isLt (off_w c 1 (by decide)).1 (by decide) ?_
  refine out hQ ?_; clear hQ
  refine into fun _ hQ => ?_
  rw [k0_part28_eq_skeleton]
  unfold k0_part28_skel
  simp only [semSignalWord, semWaitWord, Prog.lift, Prog.bind_op, Prog.bind_ret, Prog.pure_eq_ret]
  refine st_recv (a := 12) rfl rfl (by decide) (by decide) rfl ?_
  refine st_ldRa (n := 13) (a := 12) rfl (by decide) rfl (off_ag c 5 (by decide)).1 ?_
  refine st_ldW (l := 0) (nx c 1).isLt (off_w c 5 (by decide)).1 (by decide) ?_
  refine st_ldBI rfl (by decide) ?_
  refine st_rawPart (l := 1) (t := 0) rfl rfl (by decide) (by decide) fun _ => ?_
  refine out hQ ?_; clear hQ
  refine into fun _ hQ => ?_
  rw [k0_part29_eq_skeleton]
  unfold k0_part29_skel
  simp only [semSignalWord, semWaitWord, Prog.lift, Prog.bind_op, Prog.bind_ret, Prog.pure_eq_ret]
  refine st_stPart (l := 1) (t := 0) rfl rfl (by decide) (by decide) (by decide) rfl ?_
  refine st_rawPart (l := 1) (t := 1) rfl rfl (by decide) (by decide) fun _ => ?_
  refine st_stPart (l := 1) (t := 1) rfl rfl (by decide) (by decide) (by decide) rfl ?_
  refine st_rawPart (l := 1) (t := 2) rfl rfl (by decide) (by decide) fun _ => ?_
  refine st_stPart (l := 1) (t := 2) rfl rfl (by decide) (by decide) (by decide) rfl ?_
  refine st_rawPart (l := 1) (t := 3) rfl rfl (by decide) (by decide) fun _ => ?_
  refine st_stPart (l := 1) (t := 3) rfl rfl (by decide) (by decide) (by decide) rfl ?_
  refine st_rawPart (l := 1) (t := 4) rfl rfl (by decide) (by decide) fun _ => ?_
  refine st_stPart (l := 1) (t := 4) rfl rfl (by decide) (by decide) (by decide) rfl ?_
  refine st_rawPart (l := 1) (t := 5) rfl rfl (by decide) (by decide) fun _ => ?_
  refine st_stPart (l := 1) (t := 5) rfl rfl (by decide) (by decide) (by decide) rfl ?_
  refine st_rawPart (l := 1) (t := 6) rfl rfl (by decide) (by decide) fun _ => ?_
  refine out hQ ?_; clear hQ
  refine into fun _ hQ => ?_
  rw [k0_part30_eq_skeleton]
  unfold k0_part30_skel
  simp only [semSignalWord, semWaitWord, Prog.lift, Prog.bind_op, Prog.bind_ret, Prog.pure_eq_ret]
  refine st_stPart (l := 1) (t := 6) rfl rfl (by decide) (by decide) (by decide) rfl ?_
  refine st_rawPart (l := 1) (t := 7) rfl rfl (by decide) (by decide) fun _ => ?_
  refine st_stPart (l := 1) (t := 7) rfl rfl (by decide) (by decide) (by decide) rfl ?_
  refine st_hand (lp := 1) (by decide) ?_
  refine st_sendR (a := 19) rfl rfl (off_rs c 5 (by decide)).2.1 rfl (Fin.ext (by simp only [dev_rs c])) rfl rfl (by decide) (by decide) (by decide) ?_
  refine out hQ ?_; clear hQ
  refine into fun _ hQ => ?_
  rw [k0_part31_eq_skeleton]
  unfold k0_part31_skel
  simp only [semSignalWord, semWaitWord, Prog.lift, Prog.bind_op, Prog.bind_ret, Prog.pure_eq_ret]
  refine st_sendR (a := 15) rfl rfl (off_rs c 1 (by decide)).2.1 rfl (Fin.ext (by simp only [dev_rs c])) rfl rfl (by decide) (by decide) (by decide) ?_
  refine out hQ ?_; clear hQ
  refine into fun _ hQ => ?_
  rw [k0_part32_eq_skeleton]
  unfold k0_part32_skel
  simp only [semSignalWord, semWaitWord, Prog.lift, Prog.bind_op, Prog.bind_ret, Prog.pure_eq_ret]
  refine st_sendR (a := 18) rfl rfl (off_rs c 4 (by decide)).2.1 rfl (Fin.ext (by simp only [dev_rs c])) rfl rfl (by decide) (by decide) (by decide) ?_
  refine out hQ ?_; clear hQ
  refine into fun _ hQ => ?_
  rw [k0_part33_eq_skeleton]
  unfold k0_part33_skel
  simp only [semSignalWord, semWaitWord, Prog.lift, Prog.bind_op, Prog.bind_ret, Prog.pure_eq_ret]
  refine st_sendR (a := 16) rfl rfl (off_rs c 2 (by decide)).2.1 rfl (Fin.ext (by simp only [dev_rs c])) rfl rfl (by decide) (by decide) (by decide) ?_
  refine st_sendR (a := 14) rfl rfl (off_rs c 0 (by decide)).2.1 rfl (Fin.ext (by simp only [dev_rs c])) rfl rfl (by decide) (by decide) (by decide) ?_
  refine out hQ ?_; clear hQ
  refine into fun _ hQ => ?_
  rw [k0_part34_eq_skeleton]
  unfold k0_part34_skel
  simp only [semSignalWord, semWaitWord, Prog.lift, Prog.bind_op, Prog.bind_ret, Prog.pure_eq_ret]
  refine st_sendR (a := 20) rfl rfl (off_rs c 6 (by decide)).2.1 rfl (Fin.ext (by simp only [dev_rs c])) rfl rfl (by decide) (by decide) (by decide) ?_
  refine out hQ ?_; clear hQ
  refine into fun _ hQ => ?_
  rw [k0_part35_eq_skeleton]
  unfold k0_part35_skel
  simp only [semSignalWord, semWaitWord, Prog.lift, Prog.bind_op, Prog.bind_ret, Prog.pure_eq_ret]
  refine st_sendR (a := 17) rfl rfl (off_rs c 3 (by decide)).2.1 rfl (Fin.ext (by simp only [dev_rs c])) rfl rfl (by decide) (by decide) (by decide) ?_
  refine st_waitO rfl Nw_wo (by decide) (by decide) ?_
  refine st_ldO rfl (by decide) ?_
  refine st_rawBO rfl (by decide) fun _ => ?_
  refine st_stBO rfl rfl (by decide) ?_
  refine st_waitI rfl rfl (by decide) (by decide) ?_
  refine st_ldI rfl (by decide) ?_
  refine out hQ ?_; clear hQ
  refine into fun _ hQ => ?_
  rw [k0_part36_eq_skeleton]
  unfold k0_part36_skel
  simp only [semSignalWord, semWaitWord, Prog.lift, Prog.bind_op, Prog.bind_ret, Prog.pure_eq_ret]
  refine st_rawBI rfl (by decide) fun _ => ?_
  refine st_stBI rfl rfl (by decide) ?_
  refine st_ldPart (l := 1) (off_own c).1.2.1 (by decide) ?_
  refine st_recv (a := 17) rfl rfl (by decide) (by decide) rfl ?_
  refine st_ldRs (n := 14) (a := 17) rfl (by decide) rfl rfl ?_
  refine out hQ ?_; clear hQ
  refine into fun _ hQ => ?_
  rw [k0_part37_eq_skeleton]
  unfold k0_part37_skel
  simp only [semSignalWord, semWaitWord, Prog.lift, Prog.bind_op, Prog.bind_ret, Prog.pure_eq_ret]
  refine st_recv (a := 20) rfl rfl (by decide) (by decide) rfl ?_
  refine st_ldRs (n := 15) (a := 20) rfl (by decide) rfl rfl ?_
  refine st_recv (a := 14) rfl rfl (by decide) (by decide) rfl ?_
  refine st_ldRs (n := 16) (a := 14) rfl (by decide) rfl rfl ?_
  refine out hQ ?_; clear hQ
  refine into fun _ hQ => ?_
  rw [k0_part38_eq_skeleton]
  unfold k0_part38_skel
  simp only [semSignalWord, semWaitWord, Prog.lift, Prog.bind_op, Prog.bind_ret, Prog.pure_eq_ret]
  refine st_recv (a := 16) rfl rfl (by decide) (by decide) rfl ?_
  refine st_ldRs (n := 17) (a := 16) rfl (by decide) rfl rfl ?_
  refine st_recv (a := 18) rfl rfl (by decide) (by decide) rfl ?_
  refine st_ldRs (n := 18) (a := 18) rfl (by decide) rfl rfl ?_
  refine out hQ ?_; clear hQ
  refine into fun _ hQ => ?_
  rw [k0_part39_eq_skeleton]
  unfold k0_part39_skel
  simp only [semSignalWord, semWaitWord, Prog.lift, Prog.bind_op, Prog.bind_ret, Prog.pure_eq_ret]
  refine st_recv (a := 15) rfl rfl (by decide) (by decide) rfl ?_
  refine st_ldRs (n := 19) (a := 15) rfl (by decide) rfl rfl ?_
  refine st_recv (a := 19) rfl rfl (by decide) (by decide) rfl ?_
  refine st_ldRs (n := 20) (a := 19) rfl (by decide) rfl rfl ?_
  refine out hQ ?_; clear hQ
  refine into fun _ hQ => ?_
  rw [k0_part40_eq_skeleton]
  unfold k0_part40_skel
  simp only [semSignalWord, semWaitWord, Prog.lift, Prog.bind_op, Prog.bind_ret, Prog.pure_eq_ret]
  refine st_rawAg (off_own c).1.2.1 (by decide) fun _ => ?_
  refine st_stAg (na := 1) (off_own c).1.2.1 (Eq.trans rfl (A4_own m ρ 1 c).symm) (by decide) (by decide) ?_
  refine st_sendA (a := 26) rfl rfl (off_own c).2.1.2.1 (Fin.ext (by simp only [dev_ag c])) rfl rfl (by decide) (by decide) (by decide) ?_
  refine out hQ ?_; clear hQ
  refine into fun _ hQ => ?_
  rw [k0_part41_eq_skeleton]
  unfold k0_part41_skel
  simp only [semSignalWord, semWaitWord, Prog.lift, Prog.bind_op, Prog.bind_ret, Prog.pure_eq_ret]
  refine st_sendA (a := 22) rfl rfl (off_own c).2.1.2.1 (Fin.ext (by simp only [dev_ag c])) rfl rfl (by decide) (by decide) (by decide) ?_
  refine out hQ ?_; clear hQ
  refine into fun _ hQ => ?_
  rw [k0_part42_eq_skeleton]
  unfold k0_part42_skel
  simp only [semSignalWord, semWaitWord, Prog.lift, Prog.bind_op, Prog.bind_ret, Prog.pure_eq_ret]
  refine st_sendA (a := 25) rfl rfl (off_own c).2.1.2.1 (Fin.ext (by simp only [dev_ag c])) rfl rfl (by decide) (by decide) (by decide) ?_
  refine out hQ ?_; clear hQ
  refine into fun _ hQ => ?_
  rw [k0_part43_eq_skeleton]
  unfold k0_part43_skel
  simp only [semSignalWord, semWaitWord, Prog.lift, Prog.bind_op, Prog.bind_ret, Prog.pure_eq_ret]
  refine st_sendA (a := 23) rfl rfl (off_own c).2.1.2.1 (Fin.ext (by simp only [dev_ag c])) rfl rfl (by decide) (by decide) (by decide) ?_
  refine st_sendA (a := 21) rfl rfl (off_own c).2.1.2.1 (Fin.ext (by simp only [dev_ag c])) rfl rfl (by decide) (by decide) (by decide) ?_
  refine out hQ ?_; clear hQ
  refine into fun _ hQ => ?_
  rw [k0_part44_eq_skeleton]
  unfold k0_part44_skel
  simp only [semSignalWord, semWaitWord, Prog.lift, Prog.bind_op, Prog.bind_ret, Prog.pure_eq_ret]
  refine st_sendA (a := 27) rfl rfl (off_own c).2.1.2.1 (Fin.ext (by simp only [dev_ag c])) rfl rfl (by decide) (by decide) (by decide) ?_
  refine out hQ ?_; clear hQ
  refine into fun _ hQ => ?_
  rw [k0_part45_eq_skeleton]
  unfold k0_part45_skel
  simp only [semSignalWord, semWaitWord, Prog.lift, Prog.bind_op, Prog.bind_ret, Prog.pure_eq_ret]
  refine st_sendA (a := 24) rfl rfl (off_own c).2.1.2.1 (Fin.ext (by simp only [dev_ag c])) rfl rfl (by decide) (by decide) (by decide) ?_
  refine st_ldAg (l := 1) (off_own c).1.2.1 (by decide) ?_
  refine st_ldW (l := 1) c.isLt (off_own c).2.2.2.1 (by decide) ?_
  refine st_recv (a := 24) rfl rfl (by decide) (by decide) rfl ?_
  refine out hQ ?_; clear hQ
  refine into fun _ hQ => ?_
  rw [k0_part46_eq_skeleton]
  unfold k0_part46_skel
  simp only [semSignalWord, semWaitWord, Prog.lift, Prog.bind_op, Prog.bind_ret, Prog.pure_eq_ret]
  refine st_ldRa (n := 21) (a := 24) rfl (by decide) rfl (off_ag c 3 (by decide)).2.1 ?_
  refine st_ldW (l := 1) (nx c 3).isLt (off_w c 3 (by decide)).2.1 (by decide) ?_
  refine st_recv (a := 27) rfl rfl (by decide) (by decide) rfl ?_
  refine out hQ ?_; clear hQ
  refine into fun _ hQ => ?_
  rw [k0_part47_eq_skeleton]
  unfold k0_part47_skel
  simp only [semSignalWord, semWaitWord, Prog.lift, Prog.bind_op, Prog.bind_ret, Prog.pure_eq_ret]
  refine st_ldRa (n := 22) (a := 27) rfl (by decide) rfl (off_ag c 6 (by decide)).2.1 ?_
  refine st_ldW (l := 1) (nx c 0).isLt (off_w c 6 (by decide)).2.1 (by decide) ?_
  refine st_recv (a := 21) rfl rfl (by decide) (by decide) rfl ?_
  refine out hQ ?_; clear hQ
  refine into fun _ hQ => ?_
  rw [k0_part48_eq_skeleton]
  unfold k0_part48_skel
  simp only [semSignalWord, semWaitWord, Prog.lift, Prog.bind_op, Prog.bind_ret, Prog.pure_eq_ret]
  refine st_ldRa (n := 23) (a := 21) rfl (by decide) rfl (off_ag c 0 (by decide)).2.1 ?_
  refine st_ldW (l := 1) (nx c 6).isLt (off_w c 0 (by decide)).2.1 (by decide) ?_
  refine st_recv (a := 23) rfl rfl (by decide) (by decide) rfl ?_
  refine out hQ ?_; clear hQ
  refine into fun _ hQ => ?_
  rw [k0_part49_eq_skeleton]
  unfold k0_part49_skel
  simp only [semSignalWord, semWaitWord, Prog.lift, Prog.bind_op, Prog.bind_ret, Prog.pure_eq_ret]
  refine st_ldRa (n := 24) (a := 23) rfl (by decide) rfl (off_ag c 2 (by decide)).2.1 ?_
  refine st_ldW (l := 1) (nx c 4).isLt (off_w c 2 (by decide)).2.1 (by decide) ?_
  refine st_recv (a := 25) rfl rfl (by decide) (by decide) rfl ?_
  refine st_ldRa (n := 25) (a := 25) rfl (by decide) rfl (off_ag c 4 (by decide)).2.1 ?_
  refine out hQ ?_; clear hQ
  refine into fun _ hQ => ?_
  rw [k0_part50_eq_skeleton]
  unfold k0_part50_skel
  simp only [semSignalWord, semWaitWord, Prog.lift, Prog.bind_op, Prog.bind_ret, Prog.pure_eq_ret]
  refine st_ldW (l := 1) (nx c 2).isLt (off_w c 4 (by decide)).2.1 (by decide) ?_
  refine st_recv (a := 22) rfl rfl (by decide) (by decide) rfl ?_
  refine st_ldRa (n := 26) (a := 22) rfl (by decide) rfl (off_ag c 1 (by decide)).2.1 ?_
  refine out hQ ?_; clear hQ
  refine into fun _ hQ => ?_
  rw [k0_part51_eq_skeleton]
  unfold k0_part51_skel
  simp only [semSignalWord, semWaitWord, Prog.lift, Prog.bind_op, Prog.bind_ret, Prog.pure_eq_ret]
  refine st_ldW (l := 1) (nx c 5).isLt (off_w c 1 (by decide)).2.1 (by decide) ?_
  refine st_recv (a := 26) rfl rfl (by decide) (by decide) rfl ?_
  refine st_ldRa (n := 27) (a := 26) rfl (by decide) rfl (off_ag c 5 (by decide)).2.1 ?_
  refine out hQ ?_; clear hQ
  refine into fun _ hQ => ?_
  rw [k0_part52_eq_skeleton]
  unfold k0_part52_skel
  simp only [semSignalWord, semWaitWord, Prog.lift, Prog.bind_op, Prog.bind_ret, Prog.pure_eq_ret]
  refine st_ldW (l := 1) (nx c 1).isLt (off_w c 5 (by decide)).2.1 (by decide) ?_
  refine st_ldBI rfl (by decide) ?_
  refine st_rawPart (l := 2) (t := 0) rfl rfl (by decide) (by decide) fun _ => ?_
  refine st_stPart (l := 2) (t := 0) rfl rfl (by decide) (by decide) (by decide) rfl ?_
  refine st_rawPart (l := 2) (t := 1) rfl rfl (by decide) (by decide) fun _ => ?_
  refine st_stPart (l := 2) (t := 1) rfl rfl (by decide) (by decide) (by decide) rfl ?_
  refine st_rawPart (l := 2) (t := 2) rfl rfl (by decide) (by decide) fun _ => ?_
  refine st_stPart (l := 2) (t := 2) rfl rfl (by decide) (by decide) (by decide) rfl ?_
  refine st_rawPart (l := 2) (t := 3) rfl rfl (by decide) (by decide) fun _ => ?_
  refine st_stPart (l := 2) (t := 3) rfl rfl (by decide) (by decide) (by decide) rfl ?_
  refine st_rawPart (l := 2) (t := 4) rfl rfl (by decide) (by decide) fun _ => ?_
  refine out hQ ?_; clear hQ
  refine into fun _ hQ => ?_
  rw [k0_part53_eq_skeleton]
  unfold k0_part53_skel
  simp only [semSignalWord, semWaitWord, Prog.lift, Prog.bind_op, Prog.bind_ret, Prog.pure_eq_ret]
  refine st_stPart (l := 2) (t := 4) rfl rfl (by decide) (by decide) (by decide) rfl ?_
  refine st_rawPart (l := 2) (t := 5) rfl rfl (by decide) (by decide) fun _ => ?_
  refine st_stPart (l := 2) (t := 5) rfl rfl (by decide) (by decide) (by decide) rfl ?_
  refine st_rawPart (l := 2) (t := 6) rfl rfl (by decide) (by decide) fun _ => ?_
  refine st_stPart (l := 2) (t := 6) rfl rfl (by decide) (by decide) (by decide) rfl ?_
  refine st_rawPart (l := 2) (t := 7) rfl rfl (by decide) (by decide) fun _ => ?_
  refine st_stPart (l := 2) (t := 7) rfl rfl (by decide) (by decide) (by decide) rfl ?_
  refine st_hand (lp := 2) (by decide) ?_
  refine out hQ ?_; clear hQ
  refine into fun _ hQ => ?_
  rw [k0_part54_eq_skeleton]
  unfold k0_part54_skel
  simp only [semSignalWord, semWaitWord, Prog.lift, Prog.bind_op, Prog.bind_ret, Prog.pure_eq_ret]
  refine st_sendR (a := 33) rfl rfl (off_rs c 5 (by decide)).2.2 rfl (Fin.ext (by simp only [dev_rs c])) rfl rfl (by decide) (by decide) (by decide) ?_
  refine out hQ ?_; clear hQ
  refine into fun _ hQ => ?_
  rw [k0_part55_eq_skeleton]
  unfold k0_part55_skel
  simp only [semSignalWord, semWaitWord, Prog.lift, Prog.bind_op, Prog.bind_ret, Prog.pure_eq_ret]
  refine st_sendR (a := 29) rfl rfl (off_rs c 1 (by decide)).2.2 rfl (Fin.ext (by simp only [dev_rs c])) rfl rfl (by decide) (by decide) (by decide) ?_
  refine st_sendR (a := 32) rfl rfl (off_rs c 4 (by decide)).2.2 rfl (Fin.ext (by simp only [dev_rs c])) rfl rfl (by decide) (by decide) (by decide) ?_
  refine out hQ ?_; clear hQ
  refine into fun _ hQ => ?_
  rw [k0_part56_eq_skeleton]
  unfold k0_part56_skel
  simp only [semSignalWord, semWaitWord, Prog.lift, Prog.bind_op, Prog.bind_ret, Prog.pure_eq_ret]
  refine st_sendR (a := 30) rfl rfl (off_rs c 2 (by decide)).2.2 rfl (Fin.ext (by simp only [dev_rs c])) rfl rfl (by decide) (by decide) (by decide) ?_
  refine out hQ ?_; clear hQ
  refine into fun _ hQ => ?_
  rw [k0_part57_eq_skeleton]
  unfold k0_part57_skel
  simp only [semSignalWord, semWaitWord, Prog.lift, Prog.bind_op, Prog.bind_ret, Prog.pure_eq_ret]
  refine st_sendR (a := 28) rfl rfl (off_rs c 0 (by decide)).2.2 rfl (Fin.ext (by simp only [dev_rs c])) rfl rfl (by decide) (by decide) (by decide) ?_
  refine st_sendR (a := 34) rfl rfl (off_rs c 6 (by decide)).2.2 rfl (Fin.ext (by simp only [dev_rs c])) rfl rfl (by decide) (by decide) (by decide) ?_
  refine out hQ ?_; clear hQ
  refine into fun _ hQ => ?_
  rw [k0_part58_eq_skeleton]
  unfold k0_part58_skel
  simp only [semSignalWord, semWaitWord, Prog.lift, Prog.bind_op, Prog.bind_ret, Prog.pure_eq_ret]
  refine st_sendR (a := 31) rfl rfl (off_rs c 3 (by decide)).2.2 rfl (Fin.ext (by simp only [dev_rs c])) rfl rfl (by decide) (by decide) (by decide) ?_
  refine st_waitO rfl Nw_wo (by decide) (by decide) ?_
  refine st_ldO rfl (by decide) ?_
  refine out hQ ?_; clear hQ
  refine into fun _ hQ => ?_
  rw [k0_part59_eq_skeleton]
  unfold k0_part59_skel
  simp only [semSignalWord, semWaitWord, Prog.lift, Prog.bind_op, Prog.bind_ret, Prog.pure_eq_ret]
  refine st_rawBO rfl (by decide) fun _ => ?_
  refine st_stBO rfl rfl (by decide) ?_
  refine st_ldPart (l := 2) (off_own c).1.2.2 (by decide) ?_
  refine st_recv (a := 31) rfl rfl (by decide) (by decide) rfl ?_
  refine st_ldRs (n := 28) (a := 31) rfl (by decide) rfl rfl ?_
  refine out hQ ?_; clear hQ
  refine into fun _ hQ => ?_
  rw [k0_part60_eq_skeleton]
  unfold k0_part60_skel
  simp only [semSignalWord, semWaitWord, Prog.lift, Prog.bind_op, Prog.bind_ret, Prog.pure_eq_ret]
  refine st_recv (a := 34) rfl rfl (by decide) (by decide) rfl ?_
  refine st_ldRs (n := 29) (a := 34) rfl (by decide) rfl rfl ?_
  refine st_recv (a := 28) rfl rfl (by decide) (by decide) rfl ?_
  refine st_ldRs (n := 30) (a := 28) rfl (by decide) rfl rfl ?_
  refine out hQ ?_; clear hQ
  refine out hB ?_; clear hB
  refine into fun _ hQ => ?_
  rw [k0_part61_eq_skeleton]
  unfold k0_part61_skel
  simp only [semSignalWord, semWaitWord, Prog.lift, Prog.bind_op, Prog.bind_ret, Prog.pure_eq_ret]
  refine st_recv (a := 30) rfl rfl (by decide) (by decide) rfl ?_
  refine st_ldRs (n := 31) (a := 30) rfl (by decide) rfl rfl ?_
  refine st_recv (a := 32) rfl rfl (by decide) (by decide) rfl ?_
  refine st_ldRs (n := 32) (a := 32) rfl (by decide) rfl rfl ?_
  refine out hQ ?_; clear hQ
  refine into fun _ hQ => ?_
  rw [k0_part62_eq_skeleton]
  unfold k0_part62_skel
  simp only [semSignalWord, semWaitWord, Prog.lift, Prog.bind_op, Prog.bind_ret, Prog.pure_eq_ret]
  refine st_recv (a := 29) rfl rfl (by decide) (by decide) rfl ?_
  refine st_ldRs (n := 33) (a := 29) rfl (by decide) rfl rfl ?_
  refine st_recv (a := 33) rfl rfl (by decide) (by decide) rfl ?_
  refine st_ldRs (n := 34) (a := 33) rfl (by decide) rfl rfl ?_
  refine out hQ ?_; clear hQ
  refine into fun _ hQ => ?_
  rw [k0_part63_eq_skeleton]
  unfold k0_part63_skel
  simp only [semSignalWord, semWaitWord, Prog.lift, Prog.bind_op, Prog.bind_ret, Prog.pure_eq_ret]
  refine st_rawAg (off_own c).1.2.2 (by decide) fun _ => ?_
  refine st_stAg (na := 2) (off_own c).1.2.2 (Eq.trans rfl (A4_own m ρ 2 c).symm) (by decide) (by decide) ?_
  refine st_sendA (a := 40) rfl rfl (off_own c).2.1.2.2 (Fin.ext (by simp only [dev_ag c])) rfl rfl (by decide) (by decide) (by decide) ?_
  refine out hQ ?_; clear hQ
  refine into fun _ hQ => ?_
  rw [k0_part64_eq_skeleton]
  unfold k0_part64_skel
  simp only [semSignalWord, semWaitWord, Prog.lift, Prog.bind_op, Prog.bind_ret, Prog.pure_eq_ret]
  refine st_sendA (a := 36) rfl rfl (off_own c).2.1.2.2 (Fin.ext (by simp only [dev_ag c])) rfl rfl (by decide) (by decide) (by decide) ?_
  refine out hQ ?_; clear hQ
  refine into fun _ hQ => ?_
  rw [k0_part65_eq_skeleton]
  unfold k0_part65_skel
  simp only [semSignalWord, semWaitWord, Prog.lift, Prog.bind_op, Prog.bind_ret, Prog.pure_eq_ret]
  refine st_sendA (a := 39) rfl rfl (off_own c).2.1.2.2 (Fin.ext (by simp only [dev_ag c])) rfl rfl (by decide) (by decide) (by decide) ?_
  refine st_sendA (a := 37) rfl rfl (off_own c).2.1.2.2 (Fin.ext (by simp only [dev_ag c])) rfl rfl (by decide) (by decide) (by decide) ?_
  refine out hQ ?_; clear hQ
  refine into fun _ hQ => ?_
  rw [k0_part66_eq_skeleton]
  unfold k0_part66_skel
  simp only [semSignalWord, semWaitWord, Prog.lift, Prog.bind_op, Prog.bind_ret, Prog.pure_eq_ret]
  refine st_sendA (a := 35) rfl rfl (off_own c).2.1.2.2 (Fin.ext (by simp only [dev_ag c])) rfl rfl (by decide) (by decide) (by decide) ?_
  refine out hQ ?_; clear hQ
  refine into fun _ hQ => ?_
  rw [k0_part67_eq_skeleton]
  unfold k0_part67_skel
  simp only [semSignalWord, semWaitWord, Prog.lift, Prog.bind_op, Prog.bind_ret, Prog.pure_eq_ret]
  refine st_sendA (a := 41) rfl rfl (off_own c).2.1.2.2 (Fin.ext (by simp only [dev_ag c])) rfl rfl (by decide) (by decide) (by decide) ?_
  refine out hQ ?_; clear hQ
  refine into fun _ hQ => ?_
  rw [k0_part68_eq_skeleton]
  unfold k0_part68_skel
  simp only [semSignalWord, semWaitWord, Prog.lift, Prog.bind_op, Prog.bind_ret, Prog.pure_eq_ret]
  refine st_sendA (a := 38) rfl rfl (off_own c).2.1.2.2 (Fin.ext (by simp only [dev_ag c])) rfl rfl (by decide) (by decide) (by decide) ?_
  refine st_ldAg (l := 2) (off_own c).1.2.2 (by decide) ?_
  refine st_ldW (l := 2) c.isLt (off_own c).2.2.2.2 (by decide) ?_
  refine st_recv (a := 38) rfl rfl (by decide) (by decide) rfl ?_
  refine out hQ ?_; clear hQ
  refine into fun _ hQ => ?_
  rw [k0_part69_eq_skeleton]
  unfold k0_part69_skel
  simp only [semSignalWord, semWaitWord, Prog.lift, Prog.bind_op, Prog.bind_ret, Prog.pure_eq_ret]
  refine st_ldRa (n := 35) (a := 38) rfl (by decide) rfl (off_ag c 3 (by decide)).2.2 ?_
  refine st_ldW (l := 2) (nx c 3).isLt (off_w c 3 (by decide)).2.2 (by decide) ?_
  refine st_recv (a := 41) rfl rfl (by decide) (by decide) rfl ?_
  refine out hQ ?_; clear hQ
  refine into fun _ hQ => ?_
  rw [k0_part70_eq_skeleton]
  unfold k0_part70_skel
  simp only [semSignalWord, semWaitWord, Prog.lift, Prog.bind_op, Prog.bind_ret, Prog.pure_eq_ret]
  refine st_ldRa (n := 36) (a := 41) rfl (by decide) rfl (off_ag c 6 (by decide)).2.2 ?_
  refine st_ldW (l := 2) (nx c 0).isLt (off_w c 6 (by decide)).2.2 (by decide) ?_
  refine st_recv (a := 35) rfl rfl (by decide) (by decide) rfl ?_
  refine out hQ ?_; clear hQ
  refine into fun _ hQ => ?_
  rw [k0_part71_eq_skeleton]
  unfold k0_part71_skel
  simp only [semSignalWord, semWaitWord, Prog.lift, Prog.bind_op, Prog.bind_ret, Prog.pure_eq_ret]
  refine st_ldRa (n := 37) (a := 35) rfl (by decide) rfl (off_ag c 0 (by decide)).2.2 ?_
  refine st_ldW (l := 2) (nx c 6).isLt (off_w c 0 (by decide)).2.2 (by decide) ?_
  refine st_recv (a := 37) rfl rfl (by decide) (by decide) rfl ?_
  refine st_ldRa (n := 38) (a := 37) rfl (by decide) rfl (off_ag c 2 (by decide)).2.2 ?_
  refine out hQ ?_; clear hQ
  refine into fun _ hQ => ?_
  rw [k0_part72_eq_skeleton]
  unfold k0_part72_skel
  simp only [semSignalWord, semWaitWord, Prog.lift, Prog.bind_op, Prog.bind_ret, Prog.pure_eq_ret]
  refine st_ldW (l := 2) (nx c 4).isLt (off_w c 2 (by decide)).2.2 (by decide) ?_
  refine st_recv (a := 39) rfl rfl (by decide) (by decide) rfl ?_
  refine st_ldRa (n := 39) (a := 39) rfl (by decide) rfl (off_ag c 4 (by decide)).2.2 ?_
  refine out hQ ?_; clear hQ
  refine into fun _ hQ => ?_
  rw [k0_part73_eq_skeleton]
  unfold k0_part73_skel
  simp only [semSignalWord, semWaitWord, Prog.lift, Prog.bind_op, Prog.bind_ret, Prog.pure_eq_ret]
  refine st_ldW (l := 2) (nx c 2).isLt (off_w c 4 (by decide)).2.2 (by decide) ?_
  refine st_recv (a := 36) rfl rfl (by decide) (by decide) rfl ?_
  refine st_ldRa (n := 40) (a := 36) rfl (by decide) rfl (off_ag c 1 (by decide)).2.2 ?_
  refine out hQ ?_; clear hQ
  refine into fun _ hQ => ?_
  rw [k0_part74_eq_skeleton]
  unfold k0_part74_skel
  simp only [semSignalWord, semWaitWord, Prog.lift, Prog.bind_op, Prog.bind_ret, Prog.pure_eq_ret]
  refine st_ldW (l := 2) (nx c 5).isLt (off_w c 1 (by decide)).2.2 (by decide) ?_
  refine st_recv (a := 40) rfl rfl (by decide) (by decide) rfl ?_
  refine st_ldRa (n := 41) (a := 40) rfl (by decide) rfl (off_ag c 5 (by decide)).2.2 ?_
  refine st_ldW (l := 2) (nx c 1).isLt (off_w c 5 (by decide)).2.2 (by decide) ?_
  refine out hQ ?_; clear hQ
  refine into fun _ hQ => ?_
  rw [k0_part75_eq_skeleton]
  unfold k0_part75_skel
  simp only [semSignalWord, semWaitWord, Prog.lift, Prog.bind_op, Prog.bind_ret, Prog.pure_eq_ret]
  refine st_rawOut rfl fun _ => ?_
  refine st_stOut rfl rfl ?_
  refine st_sent (a := 5) rfl rfl (by decide) (by decide) rfl ?_
  refine st_sent (a := 1) rfl rfl (by decide) (by decide) rfl ?_
  refine out hQ ?_; clear hQ
  refine into fun _ hQ => ?_
  rw [k0_part76_eq_skeleton]
  unfold k0_part76_skel
  simp only [semSignalWord, semWaitWord, Prog.lift, Prog.bind_op, Prog.bind_ret, Prog.pure_eq_ret]
  refine st_sent (a := 4) rfl rfl (by decide) (by decide) rfl ?_
  refine st_sent (a := 2) rfl rfl (by decide) (by decide) rfl ?_
  refine st_sent (a := 0) rfl rfl (by decide) (by decide) rfl ?_
  refine out hQ ?_; clear hQ
  refine into fun _ hQ => ?_
  rw [k0_part77_eq_skeleton]
  unfold k0_part77_skel
  simp only [semSignalWord, semWaitWord, Prog.lift, Prog.bind_op, Prog.bind_ret, Prog.pure_eq_ret]
  refine st_sent (a := 6) rfl rfl (by decide) (by decide) rfl ?_
  refine st_sent (a := 3) rfl rfl (by decide) (by decide) rfl ?_
  refine st_sent (a := 12) rfl rfl (by decide) (by decide) rfl ?_
  refine out hQ ?_; clear hQ
  refine into fun _ hQ => ?_
  rw [k0_part78_eq_skeleton]
  unfold k0_part78_skel
  simp only [semSignalWord, semWaitWord, Prog.lift, Prog.bind_op, Prog.bind_ret, Prog.pure_eq_ret]
  refine st_sent (a := 8) rfl rfl (by decide) (by decide) rfl ?_
  refine st_sent (a := 11) rfl rfl (by decide) (by decide) rfl ?_
  refine st_sent (a := 9) rfl rfl (by decide) (by decide) rfl ?_
  refine out hQ ?_; clear hQ
  refine into fun _ hQ => ?_
  rw [k0_part79_eq_skeleton]
  unfold k0_part79_skel
  simp only [semSignalWord, semWaitWord, Prog.lift, Prog.bind_op, Prog.bind_ret, Prog.pure_eq_ret]
  refine st_sent (a := 7) rfl rfl (by decide) (by decide) rfl ?_
  refine st_sent (a := 13) rfl rfl (by decide) (by decide) rfl ?_
  refine st_sent (a := 10) rfl rfl (by decide) (by decide) rfl ?_
  refine out hQ ?_; clear hQ
  refine into fun _ hQ => ?_
  rw [k0_part80_eq_skeleton]
  unfold k0_part80_skel
  simp only [semSignalWord, semWaitWord, Prog.lift, Prog.bind_op, Prog.bind_ret, Prog.pure_eq_ret]
  refine st_sent (a := 19) rfl rfl (by decide) (by decide) rfl ?_
  refine st_sent (a := 15) rfl rfl (by decide) (by decide) rfl ?_
  refine st_sent (a := 18) rfl rfl (by decide) (by decide) rfl ?_
  refine out hQ ?_; clear hQ
  refine into fun _ hQ => ?_
  rw [k0_part81_eq_skeleton]
  unfold k0_part81_skel
  simp only [semSignalWord, semWaitWord, Prog.lift, Prog.bind_op, Prog.bind_ret, Prog.pure_eq_ret]
  refine st_sent (a := 16) rfl rfl (by decide) (by decide) rfl ?_
  refine st_sent (a := 14) rfl rfl (by decide) (by decide) rfl ?_
  refine st_sent (a := 20) rfl rfl (by decide) (by decide) rfl ?_
  refine out hQ ?_; clear hQ
  refine into fun _ hQ => ?_
  rw [k0_part82_eq_skeleton]
  unfold k0_part82_skel
  simp only [semSignalWord, semWaitWord, Prog.lift, Prog.bind_op, Prog.bind_ret, Prog.pure_eq_ret]
  refine st_sent (a := 17) rfl rfl (by decide) (by decide) rfl ?_
  refine st_sent (a := 26) rfl rfl (by decide) (by decide) rfl ?_
  refine st_sent (a := 22) rfl rfl (by decide) (by decide) rfl ?_
  refine out hQ ?_; clear hQ
  refine into fun _ hQ => ?_
  rw [k0_part83_eq_skeleton]
  unfold k0_part83_skel
  simp only [semSignalWord, semWaitWord, Prog.lift, Prog.bind_op, Prog.bind_ret, Prog.pure_eq_ret]
  refine st_sent (a := 25) rfl rfl (by decide) (by decide) rfl ?_
  refine st_sent (a := 23) rfl rfl (by decide) (by decide) rfl ?_
  refine st_sent (a := 21) rfl rfl (by decide) (by decide) rfl ?_
  refine out hQ ?_; clear hQ
  refine into fun _ hQ => ?_
  rw [k0_part84_eq_skeleton]
  unfold k0_part84_skel
  simp only [semSignalWord, semWaitWord, Prog.lift, Prog.bind_op, Prog.bind_ret, Prog.pure_eq_ret]
  refine st_sent (a := 27) rfl rfl (by decide) (by decide) rfl ?_
  refine st_sent (a := 24) rfl rfl (by decide) (by decide) rfl ?_
  refine out hQ ?_; clear hQ
  refine into fun _ hQ => ?_
  rw [k0_part85_eq_skeleton]
  unfold k0_part85_skel
  simp only [semSignalWord, semWaitWord, Prog.lift, Prog.bind_op, Prog.bind_ret, Prog.pure_eq_ret]
  refine st_sent (a := 33) rfl rfl (by decide) (by decide) rfl ?_
  refine st_sent (a := 29) rfl rfl (by decide) (by decide) rfl ?_
  refine st_sent (a := 32) rfl rfl (by decide) (by decide) rfl ?_
  refine out hQ ?_; clear hQ
  refine into fun _ hQ => ?_
  rw [k0_part86_eq_skeleton]
  unfold k0_part86_skel
  simp only [semSignalWord, semWaitWord, Prog.lift, Prog.bind_op, Prog.bind_ret, Prog.pure_eq_ret]
  refine st_sent (a := 30) rfl rfl (by decide) (by decide) rfl ?_
  refine st_sent (a := 28) rfl rfl (by decide) (by decide) rfl ?_
  refine st_sent (a := 34) rfl rfl (by decide) (by decide) rfl ?_
  refine out hQ ?_; clear hQ
  refine into fun _ hQ => ?_
  rw [k0_part87_eq_skeleton]
  unfold k0_part87_skel
  simp only [semSignalWord, semWaitWord, Prog.lift, Prog.bind_op, Prog.bind_ret, Prog.pure_eq_ret]
  refine st_sent (a := 31) rfl rfl (by decide) (by decide) rfl ?_
  refine st_sent (a := 40) rfl rfl (by decide) (by decide) rfl ?_
  refine st_sent (a := 36) rfl rfl (by decide) (by decide) rfl ?_
  refine out hQ ?_; clear hQ
  refine into fun _ hQ => ?_
  rw [k0_part88_eq_skeleton]
  unfold k0_part88_skel
  simp only [semSignalWord, semWaitWord, Prog.lift, Prog.bind_op, Prog.bind_ret, Prog.pure_eq_ret]
  refine st_sent (a := 39) rfl rfl (by decide) (by decide) rfl ?_
  refine st_sent (a := 37) rfl rfl (by decide) (by decide) rfl ?_
  refine st_sent (a := 35) rfl rfl (by decide) (by decide) rfl ?_
  refine out hQ ?_; clear hQ
  simp only [semSignalWord, semWaitWord, Prog.lift, Prog.bind_op, Prog.bind_ret, Prog.pure_eq_ret]
  refine st_sent (a := 41) rfl rfl (by decide) (by decide) rfl ?_
  refine st_sent (a := 38) rfl rfl (by decide) (by decide) rfl ?_
  exact fin h

end Cert.KernelIdealProof

end
-- ==== Proof.Split.lean ====
module

public import proofs.«01_k».proof.Proof.Steps
public import Idealize.ShloMosaic.Lib.Ring

/-! # The scratch buffers cut into slots at launch, and put together again at the end -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists bigSep_fin_eq_range)

variable {F : FTy → Type} [FloatOps F]

local notation "𝕄" => MT nD τ sig Unit (Elt F) ℕ UU ℕ

variable (m : (ℓ : Loc nD τ sig) → Buf (Elt F) ℓ) (ρ : Dev nD → PrngReg)

/-! ## Sums over layers -/

/-- The order of a double separating conjunction does not matter. -/
theorem swap {I : Type} [DecidableEq I] (s : Finset I) (t : Finset ℕ) (Φ : I → ℕ → sProp 𝕄) :
    (bigSep s fun i => bigSep t fun l => Φ i l) = bigSep t fun l => bigSep s fun i => Φ i l := by
  induction s using Finset.induction_on with
  | empty =>
    rw [bigSep_empty, bigSep_congr (fun l _ => bigSep_empty), bigSep_emp_const]
  | insert a s ha ih =>
    rw [bigSep_insert ha, ih, bigSep_congr (fun l _ => bigSep_insert (Φ := fun i => Φ i l) ha)]
    exact (bigSep_sep' t (fun l => Φ a l) fun l => bigSep s fun i => Φ i l).symm
/-- A run of `N` layers of `n`, layer by layer. -/
theorem layers (n N : ℕ) (Φ : ℕ → sProp 𝕄) :
    bigSep (Finset.Ico 0 (n * N)) Φ = bigSep (Finset.Ico 0 N) fun l => bigSep (Finset.Ico (n * l) (n * l + n)) Φ := by
  induction N with
  | zero => rw [Nat.mul_zero, ico_nil le_rfl, ico_nil le_rfl]
  | succ N ih =>
    rw [join_eq (Nat.zero_le (n * N)) (Nat.mul_le_mul_left n (Nat.le_succ N)), ih, ← push_eq (Nat.zero_le N), Nat.mul_succ]
    exact BI.Entails.antisymm BI.sep_comm BI.sep_comm

/-! ## A buffer cut by a key -/

section Keyed
variable {ℓ : Loc nD τ sig} (κ : Idx ℓ → ℕ) {N : ℕ} (hN : ∀ i, κ i < N)
include hN

/-- A buffer is its slots, the slot `n` holding the indices of key `n`. -/
theorem cut_eq (f : Buf (Elt F) ℓ) :
    (ℓ ↦{fullShare} f : sProp 𝕄) = bigSep (Finset.Ico 0 N) fun n => ℓ ↦[Finset.univ.filter fun i => κ i = n]{fullShare} f := by
  rw [pointsTo_blocks (B := Fin N) (fun b => Finset.univ.filter fun i => κ i = b.val)
      (fun b b' h => Finset.disjoint_left.mpr fun i hi hi' =>
        h (Fin.ext ((Finset.mem_filter.mp hi).2.symm.trans (Finset.mem_filter.mp hi').2)))
      (by ext i; simpa using ⟨⟨κ i, hN i⟩, rfl⟩),
    bigSep_fin_eq_range N _ (fun n => ℓ ↦[Finset.univ.filter fun i => κ i = n]{fullShare} f) (fun _ _ => rfl), Finset.range_eq_Ico]
/-- At some contents, it is its slots at some contents. -/
theorem cut : iprop(∃ f, ℓ ↦{fullShare} f)
    ⊢ (bigSep (Finset.Ico 0 N) fun n => iprop(∃ f, ℓ ↦[Finset.univ.filter fun i => κ i = n]{fullShare} f) : sProp 𝕄) := by
  iintro ⟨%f, H⟩
  ihave H := (Entails.of_eq (cut_eq κ hN f)) $$ H
  have h : (bigSep (Finset.Ico 0 N) fun n => (ℓ ↦[Finset.univ.filter fun i => κ i = n]{fullShare} f : sProp 𝕄))
      ⊢ bigSep (Finset.Ico 0 N) fun n => iprop(∃ f, ℓ ↦[Finset.univ.filter fun i => κ i = n]{fullShare} f) :=
    bigSep_mono fun n _ => by
      have h : (ℓ ↦[Finset.univ.filter fun i => κ i = n]{fullShare} f : sProp 𝕄) ⊢ iprop(∃ f, ℓ ↦[Finset.univ.filter fun i => κ i = n]{fullShare} f) := by
        iintro H; iexists f; iexact H
      exact h
  iapply h; iexact H
/-- Its slots at some contents make the buffer at some contents. -/
theorem glue (f₀ : Buf (Elt F) ℓ) : (bigSep (Finset.Ico 0 N) fun n => iprop(∃ f, ℓ ↦[Finset.univ.filter fun i => κ i = n]{fullShare} f) : sProp 𝕄)
    ⊢ iprop(∃ f, ℓ ↦{fullShare} f) := by
  rw [← Finset.range_eq_Ico, ← bigSep_fin_eq_range N
    (fun b => iprop(∃ f, ℓ ↦[Finset.univ.filter fun i => κ i = b.val]{fullShare} f)) (fun n => iprop(∃ f, ℓ ↦[Finset.univ.filter fun i => κ i = n]{fullShare} f)) (fun _ _ => rfl)]
  exact pointsTo_blocks_join_exists (B := Fin N) (fun b => Finset.univ.filter fun i => κ i = b.val)
      (fun b b' h => Finset.disjoint_left.mpr fun i hi hi' =>
        h (Fin.ext ((Finset.mem_filter.mp hi).2.symm.trans (Finset.mem_filter.mp hi').2)))
      (by ext i; simpa using ⟨⟨κ i, hN i⟩, rfl⟩) f₀
end Keyed

/-- The keys of the scratch buffers' indices. -/
theorem key8 (i : S3x8x64x128.Idx) : 8 * (i 0).val + (i 1).val < 24 := by
  have h0 : (i 0).val < 3 := (i 0).isLt
  have h1 : (i 1).val < 8 := (i 1).isLt
  omega
/-- A slot's number in a buffer of seven blocks to a layer is below 21. -/
theorem key7 (i : S3x7x64x128.Idx) : 7 * (i 0).val + (i 1).val < 21 := by
  have h0 : (i 0).val < 3 := (i 0).isLt
  have h1 : (i 1).val < 7 := (i 1).isLt
  omega

/-! ## At launch -/

/-- The partial products' buffer as the blocks to be stored. -/
theorem split_part (c : Dev nD) : iprop(∃ f, ((c : Thread nD τ).loc cc0_scratch0) ↦{fullShare} f) ⊢ partC m ρ c 0 0 := by
  unfold partC pPart
  rw [ico_nil (show 0 ≤ 8 * 0 by decide), ico_nil (show 0 ≤ 0 by decide)]
  iintro H
  ihave H := (cut (F := F) (ℓ := (c : Thread nD τ).loc cc0_scratch0) (fun i : S3x8x64x128.Idx => 8 * (i 0).val + (i 1).val) key8) $$ H
  isplitl
  · iexact H
  isplitl <;> iempintro

/-- What the signal `i` of device `c` hands over, layer by layer. -/
theorem barPay_layers (c : Dev nD) {i : ℕ} (hi : i < 7) :
    barPay (F := F) (nx c i) i = bigSep (Finset.Ico 0 3) fun l => iprop(rawRs (F := F) c (7 * l + (6 - i)) ∗ rawAg (F := F) c (8 * l + (nx c i).val)) := by
  rw [peel_eq (show 0 < 3 by decide), peel_eq (show 0 + 1 < 3 by decide), peel_eq (show 0 + 1 + 1 < 3 by decide), ico_nil (show 3 ≤ 0 + 1 + 1 + 1 by decide)]
  unfold barPay slots
  rw [nx_nx c i hi]
  have e : ∀ A : sProp 𝕄, iprop(A ∗ emp) = A := fun A => by
    have h1 : iprop(A ∗ emp) ⊢ A := by iintro ⟨H, -⟩; iexact H
    have h2 : A ⊢ iprop(A ∗ emp) := by iintro H; iframe H
    exact equiv_iff.mp ⟨h1, h2⟩
  rw [e]

/-- The mirrored order of the sends runs through all seven places. -/
theorem range_refl : Finset.range 7 = (Finset.range 7).image fun i => 6 - sord i := by decide
/-- The mirrored order takes no place twice. -/
theorem refl_inj : Set.InjOn (fun i => 6 - sord i) (Finset.range 7 : Finset ℕ) :=
  fun x hx y hy => (show ∀ x ∈ Finset.range 7, ∀ y ∈ Finset.range 7, 6 - sord x = 6 - sord y → x = y by decide) x hx y hy
/-- A place in the order of the sends is one of seven. -/
theorem sord7 (i : ℕ) : sord i < 7 := by unfold sord; split <;> decide

/-- The two receiving buffers as what the signals hand over and the device's own blocks. -/
theorem split_recv (c : Dev nD) : iprop((∃ f, ((c : Thread nD τ).loc cc0_scratch1) ↦{fullShare} f) ∗ ∃ f, ((c : Thread nD τ).loc cc0_scratch2) ↦{fullShare} f)
    ⊢ iprop((bigSep (Finset.Ico 0 7) fun i => barPay (F := F) (nx c i) i) ∗ agC m ρ c 0) := by
  have h1 : iprop(∃ f, ((c : Thread nD τ).loc cc0_scratch1) ↦{fullShare} f)
      ⊢ (bigSep (Finset.Ico 0 3) fun l => bigSep (Finset.range 7) fun i => rawRs (F := F) c (7 * l + (6 - sord i)) : sProp 𝕄) := by
    refine (cut (F := F) (ℓ := (c : Thread nD τ).loc cc0_scratch1) (fun i : S3x7x64x128.Idx => 7 * (i 0).val + (i 1).val) key7).trans ?_
    show bigSep (Finset.Ico 0 (7 * 3)) (rawRs (F := F) c) ⊢ _
    rw [layers]
    refine Entails.of_eq (bigSep_congr fun l _ => ?_)
    rw [shift, re (fun i => 6 - sord i) _ range_refl refl_inj]
  have h2 : iprop(∃ f, ((c : Thread nD τ).loc cc0_scratch2) ↦{fullShare} f)
      ⊢ (bigSep (Finset.Ico 0 3) fun l => iprop(rawAg (F := F) c (8 * l + c.val) ∗ bigSep (Finset.range 7) fun i => rawAg (F := F) c (8 * l + (nx c (sord i)).val)) : sProp 𝕄) := by
    refine (cut (F := F) (ℓ := (c : Thread nD τ).loc cc0_scratch2) (fun i : S3x8x64x128.Idx => 8 * (i 0).val + (i 1).val) key8).trans ?_
    show bigSep (Finset.Ico 0 (8 * 3)) (rawAg (F := F) c) ⊢ _
    rw [layers]
    exact Entails.of_eq (bigSep_congr fun l _ => eight c _ _)
  have h3 : (bigSep (Finset.Ico 0 7) fun i => barPay (F := F) (nx c i) i)
      = iprop((bigSep (Finset.Ico 0 3) fun l => bigSep (Finset.range 7) fun i => rawRs (F := F) c (7 * l + (6 - sord i)))
        ∗ bigSep (Finset.Ico 0 3) fun l => bigSep (Finset.range 7) fun i => rawAg (F := F) c (8 * l + (nx c (sord i)).val)) := by
    rw [← Finset.range_eq_Ico, re sord _ range_sord sord_inj, bigSep_congr (fun i _ => barPay_layers c (sord7 i)), swap,
      bigSep_congr (fun l _ => bigSep_sep' (Finset.range 7) (fun i => rawRs (F := F) c (7 * l + (6 - sord i))) fun i => rawAg (F := F) c (8 * l + (nx c (sord i)).val)),
      bigSep_sep']
  rw [h3]
  unfold agC
  rw [ico_nil (show 0 ≤ 0 by decide)]
  iintro ⟨H1, H2⟩
  ihave H1 := h1 $$ H1
  ihave H2 := h2 $$ H2
  ihave H2 := (Entails.of_eq (bigSep_sep' _ _ _)) $$ H2
  icases H2 with ⟨H2, H3⟩
  isplitl [H1 H3]
  · isplitl [H1]; · iexact H1
    iexact H3
  isplitl [H2]; · iexact H2
  iempintro

/-! ## At the end -/

/-- The blocks stored, sent and returned, and the blocks received make the three buffers. -/
theorem join_blocks (c : Dev nD) :
    iprop(partC m ρ c 24 3 ∗ agC m ρ c 3 ∗ retC m ρ c 42 ∗ bigSep (Finset.Ico 0 42) fun n => recvPay m ρ c (rk n))
      ⊢ iprop((∃ f, ((c : Thread nD τ).loc cc0_scratch0) ↦{fullShare} f) ∗ (∃ f, ((c : Thread nD τ).loc cc0_scratch1) ↦{fullShare} f)
          ∗ ∃ f, ((c : Thread nD τ).loc cc0_scratch2) ↦{fullShare} f) := by
  have h1 : retC m ρ c 42 = iprop((bigSep (Finset.Ico 0 3) fun l => bigSep (Finset.Ico (14 * l) (14 * l + 7)) fun n => sendPay m ρ c (sk n))
      ∗ bigSep (Finset.Ico 0 3) fun l => bigSep (Finset.Ico (14 * l + 7) (14 * l + 7 + 7)) fun n => sendPay m ρ c (sk n)) := by
    unfold retC
    rw [show 42 = 14 * 3 from rfl, layers, ← bigSep_sep']
    exact bigSep_congr fun l _ => join_eq (by omega) (by omega) _
  have h2 : (bigSep (Finset.Ico 0 42) fun n => recvPay m ρ c (rk n)) = iprop((bigSep (Finset.Ico 0 3) fun l => bigSep (Finset.Ico (7 * l) (7 * l + 7)) fun n => pRs c n (cRs m ρ c))
      ∗ bigSep (Finset.Ico 0 3) fun l => bigSep (Finset.range 7) fun i => pAg c (8 * l + (nx c (sord i)).val) fullShare (cAg m ρ)) := by
    rw [← by_rk, Finset.range_eq_Ico, show 42 = 14 * 3 from rfl, layers, ← bigSep_sep']
    refine bigSep_congr fun l _ => ?_
    rw [join_eq (b := 14 * l + 7) (by omega) (by omega), shift (14 * l) 7, show 14 * l + 14 = 14 * l + 7 + 7 from rfl, shift (14 * l + 7) 7, shift (7 * l) 7,
      re (fun i => 6 - sord i) (fun i => recvPay m ρ c (14 * l + 7 + i)) range_refl refl_inj]
    congr 1
    · refine bigSep_congr fun i hi => ?_
      have hi := Finset.mem_range.mp hi
      unfold recvPay
      rw [if_pos (by omega), show (14 * l + i) / 14 = l by omega, show (14 * l + i) % 7 = i by omega]
    · refine bigSep_congr fun i hi => ?_
      have hi := sord7 i
      unfold recvPay
      rw [if_neg (by omega), show (14 * l + 7 + (6 - sord i)) / 14 = l by omega, show 6 - (14 * l + 7 + (6 - sord i)) % 7 = sord i by omega]
  have h3 : iprop((bigSep (Finset.Ico 0 3) fun l => pPart c (8 * l + c.val) (cPart m ρ c)) ∗ bigSep (Finset.Ico 0 3) fun l => bigSep (Finset.Ico (14 * l) (14 * l + 7)) fun n => sendPay m ρ c (sk n))
      = bigSep (Finset.Ico 0 24) fun n => pPart c n (cPart m ρ c) := by
    rw [show 24 = 8 * 3 from rfl, layers, ← bigSep_sep']
    exact bigSep_congr fun l _ => (part_eq m ρ c l).symm
  have h4 : iprop((bigSep (Finset.Ico 0 3) fun l => pAg c (8 * l + c.val) (Transfers.shareDrop fullShare 7) (cAg m ρ))
        ∗ bigSep (Finset.Ico 0 3) fun l => bigSep (Finset.Ico (14 * l + 7) (14 * l + 7 + 7)) fun n => sendPay m ρ c (sk n))
      = bigSep (Finset.Ico 0 3) fun l => pAg c (8 * l + c.val) fullShare (cAg m ρ) := by
    rw [← bigSep_sep']
    exact bigSep_congr fun l _ => (ag_eq m ρ c l).symm
  have h5 : iprop((bigSep (Finset.Ico 0 3) fun l => pAg c (8 * l + c.val) fullShare (cAg m ρ))
        ∗ bigSep (Finset.Ico 0 3) fun l => bigSep (Finset.range 7) fun i => pAg c (8 * l + (nx c (sord i)).val) fullShare (cAg m ρ))
      = bigSep (Finset.Ico 0 24) fun n => pAg c n fullShare (cAg m ρ) := by
    rw [show 24 = 8 * 3 from rfl, layers, ← bigSep_sep']
    exact bigSep_congr fun l _ => (eight c (8 * l) fun n => pAg c n fullShare (cAg m ρ)).symm
  have h6 : (bigSep (Finset.Ico 0 3) fun l => bigSep (Finset.Ico (7 * l) (7 * l + 7)) fun n => pRs c n (cRs m ρ c)) = bigSep (Finset.Ico 0 21) fun n => pRs c n (cRs m ρ c) :=
    (layers 7 3 _).symm
  have w0 := cut_eq (F := F) (ℓ := (c : Thread nD τ).loc cc0_scratch0) (fun i : S3x8x64x128.Idx => 8 * (i 0).val + (i 1).val) key8 (cPart m ρ c)
  have w1 := cut_eq (F := F) (ℓ := (c : Thread nD τ).loc cc0_scratch1) (fun i : S3x7x64x128.Idx => 7 * (i 0).val + (i 1).val) key7 (cRs m ρ c)
  have w2 := cut_eq (F := F) (ℓ := (c : Thread nD τ).loc cc0_scratch2) (fun i : S3x8x64x128.Idx => 8 * (i 0).val + (i 1).val) key8 (cAg m ρ)
  rw [h1, h2, h6]
  unfold partC agC
  iintro ⟨⟨-, -, HP⟩, ⟨-, HA⟩, ⟨HS, HT⟩, HR, HG⟩
  ihave HP := (Entails.of_eq h3) $$ [HP HS]
  · isplitl [HP] <;> iassumption
  ihave HA := (Entails.of_eq h4) $$ [HA HT]
  · isplitl [HA] <;> iassumption
  ihave HA := (Entails.of_eq h5) $$ [HA HG]
  · isplitl [HA] <;> iassumption
  isplitl [HP]
  · iexists (cPart m ρ c); rw [w0]; iexact HP
  isplitl [HR]
  · iexists (cRs m ρ c); rw [w1]; iexact HR
  · iexists (cAg m ρ); rw [w2]; iexact HA

/-! ## The weights -/

/-- A layer of the input weights is one of three. -/
theorem keyI (i : S3x512x1024.Idx) : (i 0).val < 3 := (i 0).isLt
/-- A layer of the output weights is one of three. -/
theorem keyO (i : S3x1024x512.Idx) : (i 0).val < 3 := (i 0).isLt

/-- The input weights before any copy. -/
theorem split_wi (c : Dev nD) :
    iprop((∃ f, ((c : Thread nD τ).loc cc0_scratch3) ↦{fullShare} f) ∗ (∃ f, ((c : Thread nD τ).loc cc0_scratch5) ↦{fullShare} f)
        ∗ (bigSep (Finset.Ico 0 3) fun l => dutyTok ER (dCell c (2 + l)) 0 0) ∗ (bigSep (Finset.Ico 0 3) fun l => srcI m c l)
        ∗ bigSep (Finset.Ico 0 3) fun l => atPos ER (dCell c (2 + l)) 0 ∅ 0)
      ⊢ wiC m c 0 0 0 := by
  unfold wiC
  rw [ico_nil (show 0 ≤ 0 by decide), ico_nil (show 0 ≤ 0 by decide), ico_nil (show 0 ≤ 0 by decide), bigSep_sep', bigSep_sep']
  iintro ⟨H1, H2, H3, H4, H5⟩
  ihave H1 := (cut (F := F) (ℓ := (c : Thread nD τ).loc cc0_scratch3) (fun i : S3x512x1024.Idx => (i 0).val) keyI) $$ H1
  ihave H2 := (cut (F := F) (ℓ := (c : Thread nD τ).loc cc0_scratch5) (fun i : S3x512x1024.Idx => (i 0).val) keyI) $$ H2
  isplitl [H1 H3 H4]
  · isplitl [H1]; · iexact H1
    isplitl [H3] <;> iassumption
  isplitr [H2 H5]; · iempintro
  isplitl [H5]; · iexact H5
  isplitr [H2]; · iempintro
  isplitl [H2]; · iexact H2
  iempintro
/-- The output weights before any copy. -/
theorem split_wo (c : Dev nD) :
    iprop((∃ f, ((c : Thread nD τ).loc cc0_scratch4) ↦{fullShare} f) ∗ (∃ f, ((c : Thread nD τ).loc cc0_scratch6) ↦{fullShare} f)
        ∗ (bigSep (Finset.Ico 0 3) fun l => dutyTok ER (dCell c (5 + l)) 0 0) ∗ (bigSep (Finset.Ico 0 3) fun l => srcO m c l)
        ∗ bigSep (Finset.Ico 0 3) fun l => atPos ER (dCell c (5 + l)) 0 ∅ 0)
      ⊢ woC m c 0 0 0 := by
  unfold woC
  rw [ico_nil (show 0 ≤ 0 by decide), ico_nil (show 0 ≤ 0 by decide), ico_nil (show 0 ≤ 0 by decide), bigSep_sep', bigSep_sep']
  iintro ⟨H1, H2, H3, H4, H5⟩
  ihave H1 := (cut (F := F) (ℓ := (c : Thread nD τ).loc cc0_scratch4) (fun i : S3x1024x512.Idx => (i 0).val) keyO) $$ H1
  ihave H2 := (cut (F := F) (ℓ := (c : Thread nD τ).loc cc0_scratch6) (fun i : S3x1024x512.Idx => (i 0).val) keyO) $$ H2
  isplitl [H1 H3 H4]
  · isplitl [H1]; · iexact H1
    isplitl [H3] <;> iassumption
  isplitr [H2 H5]; · iempintro
  isplitl [H5]; · iexact H5
  isplitr [H2]; · iempintro
  isplitl [H2]; · iexact H2
  iempintro
/-- The input weights after all copies and casts: their buffers whole, the copies' cells passed, the arrays as they were. -/
theorem join_wi (c : Dev nD) :
    wiC m c 3 3 3 ⊢ iprop((∃ f, ((c : Thread nD τ).loc cc0_scratch3) ↦{fullShare} f) ∗ (∃ f, ((c : Thread nD τ).loc cc0_scratch5) ↦{fullShare} f)
        ∗ (bigSep (Finset.Ico 0 3) fun l => srcI m c l) ∗ bigSep (Finset.Ico 0 3) fun l => atPos ER (dCell c (2 + l)) (0 + 1) ∅ 0) := by
  have w1 := cut_eq (F := F) (ℓ := (c : Thread nD τ).loc cc0_scratch3) (fun i : S3x512x1024.Idx => (i 0).val) keyI (cWfi m c)
  have w2 := cut_eq (F := F) (ℓ := (c : Thread nD τ).loc cc0_scratch5) (fun i : S3x512x1024.Idx => (i 0).val) keyI (cWbi m c)
  unfold wiC wiPay
  rw [bigSep_sep' (Finset.Ico 0 3), bigSep_sep' (Finset.Ico 0 3)]
  iintro ⟨-, -, -, ⟨H1, H2, H3⟩, -, H4⟩
  isplitl [H2]
  · iexists (cWfi m c); rw [w1]; iexact H2
  isplitl [H4]
  · iexists (cWbi m c); rw [w2]; iexact H4
  isplitl [H3] <;> iassumption
/-- The output weights likewise. -/
theorem join_wo (c : Dev nD) :
    woC m c 3 3 3 ⊢ iprop((∃ f, ((c : Thread nD τ).loc cc0_scratch4) ↦{fullShare} f) ∗ (∃ f, ((c : Thread nD τ).loc cc0_scratch6) ↦{fullShare} f)
        ∗ (bigSep (Finset.Ico 0 3) fun l => srcO m c l) ∗ bigSep (Finset.Ico 0 3) fun l => atPos ER (dCell c (5 + l)) (0 + 1) ∅ 0) := by
  have w1 := cut_eq (F := F) (ℓ := (c : Thread nD τ).loc cc0_scratch4) (fun i : S3x1024x512.Idx => (i 0).val) keyO (cWfo m c)
  have w2 := cut_eq (F := F) (ℓ := (c : Thread nD τ).loc cc0_scratch6) (fun i : S3x1024x512.Idx => (i 0).val) keyO (cWbo m c)
  unfold woC woPay
  rw [bigSep_sep' (Finset.Ico 0 3), bigSep_sep' (Finset.Ico 0 3)]
  iintro ⟨-, -, -, ⟨H1, H2, H3⟩, -, H4⟩
  isplitl [H2]
  · iexists (cWfo m c); rw [w1]; iexact H2
  isplitl [H4]
  · iexists (cWbo m c); rw [w2]; iexact H4
  isplitl [H3] <;> iassumption

end Cert.KernelIdealProof

end
-- ==== Proof.Ghost.lean ====
module

public import proofs.«01_k».proof.Proof.Split
public import Idealize.ShloMosaic.Lib.Pipeline.Launch

/-! # The ghost state at launch

The cells of all devices, their invariants, the positions and tokens dealt to the devices that use them,
and the credit each device starts with. -/

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin_eq_range)

variable {F : FTy → Type} [FloatOps F]

local notation "𝕄" => MT nD τ sig Unit (Elt F) ℕ UU ℕ

variable (m : (ℓ : Loc nD τ sig) → Buf (Elt F) ℓ) (ρ : Dev nD → PrngReg)

/-! ## One device's cells -/

/-- The kernel's own semaphores: DMA semaphores 2 to 91. -/
abbrev osem (k : Fin 90) : SemLoc sig := .dma (dq (2 + k.val))

/-- DMA semaphores of different numbers differ. -/
theorem dq_inj {a b : ℕ} (ha : a < 92) (hb : b < 92) (h : dq a = dq b) : a = b := by
  have := congrArg Fin.val h
  rwa [dq_val ha, dq_val hb] at this

/-- The body's own DMA semaphores are scoped, are none of the staging ones, and differ from one another. -/
theorem ownSemFacts : Pipeline.OwnSemFacts cfg0.spec osem where
  isScoped := by decide +kernel
  inj k k' h := by
    have h := dq_inj (by omega) (by omega) (SemLoc.dma.inj h)
    exact Fin.ext (by omega)
  disj := by decide +kernel

/-- Something of every DMA cell of a device, by their use: the weights' copies, the sends, the receives. -/
theorem dmas_eq (Φ : ℕ → sProp 𝕄) : bigSep (Finset.Ico 2 92) Φ
    = iprop((bigSep (Finset.Ico 0 3) fun l => Φ (2 + l)) ∗ (bigSep (Finset.Ico 0 3) fun l => Φ (5 + l))
        ∗ (bigSep (Finset.range 42) fun n => Φ (8 + n)) ∗ bigSep (Finset.range 42) fun n => Φ (50 + n)) := by
  rw [join_eq (show 2 ≤ 5 by decide) (show 5 ≤ 92 by decide), join_eq (show 5 ≤ 8 by decide) (show 8 ≤ 92 by decide),
    join_eq (show 8 ≤ 50 by decide) (show 50 ≤ 92 by decide), show Finset.Ico 2 5 = Finset.Ico 2 (2 + 3) from rfl, shift 2 3,
    show Finset.Ico 5 8 = Finset.Ico 5 (5 + 3) from rfl, shift 5 3, show Finset.Ico 8 50 = Finset.Ico 8 (8 + 42) from rfl, shift 8 42,
    show Finset.Ico 50 92 = Finset.Ico 50 (50 + 42) from rfl, shift 50 42, Finset.range_eq_Ico]
/-- Resources of the body's own semaphores, by their numbers. -/
theorem own_eq (c : Dev nD) (Φ : GSem nD τ sig → sProp 𝕄) :
    (bigSep Finset.univ fun k : Fin 90 => Φ ((c : Thread nD τ), osem k)) = bigSep (Finset.Ico 2 92) fun n => Φ (dCell c n) := by
  rw [bigSep_fin_eq_range 90 _ (fun n => Φ (dCell c (2 + n))) (fun _ _ => rfl), show Finset.Ico 2 92 = Finset.Ico 2 (2 + 90) from rfl, shift 2 90]
/-- Resources of a device's cells are the barrier's and the DMA cells'. -/
theorem cells_eq (c : Dev nD) (Φ : GSem nD τ sig → sProp 𝕄) :
    (bigSep Finset.univ fun k : Fin 91 => Φ (kcell (c, k))) = iprop(Φ (barCell c) ∗ bigSep (Finset.Ico 2 92) fun n => Φ (dCell c n)) := by
  rw [bigSep_fin_eq_range 91 _ (fun n => Φ ((c : Thread nD τ), if n = 0 then .reg barS else .dma (dq (1 + n)))) (fun _ _ => rfl), Finset.range_eq_Ico,
    peel_eq (show 0 < 91 by decide), show Finset.Ico 2 92 = Finset.Ico 2 (2 + 90) from rfl, shift 2 90,
    show Finset.Ico (0 + 1) 91 = Finset.Ico 1 (1 + 90) from rfl, shift 1 90]
  refine congrArg (fun P : sProp 𝕄 => iprop(Φ (barCell c) ∗ P)) (bigSep_congr fun n _ => ?_)
  rw [if_neg (by omega), ← Nat.add_assoc]

/-- Different devices or numbers name different cells. -/
theorem kcell_injective : Function.Injective (kcell : Dev nD × Fin 91 → GSem nD τ sig) := by
  rintro ⟨c, k⟩ ⟨c', k'⟩ h
  have h1 : c = c' := congrArg (fun g : GSem nD τ sig => g.1.1) h
  subst h1
  have h2 : csem k = csem k' := congrArg Prod.snd h
  have : k = k' := by
    unfold csem at h2
    by_cases hk : k.val = 0 <;> by_cases hk' : k'.val = 0
    · exact Fin.ext (hk.trans hk'.symm)
    · rw [if_pos hk, if_neg hk'] at h2; cases h2
    · rw [if_neg hk, if_pos hk'] at h2; cases h2
    · rw [if_neg hk, if_neg hk'] at h2
      have := dq_inj (by omega) (by omega) (SemLoc.dma.inj h2)
      exact Fin.ext (by omega)
  subst this; rfl
/-- The kernel's cells. -/
def theCells : Finset (GSem nD τ sig) := Finset.univ.map ⟨kcell, kcell_injective⟩

/-- The duty tokens of a device's own cells as minted: its barrier's seven, then one for each of its DMA cells. -/
abbrev tokOf (cj : Dev nD × Fin 97) : GSem nD τ sig × ℕ × ℕ :=
  if cj.2.val < 7 then (barCell cj.1, 0, cj.2.val) else (dCell cj.1 (2 + (cj.2.val - 7)), 0, 0)
/-- Different devices or numbers name different duties. -/
theorem tokOf_injective : Function.Injective (tokOf : Dev nD × Fin 97 → GSem nD τ sig × ℕ × ℕ) := by
  rintro ⟨c, j⟩ ⟨c', j'⟩ h
  unfold tokOf at h
  dsimp only at h
  by_cases hj : j.val < 7 <;> by_cases hj' : j'.val < 7
  · rw [if_pos hj, if_pos hj'] at h
    have h1 : c = c' := congrArg (fun x : GSem nD τ sig × ℕ × ℕ => x.1.1.1) h
    have h2 : j.val = j'.val := congrArg (fun x : GSem nD τ sig × ℕ × ℕ => x.2.2) h
    rw [h1, Fin.ext h2]
  · rw [if_pos hj, if_neg hj'] at h
    have h2 : SemLoc.reg barS = .dma (dq (2 + (j'.val - 7))) := congrArg (fun x : GSem nD τ sig × ℕ × ℕ => x.1.2) h
    cases h2
  · rw [if_neg hj, if_pos hj'] at h
    have h2 : SemLoc.dma (dq (2 + (j.val - 7))) = .reg barS := congrArg (fun x : GSem nD τ sig × ℕ × ℕ => x.1.2) h
    cases h2
  · rw [if_neg hj, if_neg hj'] at h
    have h1 : c = c' := congrArg (fun x : GSem nD τ sig × ℕ × ℕ => x.1.1.1) h
    have h2 : SemLoc.dma (dq (2 + (j.val - 7))) = .dma (dq (2 + (j'.val - 7))) := congrArg (fun x : GSem nD τ sig × ℕ × ℕ => x.1.2) h
    have := dq_inj (by omega) (by omega) (SemLoc.dma.inj h2)
    rw [h1, Fin.ext (by omega : j.val = j'.val)]
/-- All duties. -/
def theToks : Finset (GSem nD τ sig × ℕ × ℕ) := Finset.univ.map ⟨tokOf, tokOf_injective⟩

/-- The launch element: the pipeline's copy, and the kernel's. -/
def u₀ : UU := (initOf (Pipeline.cells cfgs cellOf_inj) (Pipeline.launchToks cfgs cellOf_inj), initOf theCells theToks)

/-- The tokens of device `c`'s own cells. -/
def toks (c : Dev nD) : sProp 𝕄 :=
  iprop((bigSep (Finset.range 7) fun i => dutyTok ER (barCell c) 0 i) ∗ bigSep (Finset.Ico 2 92) fun n => dutyTok ER (dCell c n) 0 0)
/-- A device's duties, sorted by what discharges them. -/
theorem toks_eq (c : Dev nD) :
    (bigSep Finset.univ fun j : Fin 97 => (dutyTok ER (tokOf (c, j)).1 (tokOf (c, j)).2.1 (tokOf (c, j)).2.2 : sProp 𝕄)) = toks c := by
  unfold toks
  rw [bigSep_fin_eq_range 97 _ (fun n => if n < 7 then (dutyTok ER (barCell c) 0 n : sProp 𝕄) else dutyTok ER (dCell c (2 + (n - 7))) 0 0)
      (fun n h => by
        unfold tokOf
        dsimp only
        by_cases hn : n < 7
        · rw [if_pos hn, if_pos hn]
        · rw [if_neg hn, if_neg hn]),
    Finset.range_eq_Ico, join_eq (show 0 ≤ 7 by decide) (show 7 ≤ 97 by decide), show Finset.Ico 7 97 = Finset.Ico 7 (7 + 90) from rfl, shift 7 90,
    show Finset.Ico 2 92 = Finset.Ico 2 (2 + 90) from rfl, shift 2 90, Finset.range_eq_Ico]
  rw [bigSep_congr (s := Finset.Ico 0 7) fun n hn => if_pos (Finset.mem_Ico.mp hn).2]
  exact congrArg (fun P : sProp 𝕄 => iprop((bigSep (Finset.Ico 0 7) fun i => dutyTok ER (barCell c) 0 i) ∗ P))
    (bigSep_congr fun n _ => by rw [if_neg (by omega), Nat.add_sub_cancel_left])

/-- What the launch element deals device `c`. -/
def G (c : Dev nD) : sProp 𝕄 :=
  iprop((bigSep Finset.univ fun k : Fin 91 => roundState ER (Rd m ρ) (kcell (c, k)) 0)
    ∗ (bigSep Finset.univ fun k : Fin 91 => atPos ER (kcell (c, k)) 0 ∅ 0) ∗ (bigSep Finset.univ fun k : Fin 91 => reached ER (kcell (c, k)) 0) ∗ toks c)

/-- The cells' resource at launch is every device's part of it. -/
theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 91 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => toks_eq c
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The one semaphore that is not scoped is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
/-- The body's own semaphores at zero, by their numbers. -/
theorem ownSems0_eq (c : Dev nD) : (Pipeline.ownSems0 (Ix := Unit) (Name := ℕ) (U := UU) (Lvl := ℕ) (Val := Elt F) (τ := τ) osem c : sProp 𝕄)
    = bigSep (Finset.Ico 2 92) fun n => semVal (dCell c n) 0 := own_eq c fun g => semVal g 0

/-- The invariants allocated on one device. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 91 => IC m ρ (kcell (c, k)))
          ∗ (bigSep Finset.univ fun k : Fin 91 => atPos ER (kcell (c, k)) 0 ∅ 0) ∗ toks c) := by
  have hs : iprop(Pipeline.ownSems0 (Ix := Unit) (Name := ℕ) (U := UU) (Lvl := ℕ) (Val := Elt F) (τ := τ) osem c ∗ unscopedSems0 c)
      ⊢ (bigSep Finset.univ fun k : Fin 91 => semVal (kcell (c, k)) 0 : sProp 𝕄) := by
    rw [ownSems0_eq, unscopedSems0_eq, cells_eq c fun g => semVal g 0]
    iintro ⟨H1, H2⟩
    isplitl [H2] <;> iassumption
  unfold G
  iintro ⟨Hos, Hus, Hst, Hat, Hr, Htok⟩
  ihave Hv := hs $$ [Hos Hus]
  · isplitl [Hos] <;> iassumption
  imod (show iprop((bigSep Finset.univ fun k : Fin 91 => semVal (kcell (c, k)) 0) ∗ bigSep Finset.univ fun k : Fin 91 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv Hr]
  · have h : iprop((bigSep Finset.univ fun k : Fin 91 => iprop(∃ κ : ℕ, cellInv ER (Rd m ρ) κ (kcell (c, k)))) ∗ bigSep Finset.univ fun k : Fin 91 => reached ER (kcell (c, k)) 0)
        ⊢ (bigSep Finset.univ fun k : Fin 91 => IC m ρ (kcell (c, k)) : sProp 𝕄) := by
      rw [← bigSep_sep']
      refine bigSep_mono fun k _ => ?_
      have h : iprop((∃ κ : ℕ, cellInv ER (Rd m ρ) κ (kcell (c, k))) ∗ reached ER (kcell (c, k)) 0) ⊢ (IC m ρ (kcell (c, k)) : sProp 𝕄) := by
        unfold IC
        iintro ⟨⟨%κ, H1⟩, H2⟩
        iexists κ
        isplitl [H1] <;> iassumption
      exact h
    iapply h
    isplitl [Hinv] <;> iassumption
  isplitl [Hat] <;> iassumption

/-- A device's positions, at round `r`. -/
def posP (c : Dev nD) (r : ℕ) : sProp 𝕄 :=
  iprop(atPos ER (barCell c) r ∅ 0 ∗ (bigSep (Finset.Ico 0 3) fun l => atPos ER (dCell c (2 + l)) r ∅ 0) ∗ (bigSep (Finset.Ico 0 3) fun l => atPos ER (dCell c (5 + l)) r ∅ 0)
    ∗ (bigSep (Finset.Ico 0 42) fun n => atPos ER (dCell c (8 + sk n)) r ∅ 0) ∗ bigSep (Finset.Ico 0 42) fun n => atPos ER (dCell c (50 + rk n)) r ∅ 0)
/-- The tokens of the duties device `c` pays. -/
def payToks (c : Dev nD) : sProp 𝕄 :=
  iprop((bigSep (Finset.Ico 0 7) fun i => dutyTok ER (barCell (nx c i)) 0 i) ∗ (bigSep (Finset.Ico 0 3) fun l => dutyTok ER (dCell c (2 + l)) 0 0)
    ∗ (bigSep (Finset.Ico 0 3) fun l => dutyTok ER (dCell c (5 + l)) 0 0) ∗ tokC (F := F) c 0)
/-- What a device starts from of the kernel's ghost state. -/
def G' (c : Dev nD) : sProp 𝕄 := iprop(recs m ρ ∗ posP c 0 ∗ payToks c)

/-- A device `i + 1` places on, as a permutation. -/
def rot (i : ℕ) : Dev nD ≃ Dev nD := Equiv.ofBijective (fun c => nx c i) (Finite.injective_iff_bijective.mp fun a b h => by
  have h := congrArg Fin.val h
  have ha : a.val < 8 := a.isLt
  have hb : b.val < 8 := b.isLt
  simp only [nx] at h
  exact Fin.ext (by omega))

/-- Tokens of the devices' own cells, dealt to the devices that pay them. -/
theorem toks_around : (bigSep Finset.univ fun c : Dev nD => (toks c : sProp 𝕄)) ⊢ bigSep Finset.univ fun c : Dev nD => payToks c := by
  have h1 : (bigSep Finset.univ fun c : Dev nD => bigSep (Finset.range 7) fun i => (dutyTok ER (barCell c) 0 i : sProp 𝕄))
      = bigSep Finset.univ fun c : Dev nD => bigSep (Finset.Ico 0 7) fun i => dutyTok ER (barCell (nx c i)) 0 i := by
    rw [swap, swap, Finset.range_eq_Ico]
    exact bigSep_congr fun i _ => bigSep_univ_equiv (rot i) fun c : Dev nD => (dutyTok ER (barCell c) 0 i : sProp 𝕄)
  have h2 : (bigSep Finset.univ fun c : Dev nD => bigSep (Finset.range 42) fun n => (dutyTok ER (dCell c (50 + n)) 0 0 : sProp 𝕄))
      = bigSep Finset.univ fun c : Dev nD => bigSep (Finset.Ico 0 42) fun n => dutyTok ER (dCell (nx c (sk n % 7)) (50 + sk n)) 0 0 := by
    rw [bigSep_congr (fun c _ => by_sk fun n => (dutyTok ER (dCell c (50 + n)) 0 0 : sProp 𝕄)), swap, swap]
    exact bigSep_congr fun n _ => bigSep_univ_equiv (rot (sk n % 7)) fun c : Dev nD => (dutyTok ER (dCell c (50 + sk n)) 0 0 : sProp 𝕄)
  unfold toks payToks tokC
  simp only [dmas_eq, bigSep_sep', by_sk fun n => (dutyTok ER (dCell _ (8 + n)) 0 0 : sProp 𝕄)]
  rw [h1, h2]

/-- A fact that can be copied helps every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell at the start of its first round, as the body's state has it. -/
theorem pos_eq (c : Dev nD) : (bigSep Finset.univ fun k : Fin 91 => (atPos ER (kcell (c, k)) 0 ∅ 0 : sProp 𝕄)) = posP c 0 := by
  unfold posP
  rw [cells_eq c fun g => atPos ER g 0 ∅ 0, dmas_eq, by_sk fun n => (atPos ER (dCell c (8 + n)) 0 ∅ 0 : sProp 𝕄), by_rk fun n => (atPos ER (dCell c (50 + n)) 0 ∅ 0 : sProp 𝕄)]

/-- The cells' invariants and duties, sorted by device, with every invariant known to all. -/
theorem regroup :
    (bigSep Finset.univ fun c : Dev nD => iprop((bigSep Finset.univ fun k : Fin 91 => IC m ρ (kcell (c, k)))
          ∗ (bigSep Finset.univ fun k : Fin 91 => atPos ER (kcell (c, k)) 0 ∅ 0) ∗ toks c) : sProp 𝕄)
      ⊢ bigSep Finset.univ (G' m ρ) := by
  rw [bigSep_sep', bigSep_sep', ← bigSep_univ_prod (fun ck : Dev nD × Fin 91 => IC m ρ (kcell ck)), bigSep_congr (fun c _ => pos_eq c)]
  iintro ⟨#HI, Hat, Htok⟩
  ihave Htk := (toks_around (F := F)) $$ Htok
  iapply (with_persistent (R := recs m ρ) (Φ := fun c => iprop(posP c 0 ∗ payToks c)) fun c _ => idE (G' m ρ c))
  isplitr
  · unfold recs; iexact HI
  · rw [bigSep_sep']
    isplitl [Hat] <;> iassumption

/-- The launch's global step: the invariants of all devices allocated, positions and tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes at launch. -/
abbrev O₀ (c : Dev nD) : CellTallies nD τ sig Unit := Oat c 0

/-- The semaphore of a device's `i`-th remote credit, and how far away it is. -/
def ocsem (i : ℕ) : SemLoc sig := if i < 7 then .reg barS else .dma (dq (50 + sk (i - 7)))
/-- How far on the `i`-th payment's peer is. -/
def ocdev (i : ℕ) : ℕ := if i < 7 then i else sord ((i - 7) % 7)
/-- The `i`-th payment's cell, as a device and a semaphore. -/
theorem ocell_eq (d : Dev nD) (i : ℕ) : ocell d i = ((nx d (ocdev i) : Thread nD τ), ocsem i) := by
  unfold ocell ocdev ocsem; split <;> rfl

/-- The devices together owe a cell what the credits to its semaphore add up to. -/
theorem owed_all (c : Dev nD) (sm : SemLoc sig) :
    launchCredit (Pipeline.owing O₀) 0 ((c : Thread nD τ), sm) () = ∑ i ∈ Finset.Ico 0 49, if ocsem i = sm then oamt i else 0 := by
  rw [Pipeline.launchCredit_owing]
  simp only [Oat, Finset.sum_apply, Finsupp.finset_sum_apply]
  rw [Finset.sum_comm]
  refine Finset.sum_congr rfl fun i _ => ?_
  rw [Fintype.sum_equiv (rot (ocdev i)) _ (fun e => if e = c then (if ocsem i = sm then oamt i else 0) else 0) (fun d => ?_), Finset.sum_ite_eq' Finset.univ c, if_pos (Finset.mem_univ _)]
  rw [ocell_eq, tallyAt_apply]
  show _ = if nx d (ocdev i) = c then _ else _
  by_cases h : nx d (ocdev i) = c
  · rw [h, if_pos rfl]
    by_cases h' : ocsem i = sm
    · rw [h', if_pos ⟨rfl, rfl⟩, if_pos rfl]
    · rw [if_neg h', if_neg (fun x => h' (congrArg Prod.snd x.1).symm)]
  · rw [if_neg h, if_neg (fun x => h (congrArg (fun g : GSem nD τ sig => g.1.1) x.1).symm)]

/-- At launch a barrier cell is owed seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [owed_all, Finsupp.single_eq_same, show (7 : ℕ) = ∑ i ∈ Finset.Ico 0 49, if i < 7 then 1 else 0 by decide]
  refine Finset.sum_congr rfl fun i _ => ?_
  unfold ocsem oamt
  by_cases h : i < 7
  · rw [if_pos h, if_pos rfl, if_pos h, if_pos h]
  · rw [if_neg h, if_neg (fun h => by cases h), if_neg h]

/-- At launch a receive cell is owed a block. -/
theorem launch_recv (c : Dev nD) {a : ℕ} (ha : a < 42) :
    tallyOn (dCell c (50 + a)) (launchCredit (Pipeline.owing O₀) 0 (dCell c (50 + a))) = (tallyAt (dCell c (50 + a)) () Nb : CellTallies nD τ sig Unit) := by
  unfold tallyAt; refine congrArg _ (Finsupp.ext fun u => ?_); cases u
  obtain ⟨n, hn, e⟩ : ∃ n ∈ Finset.range 42, sk n = a := by
    have := Finset.mem_range.mpr ha; rw [range_sk] at this; exact Finset.mem_image.mp this
  have hn := Finset.mem_range.mp hn
  rw [owed_all, Finsupp.single_eq_same, Finset.sum_eq_single (7 + n)]
  · have h7 : ¬ 7 + n < 7 := by omega
    simp only [ocsem, oamt, if_neg h7, Nat.add_sub_cancel_left, e, if_true]
  · intro i hi hne
    have hi := (Finset.mem_Ico.mp hi).2
    unfold ocsem
    by_cases h : i < 7
    · rw [if_pos h, if_neg (fun h => by cases h)]
    · rw [if_neg h, if_neg]
      intro h'
      have hs : sk (i - 7) < 42 := sk_lt (by omega)
      have h' := dq_inj (by omega) (by omega) (SemLoc.dma.inj h')
      exact hne (by
        have := sk_inj (Finset.mem_coe.mpr (Finset.mem_range.mpr (by omega : i - 7 < 42))) (Finset.mem_coe.mpr (Finset.mem_range.mpr hn)) (by omega : sk (i - 7) = sk n)
        omega)
  · intro h; exact absurd (Finset.mem_Ico.mpr ⟨by omega, by omega⟩) h

/-- The receives' semaphores are none of them the barrier's. -/
theorem recvs_sub : ((Finset.range 42).image fun n => (SemLoc.dma (dq (50 + n)) : SemLoc sig)) ⊆ Finset.univ.erase (SemLoc.reg barS) := by
  intro sm h
  obtain ⟨n, -, rfl⟩ := Finset.mem_image.mp h
  refine Finset.mem_erase_of_ne_of_mem (fun h => ?_) (Finset.mem_univ _)
  cases h
/-- The receives' semaphores differ. -/
theorem recvs_inj : Set.InjOn (fun n => (SemLoc.dma (dq (50 + n)) : SemLoc sig)) (Finset.range 42 : Finset ℕ) := fun x hx y hy h => by
  have hx := Finset.mem_range.mp hx
  have hy := Finset.mem_range.mp hy
  have := dq_inj (by omega) (by omega) (SemLoc.dma.inj h)
  omega
/-- Something of every semaphore but the barrier is so of every receive. -/
theorem recvs_of (Φ : SemLoc sig → sProp 𝕄) : bigSep (Finset.univ.erase (SemLoc.reg barS)) Φ ⊢ bigSep (Finset.range 42) fun n => Φ (.dma (dq (50 + n))) := by
  rw [← re (t := (Finset.range 42).image fun n => (SemLoc.dma (dq (50 + n)) : SemLoc sig)) (fun n => (SemLoc.dma (dq (50 + n)) : SemLoc sig)) Φ rfl recvs_inj]
  exact bigSep_subset recvs_sub

/-- The credits a device starts with: its barrier's seven units and each receive's. -/
theorem creds (c : Dev nD) :
    (Pipeline.launchCred O₀ c : sProp 𝕄) ⊢ iprop(cred (tallyAt (barCell c) () 7) ∗ bigSep (Finset.Ico 0 42) fun n => cred (tallyAt (dCell c (50 + rk n)) () Nb)) := by
  unfold Pipeline.launchCred
  rw [bigSep_univ_at _ (SemLoc.reg barS), launch_bar]
  refine sep_mono_right ((recvs_of _).trans ?_)
  rw [← by_rk fun n => (cred (tallyAt (dCell c (50 + n)) () Nb) : sProp 𝕄)]
  exact Entails.of_eq (bigSep_congr fun n hn => congrArg cred (launch_recv c (Finset.mem_range.mp hn)))

end Cert.KernelIdealProof

end
-- ==== Proof.Run.lean ====
module

public import proofs.«01_k».proof.Proof.Walk
public import proofs.«01_k».proof.Proof.Ghost
public import Idealize.ShloMosaic.Lib.Pipeline.CollectiveSegs

/-! # The run

The body's obligation to the pipeline, and the launch: every fair execution of @main ends, with each
device's result at `outAt`, its arguments unchanged and every semaphore at zero. -/

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells closed -/

/-- A cell past its one round is closed: its counter is at zero. -/
theorem close_one (g : GSem nD τ sig) : iprop(IC m ρ g ∗ atPos ER g (0 + 1) ∅ 0) ⊢ |={Set.univ}=> semVal g 0 := by
  unfold IC
  iintro ⟨⟨%κ, HI, HR⟩, Hat⟩
  imod (Rounds.cell_close ER (Rd m ρ) (Set.mem_univ κ) (fun h => h) (R := 0 + 1) (duties_later m ρ g)) $$ [HI Hat] with Hz
  · isplitl [HI] <;> iassumption
  imodintro; iexact Hz
/-- So are a run of DMA cells. -/
theorem close_run (c : Dev nD) (s : Finset ℕ) (f : ℕ → ℕ) (h : ∀ n ∈ s, 2 ≤ f n ∧ f n < 92) :
    iprop(recs m ρ ∗ bigSep s fun n => atPos ER (dCell c (f n)) (0 + 1) ∅ 0) ⊢ |={Set.univ}=> bigSep s fun n => semVal (dCell c (f n)) 0 := by
  refine (with_persistent (R := recs m ρ) (Φ := fun n => atPos ER (dCell c (f n)) (0 + 1) ∅ 0) (Ψ := fun n => iprop(|={Set.univ}=> semVal (dCell c (f n)) 0)) fun n hn => ?_).trans (bigSep_fupd _ _)
  exact (sep_mono_left (IC_dma m ρ c (h n hn).1 (h n hn).2)).trans (close_one m ρ (dCell c (f n)))
/-- All a device's cells. -/
theorem close_all (c : Dev nD) : iprop(recs m ρ ∗ posP c (0 + 1))
    ⊢ |={Set.univ}=> iprop(Pipeline.ownSems0 (Ix := Unit) (Name := ℕ) (U := UU) (Lvl := ℕ) (Val := Elt F) (τ := τ) osem c ∗ unscopedSems0 c) := by
  rw [ownSems0_eq, unscopedSems0_eq, dmas_eq fun n => semVal (dCell c n) 0, by_sk fun n => (semVal (dCell c (8 + n)) 0 : sProp 𝕄), by_rk fun n => (semVal (dCell c (50 + n)) 0 : sProp 𝕄)]
  unfold posP
  iintro ⟨#HI, HB, H1, H2, H3, H4⟩
  ihave #HIb := (IC_bar m ρ c) $$ HI
  imod (close_one m ρ (barCell c)) $$ [HB] with HB
  · isplitr; · iexact HIb
    iexact HB
  imod (close_run m ρ c (Finset.Ico 0 3) (fun l => 2 + l) (fun n hn => by have := Finset.mem_Ico.mp hn; omega)) $$ [H1] with H1
  · isplitr; · iexact HI
    iexact H1
  imod (close_run m ρ c (Finset.Ico 0 3) (fun l => 5 + l) (fun n hn => by have := Finset.mem_Ico.mp hn; omega)) $$ [H2] with H2
  · isplitr; · iexact HI
    iexact H2
  imod (close_run m ρ c (Finset.Ico 0 42) (fun n => 8 + sk n) (fun n hn => by have := sk_lt (Finset.mem_Ico.mp hn).2; omega)) $$ [H3] with H3
  · isplitr; · iexact HI
    iexact H3
  imod (close_run m ρ c (Finset.Ico 0 42) (fun n => 50 + rk n) (fun n hn => by have := rk_lt (Finset.mem_Ico.mp hn).2; omega)) $$ [H4] with H4
  · isplitr; · iexact HI
    iexact H4
  imodintro
  isplitr [HB]
  · isplitl [H1]; · iexact H1
    isplitl [H2]; · iexact H2
    isplitl [H3] <;> iassumption
  · iexact HB

/-! ## What the body starts from and ends with -/

/-- The weights' arrays, whole and as they were. -/
def srcs (c : Dev nD) : sProp 𝕄 := iprop((bigSep (Finset.Ico 0 3) fun l => srcI m c l) ∗ bigSep (Finset.Ico 0 3) fun l => srcO m c l)
/-- The arguments the region does not stage are the six weights. -/
theorem srcs_eq (c : Dev nD) : srcs m c = (Pipeline.unscopedRest (Ix := Unit) (Name := ℕ) (U := UU) (Lvl := ℕ) spec0 c fun b => m ((c : Thread nD τ).loc b)) := by
  rw [unscopedRest0_eq]
  unfold srcs
  rw [peel_eq (show 0 < 3 by decide), peel_eq (show 0 + 1 < 3 by decide), peel_eq (show 0 + 1 + 1 < 3 by decide), ico_nil (show 3 ≤ 0 + 1 + 1 + 1 by decide),
    peel_eq (show 0 < 3 by decide), peel_eq (show 0 + 1 < 3 by decide), peel_eq (show 0 + 1 + 1 < 3 by decide), ico_nil (show 3 ≤ 0 + 1 + 1 + 1 by decide)]
  have e : ∀ A B C D E G : sProp 𝕄, iprop((A ∗ B ∗ C ∗ emp) ∗ D ∗ E ∗ G ∗ emp) = iprop(A ∗ B ∗ C ∗ D ∗ E ∗ G) := by
    intro A B C D E G
    have h1 : iprop((A ∗ B ∗ C ∗ emp) ∗ D ∗ E ∗ G ∗ emp) ⊢ iprop(A ∗ B ∗ C ∗ D ∗ E ∗ G) := by
      iintro ⟨⟨H1, H2, H3, -⟩, H4, H5, H6, -⟩
      iframe H1 H2 H3 H4 H5 H6
    have h2 : iprop(A ∗ B ∗ C ∗ D ∗ E ∗ G) ⊢ iprop((A ∗ B ∗ C ∗ emp) ∗ D ∗ E ∗ G ∗ emp) := by
      iintro ⟨H1, H2, H3, H4, H5, H6⟩
      iframe H1 H2 H3 H4 H5 H6
    exact equiv_iff.mp ⟨h1, h2⟩
  exact e _ _ _ _ _ _

/-- What a device's body starts from, its scratch buffers apart. -/
def start (c : Dev nD) : sProp 𝕄 :=
  iprop(G' m ρ c ∗ levAts L lv ∗ (cred (tallyAt (barCell c) () 7) ∗ bigSep (Finset.Ico 0 42) fun n => cred (tallyAt (dCell c (50 + rk n)) () Nb)) ∗ srcs m c)
/-- What a device holds before the body. -/
def Φ₀ (c : Dev nD) : sProp 𝕄 := iprop(start m ρ c ∗ Pipeline.scopedRest (Ix := Unit) (Name := ℕ) (U := UU) (Lvl := ℕ) (Val := Elt F) spec0 c)
/-- What it ends with: the scratch buffers, its semaphores at zero, the weights. -/
def Φ₁ (c : Dev nD) : sProp 𝕄 :=
  iprop(Pipeline.scopedRest (Ix := Unit) (Name := ℕ) (U := UU) (Lvl := ℕ) (Val := Elt F) spec0 c
    ∗ (Pipeline.ownSems0 (Ix := Unit) (Name := ℕ) (U := UU) (Lvl := ℕ) (Val := Elt F) (τ := τ) osem c ∗ unscopedSems0 c) ∗ srcs m c)

/-- The state the body starts in. -/
theorem st_intro (c : Dev nD) : iprop(Φ₀ m ρ c ∗ owesC (F := F) c 0 ∗ xC m ρ c ∗ outC m ρ c false) ⊢ St m ρ c 0 false 0 0 0 0 0 0 0 0 0 0 0 0 0 false := by
  unfold Φ₀ start G' posP payToks srcs
  rw [scopedRest0_eq]
  iintro ⟨⟨⟨⟨HI, ⟨HaB, HaI, HaO, HaS, HaR⟩, HtB, HtI, HtO, HtC⟩, HL, ⟨HcB, HcR⟩, HsI, HsO⟩, Hb0, Hb1, Hb2, Hb3, Hb4, Hb5, Hb6⟩, HO, HX, HY⟩
  ihave Hpart := (split_part m ρ c) $$ Hb0
  ihave Hrecv := (split_recv m ρ c) $$ [Hb1 Hb2]
  · isplitl [Hb1] <;> iassumption
  icases Hrecv with ⟨Hbar, Hag⟩
  ihave Hwi := (split_wi m c) $$ [Hb3 Hb5 HtI HsI HaI]
  · iframe Hb3 Hb5 HtI HsI HaI
  ihave Hwo := (split_wo m c) $$ [Hb4 Hb6 HtO HsO HaO]
  · iframe Hb4 Hb6 HtO HsO HaO
  ihave Hsig := (show iprop((bigSep (Finset.Ico 0 7) fun i => dutyTok ER (barCell (nx c i)) 0 i) ∗ bigSep (Finset.Ico 0 7) fun i => barPay (F := F) (nx c i) i) ⊢ sigC (F := F) c 0 from by
    unfold sigC; rw [← bigSep_sep']) $$ [HtB Hbar]
  · isplitl [HtB] <;> iassumption
  ihave Hbc := (idE (barC (F := F) c false)) $$ [HcB HaB]
  · unfold barC; isplitl [HcB] <;> iassumption
  ihave Hrc := (show iprop((bigSep (Finset.Ico 0 42) fun n => cred (tallyAt (dCell c (50 + rk n)) () Nb)) ∗ bigSep (Finset.Ico 0 42) fun n => atPos ER (dCell c (50 + rk n)) 0 ∅ 0) ⊢ rcvC m ρ c 0 from by
    unfold rcvC
    rw [ico_nil (show 0 ≤ 0 by decide), bigSep_sep']
    iintro ⟨H1, H2⟩
    iframe H1 H2) $$ [HcR HaR]
  · isplitl [HcR] <;> iassumption
  ihave Hsa := (show (bigSep (Finset.Ico 0 42) fun n => atPos ER (dCell c (8 + sk n)) 0 ∅ 0) ⊢ satC (F := F) c 0 from by
    unfold satC
    rw [ico_nil (show 0 ≤ 0 by decide)]
    iintro H1
    iframe H1) $$ HaS
  unfold St
  isplitl [HI]; · iexact HI
  isplitl [HL]; · iexact HL
  isplitl [HO]; · iexact HO
  isplitl [Hsig]; · iexact Hsig
  isplitl [Hbc]; · iexact Hbc
  isplitr; · (unfold dstC; rw [if_neg (by decide)]; iempintro)
  isplitl [HtC]; · iexact HtC
  isplitr; · (unfold crdC; rw [ico_nil (show 0 ≤ 0 by decide)]; iempintro)
  isplitl [Hsa]; · iexact Hsa
  isplitr; · (unfold srdC; rw [ico_nil (show 0 ≤ 0 by decide)]; iempintro)
  isplitr; · (unfold retC; rw [ico_nil (show 0 ≤ 0 by decide)]; iempintro)
  isplitl [Hrc]; · iexact Hrc
  isplitl [Hpart]; · iexact Hpart
  isplitl [Hag]; · iexact Hag
  isplitl [Hwi]; · iexact Hwi
  isplitl [Hwo]; · iexact Hwo
  isplitl [HX] <;> iassumption

/-- What its last state makes. -/
theorem st_elim (c : Dev nD) : St m ρ c 7 true 42 42 42 42 24 3 3 3 3 3 3 3 3 true
    ⊢ |={Set.univ}=> iprop(Φ₁ m c ∗ owesC (F := F) c 49 ∗ xC m ρ c ∗ outC m ρ c true) := by
  unfold St Φ₁ srcs
  rw [scopedRest0_eq]
  iintro ⟨HI, -, HO, -, HB, -, -, -, Hsa, -, Hret, Hrc, Hpart, Hag, Hwi, Hwo, HX, HY⟩
  ihave Hrc := (show rcvC m ρ c 42 ⊢ iprop((bigSep (Finset.Ico 0 42) fun n => atPos ER (dCell c (50 + rk n)) (0 + 1) ∅ 0) ∗ bigSep (Finset.Ico 0 42) fun n => recvPay m ρ c (rk n)) from by
    unfold rcvC
    rw [bigSep_sep' (Finset.Ico 0 42)]
    iintro ⟨-, H⟩
    iexact H) $$ Hrc
  icases Hrc with ⟨HaR, Hrp⟩
  ihave HaS := (show satC (F := F) c 42 ⊢ bigSep (Finset.Ico 0 42) fun n => atPos ER (dCell c (8 + sk n)) (0 + 1) ∅ 0 from by
    unfold satC
    iintro ⟨-, H⟩
    iexact H) $$ Hsa
  ihave Hb := (join_blocks m ρ c) $$ [Hpart Hag Hret Hrp]
  · iframe Hpart Hag Hret Hrp
  icases Hb with ⟨Hb0, Hb1, Hb2⟩
  ihave Hwi := (join_wi m c) $$ Hwi
  icases Hwi with ⟨Hb3, Hb5, HsI, HaI⟩
  ihave Hwo := (join_wo m c) $$ Hwo
  icases Hwo with ⟨Hb4, Hb6, HsO, HaO⟩
  imod (close_all m ρ c) $$ [HI HB HaR HaS HaI HaO] with Hz
  · isplitl [HI]; · iexact HI
    unfold posP barC
    iframe HB HaI HaO HaS HaR
  imodintro
  isplitr [HO HX HY]
  · isplitl [Hb0 Hb1 Hb2 Hb3 Hb4 Hb5 Hb6]
    · isplitl [Hb0]; · iexact Hb0
      isplitl [Hb1]; · iexact Hb1
      isplitl [Hb2]; · iexact Hb2
      isplitl [Hb3]; · iexact Hb3
      isplitl [Hb4]; · iexact Hb4
      isplitl [Hb5] <;> iassumption
    isplitl [Hz]; · iexact Hz
    isplitl [HsI] <;> iassumption
  isplitl [HO]; · iexact HO
  isplitl [HX] <;> iassumption

/-! ## The pipeline's data -/

/-- The region's data: the arrays at launch, what the body leaves in each staging buffer, and what it keeps beside them. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-- The input is fetched at the one grid point. -/
theorem fetch_0 (t : Fin cfg0.N) : (cfg0.win (0 : Fin 2)).fetch t = true := by rw [show t = t0_0 from fin_N0 t]; rfl

/-- Owning a whole buffer with known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the body must leave. -/
def bodyPost (c : Dev nD) : sProp 𝕄 :=
  iprop(Φ₁ m c ∗ (dats m ρ 0 c).owesAt () t0_0.succ ∗ stg c cc0_stg0_0 (xstg m ρ c) ∗ stg c cc0_stg1_0 (outAt m ρ c))

/-- What the body is given is the walk's first state. -/
theorem pre_st (c : Dev nD) : bodyPre m ρ c ⊢ St m ρ c 0 false 0 0 0 0 0 0 0 0 0 0 0 0 0 false := by
  unfold bodyPre Dat.owesAt Pipeline.owesWithin
  iintro ⟨HΦ, ⟨%W, %hW, HO⟩, ⟨%d, %f, %hf, HX⟩, ⟨%d', %f', %hf', HY⟩⟩
  have e : (dats m ρ 0 c).before (0 : Fin 2) t0_0 d = xstg m ρ c := if_pos (fetch_0 t0_0)
  iapply (st_intro m ρ c)
  isplitl [HΦ]; · iexact HΦ
  isplitl [HO]
  · unfold owesC; iexists W; iexact HO
  isplitl [HX]
  · unfold xC; rw [← e, ← hf]; iexact HX
  unfold outC; iexists f'; iexact HY

/-- The walk's last state leaves what the body must. -/
theorem st_post (c : Dev nD) : St m ρ c 7 true 42 42 42 42 24 3 3 3 3 3 3 3 3 true ⊢ |={Set.univ}=> bodyPost m ρ c := by
  unfold bodyPost Dat.owesAt Pipeline.owesWithin
  iintro H
  imod (st_elim m ρ c) $$ H with ⟨HΦ, HO, HX, HY⟩
  unfold owesC xC outC
  icases HO with ⟨%W, HO⟩
  rw [show (dats m ρ 0 c).owed t0_0.succ = 0 from rfl, Oat_end c]
  imodintro
  isplitl [HΦ]; · iexact HΦ
  isplitl [HO]
  · iexists W
    isplitr; · ipureintro; exact fun _ _ => Or.inl trivial
    iexact HO
  isplitl [HX]
  · iexists _; isplitr; · (ipureintro; rfl)
    iexact HX
  iexists _; isplitr; · (ipureintro; rfl)
  iexact HY

/-- An update at the end of a run is taken. -/
theorem wp_upd (c : Dev nD) (p : Prog (TpuEff nD τ sig (Elt F) Λ₀ .tc) PUnit) (P : sProp 𝕄) : WP c p (fun _ => iprop(|={Set.univ}=> P)) ⊢ WP c p fun _ => P :=
  wp_fupd (Fr := frame) (wpE (defs₀ (F := F)) 𝒱₀ c none) Set.univ p (fun _ => P)

/-- The one slot's staging buffers. -/
theorem stage_in : win0_0.stage (cfg0.slots t0_0 0) = mX := rfl
/-- The result's staging buffer. -/
theorem stage_out : win0_1.stage (cfg0.slots t0_0 1) = mOut := rfl

/-- The body, at whichever memrefs are the two staging buffers. -/
theorem body_any (c : Dev nD) (A B : Memref sig .tc .vmem S64x512 .f32) (hA : A.IsWhole) (hB : B.IsWhole) (eA : A = mX) (eB : B = mOut) :
    bodyPre m ρ c ⊢ WP c (cc0_body A hA (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) B hB (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9) (fun _ => bodyPost m ρ c) := by
  subst eA eB
  refine (pre_st m ρ c).trans (BIBase.Entails.trans (body_run (Q := fun _ => iprop(|={Set.univ}=> bodyPost m ρ c)) (st_post m ρ c)) ?_)
  exact wp_upd c _ _

/-- The pipeline's one visit runs the body at its two staging buffers. -/
theorem pipe_body : defs₀ (F := F) Proc.tc 0 (t0_0, cfg0.slots t0_0) = cc0_body (stage0_0 0) (hstage0_0 0) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (stage0_1 0) (hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 := by
  unfold defs₀
  dsimp only [Defs.onTc]

/-- The body's obligation to the pipeline. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  rw [pipe_body]
  have h1 := body_any m ρ c (stage0_0 0) (stage0_1 0) (hstage0_0 0) (hstage0_1 0) rfl rfl
  unfold WP bodyPre bodyPost at h1
  have e0 : (dats m ρ 0 c).Φ t0_0.castSucc = Φ₀ m ρ c := rfl
  have e1 : (dats m ρ 0 c).Φ t0_0.succ = Φ₁ m c := rfl
  have e2 : (dats m ρ 0 c).after 0 t0_0 = xstg m ρ c := rfl
  have e3 : (dats m ρ 0 c).after 1 t0_0 = outAt m ρ c := rfl
  rw [e0, e1, e2, e3]
  exact h1

/-! ## The launch -/

/-- A device's part of the launch is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none]
  rw [← srcs_eq m c]
  iintro ⟨Hs, HL, Hcr, -, HG⟩
  ihave Hc := (creds (F := F) c) $$ Hcr
  imodintro
  unfold start
  isplitl
  · isplitl [HG]; · iexact HG
    isplitl [HL]; · iexact HL
    isplitl [Hc] <;> iassumption
  · iempintro

/-- What it starts with, and the region's scratch, is what the body is given. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

/-- What the body leaves gives back the arguments, the semaphores at zero and the scratch. -/
theorem phi1_exit (c : Dev nD) :
    (dats m ρ 0 c).Φ (Fin.last cfg0.N) ⊢ iprop((unscopedSems0 c ∗ srcs m c) ∗ Pipeline.ownSems0 osem c ∗ Pipeline.scopedRest cfg0.spec c) := by
  rw [show (dats m ρ 0 c).Φ (Fin.last cfg0.N) = Φ₁ m c from rfl]
  unfold Φ₁
  iintro ⟨Hr, ⟨Ho, Hu⟩, Hs⟩
  isplitl [Hu Hs]
  · isplitl [Hu] <;> iassumption
  isplitl [Ho] <;> iassumption

/-- The pipeline's own cells are at the lowest level. -/
theorem stage_lv (c : Dev nD) (w : Fin cfg0.W) (s : Fin (cfg0.win w).nbuf) : lv ((c : Thread nD τ), SemLoc.dma ((cfg0.win w).sem s)) () ≤ 0 := by
  fin_cases w <;> fin_cases s <;> revert c <;> decide
/-- The pipeline's own waits are below everything a device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 (stage_lv c w s) (fun i _ _ => by split <;> omega)
    · rw [show (dats m ρ 0 c).owed ⟨_ + 1, ht⟩ = 0 from rfl, MayWait_zero]; iintro -; iempintro

/-- The arrays the pipeline does not move: the weights. -/
def others : Finset (Ref sig .tc) := (Finset.univ.filter fun b : Ref sig .tc => ¬ b.isScoped) \ Finset.univ.image (Pipeline.arrRef spec0)
/-- They are still what they were. -/
theorem srcs_read (c : Dev nD) (s' : _) : iprop(srcs m c ∗ SI s')
    ⊢ (iprop(⌜∀ b ∈ others, s'.mem.mem ((c : Thread nD τ).loc b) = m ((c : Thread nD τ).loc b)⌝ ∗ SI s') : sProp 𝕄) := by
  rw [srcs_eq]
  unfold Pipeline.unscopedRest
  exact pointsTo_read_all others (fun b => (c : Thread nD τ).loc b) (fun b => m ((c : Thread nD τ).loc b)) s'

/-- What is claimed of each run: the result at `outAt`, the arguments unchanged. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ ∀ b ∈ others, r.2.mem ((c : Thread nD τ).loc b) = m ((c : Thread nD τ).loc b)

/-- Every fair execution ends, with the arrays at what the body leaves, the weights as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ srcs m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ others, s.mem ((c : Thread nD τ).loc b) = m ((c : Thread nD τ).loc b))
    (hY := fun c s' => by
      iintro ⟨⟨Hu, Hs⟩, -, HSI⟩
      ihave H := (srcs_read m c s') $$ [Hs HSI]
      · isplitl [Hs] <;> iassumption
      icases H with ⟨%hr, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hr⟩
      iexact HSI)
    (hQ := fun _ h hs => ⟨fun c => ⟨fun w => (h c).1 w, (h c).2.2.2⟩, sem_eq_zero hs fun c => (h c).2.2.1⟩)

end Cert.KernelIdealProof

end
-- ==== Proof.Result.lean ====
module

public import proofs.«01_k».proof.Proof.Values
public import proofs.«01_k».proof.Proof.Layer
public import proofs.«01_k».proof.Proof.Run

/-! # What the runs leave, and that it agrees

The run read at the arrays the claims name; the three layers of the reference; each device's result
as its block of the reference's. -/

@[expose] public section

noncomputable section

namespace Cert.KernelIdealProof

open Cert.KernelIdeal Cert.KernelIdeal.Gen

open Idealize.ShloMosaic
open Idealize.ShloMosaic.TcCoe
open Idealize.SL.Sem
open Idealize.ShloMosaic.ValueIdx (ix2 ix3 eq_ix2 ix0)
open scoped BigOperators

section Read

variable {F : FTy → Type} [FloatOps F]
variable (m : (ℓ : Loc nD τ sig) → Buf (Elt F) ℓ) (ρ : Dev nD → PrngReg)

/-- The staged input block is the whole array. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  unfold xstg s₀
  exact Memref.read_access_unit_zero (Elt F) main_arg0 hz (fun a => by fin_cases a <;> decide) _
/-- The result array ends holding what the body leaves in its staging buffer. -/
theorem out_eq (c : Dev nD) : (dats m ρ 0 c).arrAt (1 : Fin 2) cfg0.N = outAt m ρ c := by
  have hz : (fun a => (win0_1.index (0 : Fin 1)) a * main_v1.ty.shape.size a) = fun _ => 0 := funext fun a => by fin_cases a <;> decide
  have h : (win0_1.blk (0 : Fin 1)).view.read (Elt F) ((dats m ρ 0 c).arrAt (1 : Fin 2) cfg0.N) = outAt m ρ c := by
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 hz (fun a => by fin_cases a <;> decide) _).symm.trans h

/-- The arguments of a device are what they were. -/
def Kept (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

/-- Every fair execution ends with each device's result at `outAt`, its arguments kept and every counter at zero. -/
theorem run_read : θ_run defs (onTc (τ := τ) (main (F := F))) ⟨m, fun _ => 0, ρ⟩ fun r =>
    (∀ c : Dev nD, r.2.mem ((c : Thread nD τ).loc main_v1) = outAt m ρ c ∧ Kept m r.2 c) ∧ r.2.sem = fun _ => 0 :=
  (θ_run defs _ _).mono (fun r h => ⟨fun c => ⟨((h.1 c).1 (1 : Fin 2)).trans (out_eq m ρ c),
      ((h.1 c).1 (0 : Fin 2)).trans ((dats m ρ 0 c).arrAt_in (0 : Fin 2) rfl _),
      (h.1 c).2 main_arg1 (by decide), (h.1 c).2 main_arg2 (by decide), (h.1 c).2 main_arg3 (by decide),
      (h.1 c).2 main_arg4 (by decide), (h.1 c).2 main_arg5 (by decide), (h.1 c).2 main_arg6 (by decide)⟩, h.2⟩)
    (run_main m ρ)

end Read

/-! ## The reference -/

/-- A layer of the reference. -/
def refLayer (x : FVec Ideal Cert.ReferenceIdeal.S64x4096 .f32) (Wi : FVec Ideal Cert.ReferenceIdeal.S4096x1024 .f32) (Wo : FVec Ideal Cert.ReferenceIdeal.S1024x4096 .f32) :
    FVec Ideal Cert.ReferenceIdeal.S64x4096 .f32 :=
  Host.dotGeneral Cert.ReferenceIdeal.dot_S64x1024_S1024x4096_S64x4096_1_0_0_1_n_n none
    (maximumf (Host.dotGeneral Cert.ReferenceIdeal.dot_S64x4096_S4096x1024_S64x1024_1_0_0_1_n_n none x Wi)
      (broadcastInDim Cert.ReferenceIdeal.S64x1024 ![] Cert.ReferenceIdeal.Gen.facts.bcast_S_S64x1024 (constant Cert.ReferenceIdeal.S_ .f32 0x00000000#32))) Wo

/-- It is the layer's sums, at an index. -/
theorem refLayer_apply (x : FVec Ideal Cert.ReferenceIdeal.S64x4096 .f32) (Wi : FVec Ideal Cert.ReferenceIdeal.S4096x1024 .f32) (Wo : FVec Ideal Cert.ReferenceIdeal.S1024x4096 .f32)
    (i : Fin 64) (J : Fin 4096) :
    refLayer x Wi Wo (ix2 i J) = lay (fun i D => x (ix2 i D)) (fun D K => Wi (ix2 D K)) (fun K J => Wo (ix2 K J)) i J := by
  unfold refLayer
  refine (StackMember.dotGeneral_plain_apply (m := 64) (k := 1024) (n := 4096) none _ Wo i J).trans ?_
  unfold lay
  refine Finset.sum_congr rfl fun K _ => ?_
  congr 1
  show max (Host.dotGeneral (DotDims.plain 64 4096 1024) none x Wi (ix2 i K)) (Ideal.ofBits .f32 0x00000000#32) = _
  rw [Ideal.ofBits_zero_f32, StackMember.dotGeneral_plain_apply]

/-! ## The blocks -/

/-- A block of columns, at an index. -/
theorem cols_apply {α : Type} {r n k : ℕ} (h : Layout.Tiles ⟨2, ![r, n]⟩ ⟨2, ![r, k * n]⟩ 1 k) (c : Fin k) (v : (⟨2, ![r, k * n]⟩ : Shape).Idx → α) (i : Fin r) (d : Fin n) :
    Layout.block ⟨2, ![r, n]⟩ ⟨2, ![r, k * n]⟩ 1 k c v h (ix2 i d) = v (ix2 i (at_ c d)) := by
  rw [Layout.block_apply]
  congr 1
  funext a
  apply Fin.ext
  fin_cases a
  · exact (Layout.idx_cols_val h c (ix2 i d)).1
  · refine (Layout.idx_cols_val h c (ix2 i d)).2.trans ?_
    show c.val * n + d.val = d.val + n * c.val
    rw [Nat.mul_comm, Nat.add_comm]
/-- A block of rows, at an index. -/
theorem rows_apply {α : Type} {r n k : ℕ} (h : Layout.Tiles ⟨2, ![n, r]⟩ ⟨2, ![k * n, r]⟩ 0 k) (c : Fin k) (v : (⟨2, ![k * n, r]⟩ : Shape).Idx → α) (i : Fin r) (d : Fin n) :
    Layout.block ⟨2, ![n, r]⟩ ⟨2, ![k * n, r]⟩ 0 k c v h (ix2 d i) = v (ix2 (at_ c d) i) := by
  rw [Layout.block_apply]
  congr 1
  funext a
  apply Fin.ext
  fin_cases a
  · refine (Layout.idx_rows_val h c (ix2 d i)).1.trans ?_
    show c.val * n + d.val = d.val + n * c.val
    rw [Nat.mul_comm, Nat.add_comm]
  · exact (Layout.idx_rows_val h c (ix2 d i)).2

variable (m : (ℓ : Loc nD τ sig) → Buf (Elt Ideal) ℓ) (ρ : Dev nD → PrngReg)

/-- If every device's layer input and weights are its blocks of the reference's, so is what it computes. -/
theorem layer_step (l : ℕ) (x : FVec Ideal Cert.ReferenceIdeal.S64x4096 .f32) (Wi : FVec Ideal Cert.ReferenceIdeal.S4096x1024 .f32) (Wo : FVec Ideal Cert.ReferenceIdeal.S1024x4096 .f32)
    (hX : ∀ c i (d : Fin 512), X m ρ l c (ix2 i d) = x (ix2 i (at_ c d)))
    (hI : ∀ c, winSrc m c l = Layout.block ⟨2, ![512, 1024]⟩ ⟨2, ![4096, 1024]⟩ 0 8 c Wi)
    (hO : ∀ c, woutSrc m c l = Layout.block ⟨2, ![1024, 512]⟩ ⟨2, ![1024, 4096]⟩ 1 8 c Wo) (c : Dev nD) (i : Fin 64) (d : Fin 512) :
    X m ρ (l + 1) c (ix2 i d) = refLayer x Wi Wo (ix2 i (at_ c d)) := by
  rw [refLayer_apply]
  exact lay_block m l (X m ρ l) (fun i D => x (ix2 i D)) (fun D K => Wi (ix2 D K)) (fun K J => Wo (ix2 K J)) hX
    (fun c d k => by rw [hI c]; exact rows_apply _ c Wi k d) (fun c k j => by rw [hO c]; exact cols_apply _ c Wo k j) c i d

/-- Each device's result is its block of the columns of the reference's. -/
theorem out_block (x : FVec Ideal Cert.ReferenceIdeal.S64x4096 .f32) (Wi : ℕ → FVec Ideal Cert.ReferenceIdeal.S4096x1024 .f32) (Wo : ℕ → FVec Ideal Cert.ReferenceIdeal.S1024x4096 .f32)
    (hX : ∀ c : Dev nD, m ((c : Thread nD τ).loc main_arg0) = Layout.block ⟨2, ![64, 512]⟩ ⟨2, ![64, 4096]⟩ 1 8 c x)
    (hI : ∀ c l, l < 3 → winSrc m c l = Layout.block ⟨2, ![512, 1024]⟩ ⟨2, ![4096, 1024]⟩ 0 8 c (Wi l))
    (hO : ∀ c l, l < 3 → woutSrc m c l = Layout.block ⟨2, ![1024, 512]⟩ ⟨2, ![1024, 4096]⟩ 1 8 c (Wo l)) (c : Dev nD) :
    outAt m ρ c = Layout.block ⟨2, ![64, 512]⟩ ⟨2, ![64, 4096]⟩ 1 8 c (refLayer (refLayer (refLayer x (Wi 0) (Wo 0)) (Wi 1) (Wo 1)) (Wi 2) (Wo 2)) := by
  have h0 : ∀ c i (d : Fin 512), X m ρ 0 c (ix2 i d) = x (ix2 i (at_ c d)) := fun c i d => by
    show shapeCast S64x512 (xstg m ρ c) shapeCasts_S64x512_S64x512 (ix2 i d) = _
    refine (congrFun (shapeCast_self (s := S64x512) (xstg m ρ c) _) _).trans ?_
    rw [xstg_eq, hX]
    exact cols_apply _ c x i d
  have h1 := layer_step m ρ 0 x (Wi 0) (Wo 0) h0 (fun c => hI c 0 (by decide)) (fun c => hO c 0 (by decide))
  have h2 := layer_step m ρ 1 _ (Wi 1) (Wo 1) h1 (fun c => hI c 1 (by decide)) (fun c => hO c 1 (by decide))
  have h3 := layer_step m ρ 2 _ (Wi 2) (Wo 2) h2 (fun c => hI c 2 (by decide)) (fun c => hO c 2 (by decide))
  funext j
  have e : j = ix2 (j 0) (j 1) := eq_ix2 j
  rw [e]
  exact (h3 c (j 0) (j 1)).trans (cols_apply (r := 64) (n := 512) (k := 8) (by decide) c _ (j 0) (j 1)).symm

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

set_option maxRecDepth 16384

noncomputable section

namespace Cert.Proof

open Idealize.ShloMosaic Idealize.SL.Sem

/-- The two programs name the same body in their tables. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (_, _) => rfl

/-- So they run the same tables. -/
theorem defs_eq : Cert.Kernel.defs (F := Bits) = Cert.KernelIdeal.defs (F := Bits) :=
  congrArg (Pipeline.defs (Cert.KernelIdeal.pcfgs (F := Bits))) table_eq

/-- `Cert.quiescent_Kernel`: the run at the machine's floats, read at the arguments and the counters. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩ fun r =>
      (∀ c : Dev Cert.KernelIdeal.nD, Cert.KernelIdealProof.Kept m r.2 c) ∧ r.2.sem = fun _ => 0 :=
    (θ_run Cert.KernelIdeal.defs _ _).mono (fun _ h => ⟨fun c => (h.1 c).2, h.2⟩)
      (Cert.KernelIdealProof.run_read (F := Bits) m ρ)
  rw [← defs_eq] at h
  exact h

/-- `Cert.quiescent_KernelIdeal`: the same run at the extended reals. -/
theorem frame_kernel_ideal : Cert.quiescent_KernelIdeal := fun m ρ _ =>
  (θ_run Cert.KernelIdeal.defs _ _).mono (fun _ h => ⟨fun c => (h.1 c).2, h.2⟩)
    (Cert.KernelIdealProof.run_read (F := Ideal) m ρ)

/-- `Cert.quiescent_ReferenceIdeal`: the reference's run, its arguments kept; it has no counter to move. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`: every device's result is its block of the columns of the
    reference's three layers. -/
theorem algebraic : Cert.algebraic_KernelIdeal_ReferenceIdeal := by
  intro m ρ m' ρ' _ agree
  refine ⟨_, (θ_run Cert.KernelIdeal.defs _ _).mono (fun r h c => ⟨(h.1 c).1.trans ?_, (h.1 c).2⟩)
    (Cert.KernelIdealProof.run_read (F := Ideal) m ρ),
    (θ_run Cert.ReferenceIdeal.defs _ _).mono (fun _ h => h 0) (Cert.ReferenceIdeal.Value.run (F := Ideal) m' ρ')⟩
  refine Cert.KernelIdealProof.out_block m ρ
    (m' (((0 : Dev Cert.ReferenceIdeal.nD).tc : Thread Cert.ReferenceIdeal.nD Cert.ReferenceIdeal.τ).loc Cert.ReferenceIdeal.main_arg0))
    (fun
      | 0 => m' (((0 : Dev Cert.ReferenceIdeal.nD).tc : Thread Cert.ReferenceIdeal.nD Cert.ReferenceIdeal.τ).loc Cert.ReferenceIdeal.main_arg1)
      | 1 => m' (((0 : Dev Cert.ReferenceIdeal.nD).tc : Thread Cert.ReferenceIdeal.nD Cert.ReferenceIdeal.τ).loc Cert.ReferenceIdeal.main_arg2)
      | _ => m' (((0 : Dev Cert.ReferenceIdeal.nD).tc : Thread Cert.ReferenceIdeal.nD Cert.ReferenceIdeal.τ).loc Cert.ReferenceIdeal.main_arg3))
    (fun
      | 0 => m' (((0 : Dev Cert.ReferenceIdeal.nD).tc : Thread Cert.ReferenceIdeal.nD Cert.ReferenceIdeal.τ).loc Cert.ReferenceIdeal.main_arg4)
      | 1 => m' (((0 : Dev Cert.ReferenceIdeal.nD).tc : Thread Cert.ReferenceIdeal.nD Cert.ReferenceIdeal.τ).loc Cert.ReferenceIdeal.main_arg5)
      | _ => m' (((0 : Dev Cert.ReferenceIdeal.nD).tc : Thread Cert.ReferenceIdeal.nD Cert.ReferenceIdeal.τ).loc Cert.ReferenceIdeal.main_arg6))
    (fun c => (agree c).1) (fun c l hl => ?_) (fun c l hl => ?_) c
  · obtain ⟨_, h1, h2, h3, _⟩ := agree c
    match l, hl with
    | 0, _ => exact h1
    | 1, _ => exact h2
    | 2, _ => exact h3
  · obtain ⟨_, _, _, _, h4, h5, h6⟩ := agree c
    match l, hl with
    | 0, _ => exact h4
    | 1, _ => exact h5
    | 2, _ => exact h6

/-- All five claims. -/
theorem claim : Cert.Claim :=
  ⟨Cert.Kernel.Gen.facts, Cert.KernelIdeal.Gen.facts, Cert.ReferenceIdeal.Gen.facts,
    frame_kernel, frame_kernel_ideal, frame_reference, trivial, algebraic⟩

end Cert.Proof

end
